-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_real [hPre_all_real : Cert.Pre_all_real.Facts] (m : (ℓ : Loc Cert.KernelIdeal.nD Cert.KernelIdeal.τ Cert.KernelIdeal.sig) → Buf (Elt Ideal) ℓ) : Prop :=
  ∀ c : Dev Cert.KernelIdeal.nD,
    (Cert.Pre_all_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_real [hPre_all_real : Cert.Pre_all_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_real2 [hPre_all_real2 : Cert.Pre_all_real2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_real2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_real2 [hPre_all_real2 : Cert.Pre_all_real2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_real2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_all_real [hKernelIdeal : Cert.KernelIdeal.Facts] [hPre_all_real : Cert.Pre_all_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_all_real [hReferenceIdeal : Cert.ReferenceIdeal.Facts] [hPre_all_real : Cert.Pre_all_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_all_real2 [hKernel2Ideal : Cert.Kernel2Ideal.Facts] [hPre_all_real2 : Cert.Pre_all_real2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_real2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_all_real2 [hReference2Ideal : Cert.Reference2Ideal.Facts] [hPre_all_real2 : Cert.Pre_all_real2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_real2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def preserves_Kernel_KernelIdeal : Prop :=
  True

def preserves_Kernel2_Kernel2Ideal : Prop :=
  IdealRules.named_const.Statement Cert.Kernel2Ideal.κ "gelu_ka" .f32 0x3D122279#32 ((80338380498831 / 2251799813685248 : ℝ) : EReal)

def algebraic_Kernel2Ideal_Reference2Ideal_pre_all_real2 [hKernel2Ideal : Cert.Kernel2Ideal.Facts] [hReference2Ideal : Cert.Reference2Ideal.Facts] [hPre_all_real2 : Cert.Pre_all_real2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_real2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def algebraic_KernelIdeal_ReferenceIdeal_pre_all_real [hKernelIdeal : Cert.KernelIdeal.Facts] [hReferenceIdeal : Cert.ReferenceIdeal.Facts] [hPre_all_real : Cert.Pre_all_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_all_real : Cert.Pre_all_real.Facts) (hPre_all_real2 : Cert.Pre_all_real2.Facts),
    quiescent_Kernel (hKernel := hKernel)
    ∧ quiescent_KernelIdeal (hKernelIdeal := hKernelIdeal)
    ∧ quiescent_KernelIdeal_pre_all_real (hKernelIdeal := hKernelIdeal) (hPre_all_real := hPre_all_real)
    ∧ quiescent_ReferenceIdeal (hReferenceIdeal := hReferenceIdeal)
    ∧ quiescent_ReferenceIdeal_pre_all_real (hReferenceIdeal := hReferenceIdeal) (hPre_all_real := hPre_all_real)
    ∧ quiescent_Kernel2 (hKernel2 := hKernel2)
    ∧ quiescent_Kernel2Ideal (hKernel2Ideal := hKernel2Ideal)
    ∧ quiescent_Kernel2Ideal_pre_all_real2 (hKernel2Ideal := hKernel2Ideal) (hPre_all_real2 := hPre_all_real2)
    ∧ quiescent_Reference2Ideal (hReference2Ideal := hReference2Ideal)
    ∧ quiescent_Reference2Ideal_pre_all_real2 (hReference2Ideal := hReference2Ideal) (hPre_all_real2 := hPre_all_real2)
    ∧ preserves_Kernel_KernelIdeal
    ∧ preserves_Kernel2_Kernel2Ideal
    ∧ algebraic_Kernel2Ideal_Reference2Ideal_pre_all_real2 (hKernel2Ideal := hKernel2Ideal) (hReference2Ideal := hReference2Ideal) (hPre_all_real2 := hPre_all_real2)
    ∧ algebraic_KernelIdeal_ReferenceIdeal_pre_all_real (hKernelIdeal := hKernelIdeal) (hReferenceIdeal := hReferenceIdeal) (hPre_all_real := hPre_all_real)
-- ==== Pre_all_real.lean ====
abbrev S2x8192x1024 : Shape := ⟨3, ![2, 8192, 1024]⟩
abbrev S2x1024 : Shape := ⟨2, ![2, 1024]⟩
abbrev S1x1024 : Shape := ⟨2, ![1, 1024]⟩
abbrev S1x1024x6144 : Shape := ⟨3, ![1, 1024, 6144]⟩
abbrev S1x6144 : Shape := ⟨2, ![1, 6144]⟩
abbrev S1x4x256x256 : Shape := ⟨4, ![1, 4, 256, 256]⟩
abbrev S1x3x1024 : Shape := ⟨3, ![1, 3, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x6144 : S_.BroadcastsInDim S1x1024x6144 (![] : Fin 0 → Fin S1x1024x6144.rank)
  reducesTo_S1x1024x6144_S_d0_1_2 : S1x1024x6144.ReducesTo [0, 1, 2] S_
  bcast_S_S1x6144 : S_.BroadcastsInDim S1x6144 (![] : Fin 0 → Fin S1x6144.rank)
  reducesTo_S1x6144_S_d0_1 : S1x6144.ReducesTo [0, 1] S_
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x3x1024 : S_.BroadcastsInDim S1x3x1024 (![] : Fin 0 → Fin S1x3x1024.rank)
  reducesTo_S1x3x1024_S_d0_1_2 : S1x3x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part3 {F : FTy → Type} [FloatOps F] (main_arg11 : FVec F S1x1024x1024 .f32) (main_arg12 : FVec F S1x1024x1024 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024x1024 .f32 := Host.absf main_arg11
  let main_cst_20 : FVec F S_ .f32 := constant S_ .f32 0x7F800000#32
  let main_v55 : FVec F S1x1024x1024 .f32 := broadcastInDim S1x1024x1024 ![] bcast_S_S1x1024x1024 main_cst_20
  let main_v56 : IVec S1x1024x1024 1 := cmpf .olt main_v54 main_v55
  let main_c_21 : IVec S_ 1 := constantI S_ 1 1#1
  let main_v57 : IVec S_ 1 := (fun x v => Host.reduce IntOp.andi x v reducesTo_S1x1024x1024_S_d0_1_2 h_S_) main_v56 main_c_21
  let main_v58 : IVec S_ 1 := andi main_v53 main_v57
  let main_v59 : FVec F S1x1024x1024 .f32 := Host.absf main_arg12
  let main_cst_22 : FVec F S_ .f32 := constant S_ .f32 0x7F800000#32
  let main_v60 : FVec F S1x1024x1024 .f32 := broadcastInDim S1x1024x1024 ![] bcast_S_S1x1024x1024 main_cst_22
  let main_v61 : IVec S1x1024x1024 1 := cmpf .olt main_v59 main_v60
  let main_c_23 : IVec S_ 1 := constantI S_ 1 1#1
  let main_v62 : IVec S_ 1 := (fun x v => Host.reduce IntOp.andi x v reducesTo_S1x1024x1024_S_d0_1_2 h_S_) main_v61 main_c_23
  let main_v63 : IVec S_ 1 := andi main_v58 main_v62
  main_v63

def fn_part2 {F : FTy → Type} [FloatOps F] (main_arg7 : FVec F S1x4x256x256 .f32) (main_arg8 : FVec F S1x1024 .f32) (main_arg9 : FVec F S1x3x1024 .f32) (main_arg10 : FVec F S1x1024 .f32) (main_arg11 : FVec F S1x1024x1024 .f32) (main_arg12 : FVec F S1x1024x1024 .f32) (main_v33 : IVec S_ 1) : IVec S_ 1 :=
  let main_v34 : FVec F S1x4x256x256 .f32 := Host.absf main_arg7
  let main_cst_12 : FVec F S_ .f32 := constant S_ .f32 0x7F800000#32
  let main_v35 : FVec F S1x4x256x256 .f32 := broadcastInDim S1x4x256x256 ![] bcast_S_S1x4x256x256 main_cst_12
  let main_v36 : IVec S1x4x256x256 1 := cmpf .olt main_v34 main_v35
  let main_c_13 : IVec S_ 1 := constantI S_ 1 1#1
  let main_v37 : IVec S_ 1 := (fun x v => Host.reduce IntOp.andi x v reducesTo_S1x4x256x256_S_d0_1_2_3 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  let main_v44 : FVec F S1x3x1024 .f32 := Host.absf main_arg9
  let main_cst_16 : FVec F S_ .f32 := constant S_ .f32 0x7F800000#32
  let main_v45 : FVec F S1x3x1024 .f32 := broadcastInDim S1x3x1024 ![] bcast_S_S1x3x1024 main_cst_16
  let main_v46 : IVec S1x3x1024 1 := cmpf .olt main_v44 main_v45
  let main_c_17 : IVec S_ 1 := constantI S_ 1 1#1
  let main_v47 : IVec S_ 1 := (fun x v => Host.reduce IntOp.andi x v reducesTo_S1x3x1024_S_d0_1_2 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_v48 main_v49 main_v50

def fn_part1 {F : FTy → Type} [FloatOps F] (main_arg4 : FVec F S1x1024x6144 .f32) (main_arg5 : FVec F S1x6144 .f32) (main_arg6 : FVec F S1x1024x6144 .f32) (main_arg7 : FVec F S1x4x256x256 .f32) (main_arg8 : FVec F S1x1024 .f32) (main_arg9 : FVec F S1x3x1024 .f32) (main_arg10 : FVec F S1x1024 .f32) (main_arg11 : FVec F S1x1024x1024 .f32) (main_arg12 : FVec F S1x1024x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x6144 .f32 := Host.absf main_arg4
  let main_cst_6 : FVec F S_ .f32 := constant S_ .f32 0x7F800000#32
  let main_v20 : FVec F S1x1024x6144 .f32 := broadcastInDim S1x1024x6144 ![] bcast_S_S1x1024x6144 main_cst_6
  let main_v21 : IVec S1x1024x6144 1 := cmpf .olt main_v19 main_v20
  let main_c_7 : IVec S_ 1 := constantI S_ 1 1#1
  let main_v22 : IVec S_ 1 := (fun x v => Host.reduce IntOp.andi x v reducesTo_S1x1024x6144_S_d0_1_2 h_S_) main_v21 main_c_7
  let main_v23 : IVec S_ 1 := andi main_v18 main_v22
  let main_v24 : FVec F S1x6144 .f32 := Host.absf main_arg5
  let main_cst_8 : FVec F S_ .f32 := constant S_ .f32 0x7F800000#32
  let main_v25 : FVec F S1x6144 .f32 := broadcastInDim S1x6144 ![] bcast_S_S1x6144 main_cst_8
  let main_v26 : IVec S1x6144 1 := cmpf .olt main_v24 main_v25
  let main_c_9 : IVec S_ 1 := constantI S_ 1 1#1
  let main_v27 : IVec S_ 1 := (fun x v => Host.reduce IntOp.andi x v reducesTo_S1x6144_S_d0_1 h_S_) main_v26 main_c_9
  let main_v28 : IVec S_ 1 := andi main_v23 main_v27
  let main_v29 : FVec F S1x1024x6144 .f32 := Host.absf main_arg6
  let main_cst_10 : FVec F S_ .f32 := constant S_ .f32 0x7F800000#32
  let main_v30 : FVec F S1x1024x6144 .f32 := broadcastInDim S1x1024x6144 ![] bcast_S_S1x1024x6144 main_cst_10
  let main_v31 : IVec S1x1024x6144 1 := cmpf .olt main_v29 main_v30
  let main_c_11 : IVec S_ 1 := constantI S_ 1 1#1
  let main_v32 : IVec S_ 1 := (fun x v => Host.reduce IntOp.andi x v reducesTo_S1x1024x6144_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x8192x1024 .f32) (main_arg1 : FVec F S2x1024 .f32) (main_arg2 : FVec F S1x1024 .f32) (main_arg3 : FVec F S1x1024 .f32) (main_arg4 : FVec F S1x1024x6144 .f32) (main_arg5 : FVec F S1x6144 .f32) (main_arg6 : FVec F S1x1024x6144 .f32) (main_arg7 : FVec F S1x4x256x256 .f32) (main_arg8 : FVec F S1x1024 .f32) (main_arg9 : FVec F S1x3x1024 .f32) (main_arg10 : FVec F S1x1024 .f32) (main_arg11 : FVec F S1x1024x1024 .f32) (main_arg12 : FVec F S1x1024x1024 .f32) (main_arg13 : FVec F S1x1024x5632 .f32) (main_arg14 : FVec F S1x2816x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_arg10 main_arg11 main_arg12 main_v13 main_v16
-- ==== Pre_all_real2.lean ====
abbrev S2x8192x1024 : Shape := ⟨3, ![2, 8192, 1024]⟩
abbrev S2x6144 : Shape := ⟨2, ![2, 6144]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S2x6144 : S_.BroadcastsInDim S2x6144 (![] : Fin 0 → Fin S2x6144.rank)
  reducesTo_S2x6144_S_d0_1 : S2x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x3x5632 : S_.BroadcastsInDim S1x3x5632 (![] : Fin 0 → Fin S1x3x5632.rank)
  reducesTo_S1x3x5632_S_d0_1_2 : S1x3x5632.ReducesTo [0, 1, 2] S_
  bcast_S_S1x5632 : S_.BroadcastsInDim S1x5632 (![] : Fin 0 → Fin S1x5632.rank)
  reducesTo_S1x5632_S_d0_1 : S1x5632.ReducesTo [0, 1] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part2 {F : FTy → Type} [FloatOps F] (main_arg7 : FVec F S1x2816x1024 .f32) (main_v33 : IVec S_ 1) : IVec S_ 1 :=
  let main_v34 : FVec F S1x2816x1024 .f32 := Host.absf main_arg7
  let main_cst_12 : FVec F S_ .f32 := constant S_ .f32 0x7F800000#32
  let main_v35 : FVec F S1x2816x1024 .f32 := broadcastInDim S1x2816x1024 ![] bcast_S_S1x2816x1024 main_cst_12
  let main_v36 : IVec S1x2816x1024 1 := cmpf .olt main_v34 main_v35
  let main_c_13 : IVec S_ 1 := constantI S_ 1 1#1
  let main_v37 : IVec S_ 1 := (fun x v => Host.reduce IntOp.andi x v reducesTo_S1x2816x1024_S_d0_1_2 h_S_) main_v36 main_c_13
  let main_v38 : IVec S_ 1 := andi main_v33 main_v37
  main_v38

def fn_part1 {F : FTy → Type} [FloatOps F] (main_arg4 : FVec F S1x1024x5632 .f32) (main_arg5 : FVec F S1x3x5632 .f32) (main_arg6 : FVec F S1x5632 .f32) (main_arg7 : FVec F S1x2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024x5632 .f32 := Host.absf main_arg4
  let main_cst_6 : FVec F S_ .f32 := constant S_ .f32 0x7F800000#32
  let main_v20 : FVec F S1x1024x5632 .f32 := broadcastInDim S1x1024x5632 ![] bcast_S_S1x1024x5632 main_cst_6
  let main_v21 : IVec S1x1024x5632 1 := cmpf .olt main_v19 main_v20
  let main_c_7 : IVec S_ 1 := constantI S_ 1 1#1
  let main_v22 : IVec S_ 1 := (fun x v => Host.reduce IntOp.andi x v reducesTo_S1x1024x5632_S_d0_1_2 h_S_) main_v21 main_c_7
  let main_v23 : IVec S_ 1 := andi main_v18 main_v22
  let main_v24 : FVec F S1x3x5632 .f32 := Host.absf main_arg5
  let main_cst_8 : FVec F S_ .f32 := constant S_ .f32 0x7F800000#32
  let main_v25 : FVec F S1x3x5632 .f32 := broadcastInDim S1x3x5632 ![] bcast_S_S1x3x5632 main_cst_8
  let main_v26 : IVec S1x3x5632 1 := cmpf .olt main_v24 main_v25
  let main_c_9 : IVec S_ 1 := constantI S_ 1 1#1
  let main_v27 : IVec S_ 1 := (fun x v => Host.reduce IntOp.andi x v reducesTo_S1x3x5632_S_d0_1_2 h_S_) main_v26 main_c_9
  let main_v28 : IVec S_ 1 := andi main_v23 main_v27
  let main_v29 : FVec F S1x5632 .f32 := Host.absf main_arg6
  let main_cst_10 : FVec F S_ .f32 := constant S_ .f32 0x7F800000#32
  let main_v30 : FVec F S1x5632 .f32 := broadcastInDim S1x5632 ![] bcast_S_S1x5632 main_cst_10
  let main_v31 : IVec S1x5632 1 := cmpf .olt main_v29 main_v30
  let main_c_11 : IVec S_ 1 := constantI S_ 1 1#1
  let main_v32 : IVec S_ 1 := (fun x v => Host.reduce IntOp.andi x v reducesTo_S1x5632_S_d0_1 h_S_) main_v31 main_c_11
  let main_v33 : IVec S_ 1 := andi main_v28 main_v32
  fn_part2 (F := F) main_arg7 main_v33

def fn {F : FTy → Type} [FloatOps F] (main_arg0 : FVec F S2x8192x1024 .f32) (main_arg1 : FVec F S2x6144 .f32) (main_arg2 : FVec F S1x1024 .f32) (main_arg3 : FVec F S1x1024 .f32) (main_arg4 : FVec F S1x1024x5632 .f32) (main_arg5 : FVec F S1x3x5632 .f32) (main_arg6 : FVec F S1x5632 .f32) (main_arg7 : FVec F S1x2816x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S2x6144 .f32 := Host.absf main_arg1
  let main_cst_0 : FVec F S_ .f32 := constant S_ .f32 0x7F800000#32
  let main_v5 : FVec F S2x6144 .f32 := broadcastInDim S2x6144 ![] bcast_S_S2x6144 main_cst_0
  let main_v6 : IVec S2x6144 1 := cmpf .olt main_v4 main_v5
  let main_c_1 : IVec S_ 1 := constantI S_ 1 1#1
  let main_v7 : IVec S_ 1 := (fun x v => Host.reduce IntOp.andi x v reducesTo_S2x6144_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_v13 main_v16
-- ==== Kernel.lean ====
abbrev S2x8192x1024 : Shape := ⟨3, ![2, 8192, 1024]⟩
abbrev S2x1024 : Shape := ⟨2, ![2, 1024]⟩
abbrev S1x1024 : Shape := ⟨2, ![1, 1024]⟩
abbrev S1x1024x6144 : Shape := ⟨3, ![1, 1024, 6144]⟩
abbrev S1x6144 : Shape := ⟨2, ![1, 6144]⟩
abbrev S1x4x256x256 : Shape := ⟨4, ![1, 4, 256, 256]⟩
abbrev S1x3x1024 : Shape := ⟨3, ![1, 3, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x6144 : Shape := ⟨2, ![1024, 6144]⟩
abbrev S6144 : Shape := ⟨1, ![6144]⟩
abbrev S1024 : Shape := ⟨1, ![1024]⟩
abbrev S4x256x256 : Shape := ⟨3, ![4, 256, 256]⟩
abbrev S1024x1024 : Shape := ⟨2, ![1024, 1024]⟩
abbrev S1024x5632 : Shape := ⟨2, ![1024, 5632]⟩
abbrev S2816x1024 : Shape := ⟨2, ![2816, 1024]⟩
abbrev S2x6144 : Shape := ⟨2, ![2, 6144]⟩
abbrev S1x512x1024 : Shape := ⟨3, ![1, 512, 1024]⟩
abbrev S32x5632 : Shape := ⟨2, ![32, 5632]⟩
abbrev S128x1024 : Shape := ⟨2, ![128, 1024]⟩
abbrev S8x528x128 : Shape := ⟨3, ![8, 528, 128]⟩
abbrev S8x520x128 : Shape := ⟨3, ![8, 520, 128]⟩
abbrev S1024x5120 : Shape := ⟨2, ![1024, 5120]⟩
abbrev S4x1024x512 : Shape := ⟨3, ![4, 1024, 512]⟩
abbrev S4 : Shape := ⟨1, ![4]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S2x512 : Shape := ⟨2, ![2, 512]⟩
abbrev S1x512 : Shape := ⟨2, ![1, 512]⟩
abbrev S1x256x256 : Shape := ⟨3, ![1, 256, 256]⟩
abbrev S256x256 : Shape := ⟨2, ![256, 256]⟩
abbrev S1x256 : Shape := ⟨2, ![1, 256]⟩
abbrev S1024x256 : Shape := ⟨2, ![1024, 256]⟩
abbrev S8x16x128 : Shape := ⟨3, ![8, 16, 128]⟩
abbrev S8x8x128 : Shape := ⟨3, ![8, 8, 128]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S512x128 : Shape := ⟨2, ![512, 128]⟩
abbrev S1x512x128 : Shape := ⟨3, ![1, 512, 128]⟩
abbrev S512x256 : Shape := ⟨2, ![512, 256]⟩
abbrev S1x520x128 : Shape := ⟨3, ![1, 520, 128]⟩
abbrev S520x128 : Shape := ⟨2, ![520, 128]⟩
abbrev S520x256 : Shape := ⟨2, ![520, 256]⟩
abbrev S1x16x128 : Shape := ⟨3, ![1, 16, 128]⟩
abbrev S16x128 : Shape := ⟨2, ![16, 128]⟩
abbrev S1x8x128 : Shape := ⟨3, ![1, 8, 128]⟩
abbrev S8x128 : Shape := ⟨2, ![8, 128]⟩
abbrev S3x1024 : Shape := ⟨2, ![3, 1024]⟩
abbrev S1x256x1024 : Shape := ⟨3, ![1, 256, 1024]⟩

abbrev nBuf : Space → Nat
  | .hbm => 36
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024x6144, .f32⟩
  | .hbm, ⟨5, _⟩ => ⟨S1x6144, .f32⟩
  | .hbm, ⟨6, _⟩ => ⟨S1x1024x6144, .f32⟩
  | .hbm, ⟨7, _⟩ => ⟨S1x4x256x256, .f32⟩
  | .hbm, ⟨8, _⟩ => ⟨S1x1024, .f32⟩
  | .hbm, ⟨9, _⟩ => ⟨S1x3x1024, .f32⟩
  | .hbm, ⟨10, _⟩ => ⟨S1x1024, .f32⟩
  | .hbm, ⟨11, _⟩ => ⟨S1x1024x1024, .f32⟩
  | .hbm, ⟨12, _⟩ => ⟨S1x1024x1024, .f32⟩
  | .hbm, ⟨13, _⟩ => ⟨S1x1024x5632, .f32⟩
  | .hbm, ⟨14, _⟩ => ⟨S1x2816x1024, .f32⟩
  | .hbm, ⟨15, _⟩ => ⟨S1024x6144, .f32⟩
  | .hbm, ⟨16, _⟩ => ⟨S6144, .f32⟩
  | .hbm, ⟨17, _⟩ => ⟨S1024, .f32⟩
  | .hbm, ⟨18, _⟩ => ⟨S1024, .f32⟩
  | .hbm, ⟨19, _⟩ => ⟨S1024x6144, .f32⟩
  | .hbm, ⟨20, _⟩ => ⟨S4x256x256, .f32⟩
  | .hbm, ⟨21, _⟩ => ⟨S1024, .f32⟩
  | .hbm, ⟨22, _⟩ => ⟨S1024, .f32⟩
  | .hbm, ⟨23, _⟩ => ⟨S1024x1024, .f32⟩
  | .hbm, ⟨24, _⟩ => ⟨S1024x1024, .f32⟩
  | .hbm, ⟨25, _⟩ => ⟨S1024x5632, .f32⟩
  | .hbm, ⟨26, _⟩ => ⟨S2816x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x6144, .f32⟩
  | .hbm, ⟨31, _⟩ => ⟨S1x1024, .f32⟩
  | .hbm, ⟨32, _⟩ => ⟨S2x8192x1024, .f32⟩
  | .hbm, ⟨33, _⟩ => ⟨S2x6144, .f32⟩
  | .hbm, ⟨34, _⟩ => ⟨S1024x5632, .bf16⟩
  | .hbm, ⟨35, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1x3x1024, .f32⟩
  | .local _ .vmem, ⟨5, _⟩ => ⟨S1x1024, .f32⟩
  | .local _ .vmem, ⟨6, _⟩ => ⟨S2x1024, .f32⟩
  | .local _ .vmem, ⟨7, _⟩ => ⟨S1x6144, .f32⟩
  | .local _ .vmem, ⟨8, _⟩ => ⟨S4x256x256, .f32⟩
  | .local _ .vmem, ⟨9, _⟩ => ⟨S1x1024, .f32⟩
  | .local _ .vmem, ⟨10, _⟩ => ⟨S32x5632, .f32⟩
  | .local _ .vmem, ⟨11, _⟩ => ⟨S32x5632, .f32⟩
  | .local _ .vmem, ⟨12, _⟩ => ⟨S128x1024, .f32⟩
  | .local _ .vmem, ⟨13, _⟩ => ⟨S128x1024, .f32⟩
  | .local _ .vmem, ⟨14, _⟩ => ⟨S1x512x1024, .f32⟩
  | .local _ .vmem, ⟨15, _⟩ => ⟨S1x512x1024, .f32⟩
  | .local _ .vmem, ⟨16, _⟩ => ⟨S2x6144, .f32⟩
  | .local _ .vmem, ⟨17, _⟩ => ⟨S32x5632, .bf16⟩
  | .local _ .vmem, ⟨18, _⟩ => ⟨S32x5632, .bf16⟩
  | .local _ .vmem, ⟨19, _⟩ => ⟨S128x1024, .bf16⟩
  | .local _ .vmem, ⟨20, _⟩ => ⟨S128x1024, .bf16⟩
  | .local _ .vmem, ⟨21, _⟩ => ⟨S8x528x128, .f32⟩
  | .local _ .vmem, ⟨22, _⟩ => ⟨S8x520x128, .f32⟩
  | .local _ .vmem, ⟨23, _⟩ => ⟨S1024x1024, .bf16⟩
  | .local _ .vmem, ⟨24, _⟩ => ⟨S1024x5120, .bf16⟩
  | .local _ .vmem, ⟨25, _⟩ => ⟨S1024x1024, .bf16⟩
  | .local _ .vmem, ⟨26, _⟩ => ⟨S1024x1024, .bf16⟩
  | .local _ .vmem, ⟨27, _⟩ => ⟨S4x1024x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev main_v17_2 : Ref sig .tc := ⟨.hbm, 34, rfl⟩
abbrev main_v17_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let v368 : Index := Scalar.indexCast arg0
  let c0_332 : Index := 0#32
  ![v368.toNat, 0]
def k0_off2 (i : grid0.Coords) : Fin 2 → Nat :=
  let arg0 : BitVec 32 := BitVec.ofNat 32 (i 0).val
  let v371 : Index := Scalar.indexCast arg0
  let c1024_333 : Index := 1024#32
  ![v371.toNat, 1024]
def k0_off3 (i : grid0.Coords) : Fin 2 → Nat :=
  let arg0 : BitVec 32 := BitVec.ofNat 32 (i 0).val
  let v374 : Index := Scalar.indexCast arg0
  let c2048_334 : Index := 2048#32
  ![v374.toNat, 2048]
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v5 : BitVec 1 := Scalar.xori v2 v_true
  let v6 : BitVec 32 := Scalar.extui v5
  let c0_i32_2 : BitVec 32 := 0#32
  let v7 : BitVec 1 := Scalar.cmpi .ne v6 c0_i32_2
  v7

def k0_off4 (i : grid0.Coords) : Fin 2 → Nat :=
  let arg0 : BitVec 32 := BitVec.ofNat 32 (i 0).val
  let v21 : Index := Scalar.indexCast arg0
  let c0_15 : Index := 0#32
  ![v21.toNat, 0]
def k0_off5 (i : grid0.Coords) : Fin 2 → Nat :=
  let arg0 : BitVec 32 := BitVec.ofNat 32 (i 0).val
  let v24 : Index := Scalar.indexCast arg0
  let c1024 : Index := 1024#32
  ![v24.toNat, 1024]
def k0_off6 (i : grid0.Coords) : Fin 2 → Nat :=
  let arg0 : BitVec 32 := BitVec.ofNat 32 (i 0).val
  let v27 : Index := Scalar.indexCast arg0
  let c2048 : Index := 2048#32
  ![v27.toNat, 2048]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c21_i32 : BitVec 32 := 21#32
  let v2 : BitVec 32 := Scalar.minsi v1 c21_i32
  let c0_i32 : BitVec 32 := 0#32
  let c0_i32_0 : BitVec 32 := 0#32
  ![v2.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S32x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S2x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S32x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S2x8192x1024 : Shape := ⟨3, ![2, 8192, 1024]⟩
abbrev S2x1024 : Shape := ⟨2, ![2, 1024]⟩
abbrev S1x1024 : Shape := ⟨2, ![1, 1024]⟩
abbrev S1x1024x6144 : Shape := ⟨3, ![1, 1024, 6144]⟩
abbrev S1x6144 : Shape := ⟨2, ![1, 6144]⟩
abbrev S1x4x256x256 : Shape := ⟨4, ![1, 4, 256, 256]⟩
abbrev S1x3x1024 : Shape := ⟨3, ![1, 3, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x6144 : Shape := ⟨2, ![1024, 6144]⟩
abbrev S2x6144 : Shape := ⟨2, ![2, 6144]⟩
abbrev S6144 : Shape := ⟨1, ![6144]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6144 : Shape := ⟨3, ![2, 8192, 6144]⟩
abbrev S2x8192x4x256 : Shape := ⟨4, ![2, 8192, 4, 256]⟩
abbrev S2x8193x4x256 : Shape := ⟨4, ![2, 8193, 4, 256]⟩
abbrev S8192 : Shape := ⟨1, ![8192]⟩
abbrev S2x8192x1x256 : Shape := ⟨4, ![2, 8192, 1, 256]⟩
abbrev S2x8192x256 : Shape := ⟨3, ![2, 8192, 256]⟩
abbrev S2x8191x1x256 : Shape := ⟨4, ![2, 8191, 1, 256]⟩
abbrev S2x8191x256 : Shape := ⟨3, ![2, 8191, 256]⟩
abbrev S1x8192x1 : Shape := ⟨3, ![1, 8192, 1]⟩
abbrev S2x8189x1x256 : Shape := ⟨4, ![2, 8189, 1, 256]⟩
abbrev S2x8189x256 : Shape := ⟨3, ![2, 8189, 256]⟩
abbrev S2x8185x1x256 : Shape := ⟨4, ![2, 8185, 1, 256]⟩
abbrev S2x8185x256 : Shape := ⟨3, ![2, 8185, 256]⟩
abbrev S2x8177x1x256 : Shape := ⟨4, ![2, 8177, 1, 256]⟩
abbrev S2x8177x256 : Shape := ⟨3, ![2, 8177, 256]⟩
abbrev S4x256x256 : Shape := ⟨3, ![4, 256, 256]⟩
abbrev S4x256x2x8192 : Shape := ⟨4, ![4, 256, 2, 8192]⟩
abbrev S3x1024 : Shape := ⟨2, ![3, 1024]⟩
abbrev S2x8194x1024 : Shape := ⟨3, ![2, 8194, 1024]⟩
abbrev S1024x1024 : Shape := ⟨2, ![1024, 1024]⟩

abbrev nBuf : Space → Nat
  | .hbm => 219
  | .vmem => 0
  | .smem => 0
  | _ => 0

abbrev hbmTy0_0 (i : Nat) : BufTy := match i % 128 with
  | 0 => ⟨S2x8192x1024, .f32⟩
  | 1 => ⟨S2x1024, .f32⟩
  | 2 => ⟨S1x1024, .f32⟩
  | 3 => ⟨S1x1024, .f32⟩
  | 4 => ⟨S1x1024x6144, .f32⟩
  | 5 => ⟨S1x6144, .f32⟩
  | 6 => ⟨S1x1024x6144, .f32⟩
  | 7 => ⟨S1x4x256x256, .f32⟩
  | 8 => ⟨S1x1024, .f32⟩
  | 9 => ⟨S1x3x1024, .f32⟩
  | 10 => ⟨S1x1024, .f32⟩
  | 11 => ⟨S1x1024x1024, .f32⟩
  | 12 => ⟨S1x1024x1024, .f32⟩
  | 13 => ⟨S1x1024x5632, .f32⟩
  | 14 => ⟨S1x2816x1024, .f32⟩
  | 15 => ⟨S1024x6144, .f32⟩
  | 16 => ⟨S2x6144, .f32⟩
  | 17 => ⟨S6144, .f32⟩
  | 18 => ⟨S1x6144, .f32⟩
  | 19 => ⟨S2x6144, .f32⟩
  | 20 => ⟨S2x6144, .f32⟩
  | 21 => ⟨S2x1024, .f32⟩
  | 22 => ⟨S2x1024, .f32⟩
  | 23 => ⟨S2x1024, .f32⟩
  | 24 => ⟨S2x1024, .f32⟩
  | 25 => ⟨S2x1024, .f32⟩
  | 26 => ⟨S2x1024, .f32⟩
  | 27 => ⟨S2x1x1024, .f32⟩
  | 28 => ⟨S2x1x1024, .f32⟩
  | 29 => ⟨S2x1x1024, .f32⟩
  | 30 => ⟨S2x1x1024, .f32⟩
  | 31 => ⟨S2x1x1024, .f32⟩
  | 32 => ⟨S2x1x1024, .f32⟩
  | 33 => ⟨S1024, .f32⟩
  | 34 => ⟨S2x8192x1024, .f32⟩
  | 35 => ⟨S_, .f32⟩
  | 36 => ⟨S2x8192, .f32⟩
  | 37 => ⟨S2x8192x1, .f32⟩
  | 38 => ⟨S_, .f32⟩
  | 39 => ⟨S2x8192x1, .f32⟩
  | 40 => ⟨S2x8192x1, .f32⟩
  | 41 => ⟨S_, .f32⟩
  | 42 => ⟨S2x8192x1, .f32⟩
  | 43 => ⟨S2x8192x1, .f32⟩
  | 44 => ⟨S2x8192x1, .f32⟩
  | 45 => ⟨S2x8192x1024, .f32⟩
  | 46 => ⟨S2x8192x1024, .f32⟩
  | 47 => ⟨S1x1x1024, .f32⟩
  | 48 => ⟨S2x8192x1024, .f32⟩
  | 49 => ⟨S2x8192x1024, .f32⟩
  | 50 => ⟨S_, .f32⟩
  | 51 => ⟨S2x1x1024, .f32⟩
  | 52 => ⟨S2x1x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S1024x6144, .f32⟩
  | 58 => ⟨S2x8192x6144, .f32⟩
  | 59 => ⟨S2x8192x1024, .f32⟩
  | 60 => ⟨S2x8192x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S2x8192x4x256, .f32⟩
  | 66 => ⟨S_, .f32⟩
  | 67 => ⟨S_, .f32⟩
  | 68 => ⟨S2x8192x4x256, .f32⟩
  | 69 => ⟨S_, .i32⟩
  | 70 => ⟨S_, .f32⟩
  | 71 => ⟨S2x8193x4x256, .f32⟩
  | 72 => ⟨S8192, .f32⟩
  | 73 => ⟨S_, .f32⟩
  | 74 => ⟨S8192, .f32⟩
  | 75 => ⟨S8192, .f32⟩
  | 76 => ⟨S2x8192x1x256, .f32⟩
  | 77 => ⟨S2x8192x256, .f32⟩
  | 78 => ⟨S2x8191x1x256, .f32⟩
  | 79 => ⟨S2x8191x256, .f32⟩
  | 80 => ⟨S_, .i32⟩
  | 81 => ⟨S_, .f32⟩
  | 82 => ⟨S2x8192x256, .f32⟩
  | 83 => ⟨S_, .f32⟩
  | 84 => ⟨S8192, .f32⟩
  | 85 => ⟨S8192, .f32⟩
  | 86 => ⟨S1x8192x1, .f32⟩
  | 87 => ⟨S2x8192x256, .f32⟩
  | 88 => ⟨S2x8192x256, .f32⟩
  | 89 => ⟨S2x8192x256, .f32⟩
  | 90 => ⟨S2x8192x1x256, .f32⟩
  | 91 => ⟨S2x8192x256, .f32⟩
  | 92 => ⟨S2x8189x1x256, .f32⟩
  | 93 => ⟨S2x8189x256, .f32⟩
  | 94 => ⟨S_, .i32⟩
  | 95 => ⟨S_, .f32⟩
  | 96 => ⟨S2x8192x256, .f32⟩
  | 97 => ⟨S_, .f32⟩
  | 98 => ⟨S8192, .f32⟩
  | 99 => ⟨S8192, .f32⟩
  | 100 => ⟨S1x8192x1, .f32⟩
  | 101 => ⟨S2x8192x256, .f32⟩
  | 102 => ⟨S2x8192x256, .f32⟩
  | 103 => ⟨S2x8192x256, .f32⟩
  | 104 => ⟨S2x8192x1x256, .f32⟩
  | 105 => ⟨S2x8192x256, .f32⟩
  | 106 => ⟨S2x8185x1x256, .f32⟩
  | 107 => ⟨S2x8185x256, .f32⟩
  | 108 => ⟨S_, .i32⟩
  | 109 => ⟨S_, .f32⟩
  | 110 => ⟨S2x8192x256, .f32⟩
  | 111 => ⟨S_, .f32⟩
  | 112 => ⟨S8192, .f32⟩
  | 113 => ⟨S8192, .f32⟩
  | 114 => ⟨S1x8192x1, .f32⟩
  | 115 => ⟨S2x8192x256, .f32⟩
  | 116 => ⟨S2x8192x256, .f32⟩
  | 117 => ⟨S2x8192x256, .f32⟩
  | 118 => ⟨S2x8192x1x256, .f32⟩
  | 119 => ⟨S2x8192x256, .f32⟩
  | 120 => ⟨S2x8177x1x256, .f32⟩
  | 121 => ⟨S2x8177x256, .f32⟩
  | 122 => ⟨S_, .i32⟩
  | 123 => ⟨S_, .f32⟩
  | 124 => ⟨S2x8192x256, .f32⟩
  | 125 => ⟨S_, .f32⟩
  | 126 => ⟨S8192, .f32⟩
  | 127 => ⟨S8192, .f32⟩
  | _ => ⟨S2x8192x1024, .f32⟩

abbrev hbmTy0_1 (i : Nat) : BufTy := match i % 128 with
  | 0 => ⟨S1x8192x1, .f32⟩
  | 1 => ⟨S2x8192x256, .f32⟩
  | 2 => ⟨S2x8192x256, .f32⟩
  | 3 => ⟨S2x8192x256, .f32⟩
  | 4 => ⟨S2x8192x1x256, .f32⟩
  | 5 => ⟨S2x8192x1x256, .f32⟩
  | 6 => ⟨S2x8192x1x256, .f32⟩
  | 7 => ⟨S2x8192x1x256, .f32⟩
  | 8 => ⟨S2x8192x4x256, .f32⟩
  | 9 => ⟨S2x8192x4x256, .f32⟩
  | 10 => ⟨S4x256x256, .f32⟩
  | 11 => ⟨S4x256x2x8192, .f32⟩
  | 12 => ⟨S2x8192x4x256, .f32⟩
  | 13 => ⟨S2x8192x1024, .f32⟩
  | 14 => ⟨S1024, .f32⟩
  | 15 => ⟨S1x1x1024, .f32⟩
  | 16 => ⟨S2x8192x1024, .f32⟩
  | 17 => ⟨S2x8192x1024, .f32⟩
  | 18 => ⟨S2x8192x1024, .f32⟩
  | 19 => ⟨S3x1024, .f32⟩
  | 20 => ⟨S1024, .f32⟩
  | 21 => ⟨S_, .i32⟩
  | 22 => ⟨S_, .f32⟩
  | 23 => ⟨S2x8194x1024, .f32⟩
  | 24 => ⟨S1x1024, .f32⟩
  | 25 => ⟨S1024, .f32⟩
  | 26 => ⟨S2x8192x1024, .f32⟩
  | 27 => ⟨S1x1x1024, .f32⟩
  | 28 => ⟨S2x8192x1024, .f32⟩
  | 29 => ⟨S2x8192x1024, .f32⟩
  | 30 => ⟨S1x1x1024, .f32⟩
  | 31 => ⟨S2x8192x1024, .f32⟩
  | 32 => ⟨S2x8192x1024, .f32⟩
  | 33 => ⟨S1x1024, .f32⟩
  | 34 => ⟨S1024, .f32⟩
  | 35 => ⟨S2x8192x1024, .f32⟩
  | 36 => ⟨S1x1x1024, .f32⟩
  | 37 => ⟨S2x8192x1024, .f32⟩
  | 38 => ⟨S2x8192x1024, .f32⟩
  | 39 => ⟨S2x8192x1024, .f32⟩
  | 40 => ⟨S1x1024, .f32⟩
  | 41 => ⟨S1024, .f32⟩
  | 42 => ⟨S2x8192x1024, .f32⟩
  | 43 => ⟨S1x1x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S1024x1024, .f32⟩
  | 49 => ⟨S2x8192x1024, .f32⟩
  | 50 => ⟨S2x8192x1024, .f32⟩
  | 51 => ⟨S2x8192x1024, .f32⟩
  | 52 => ⟨S_, .f32⟩
  | 53 => ⟨S2x8192x1024, .f32⟩
  | 54 => ⟨S2x8192x1024, .f32⟩
  | 55 => ⟨S_, .f32⟩
  | 56 => ⟨S2x8192x1024, .f32⟩
  | 57 => ⟨S2x8192x1024, .f32⟩
  | 58 => ⟨S2x8192x1024, .f32⟩
  | 59 => ⟨S2x8192x1024, .f32⟩
  | 60 => ⟨S2x8192x1024, .f32⟩
  | 61 => ⟨S_, .f32⟩
  | 62 => ⟨S2x8192x1024, .f32⟩
  | 63 => ⟨S2x8192x1024, .f32⟩
  | 64 => ⟨S_, .f32⟩
  | 65 => ⟨S2x8192x1024, .f32⟩
  | 66 => ⟨S2x8192x1024, .f32⟩
  | 67 => ⟨S2x8192x1024, .f32⟩
  | 68 => ⟨S2x8192x1024, .f32⟩
  | 69 => ⟨S1024x1024, .f32⟩
  | 70 => ⟨S2x8192x1024, .f32⟩
  | 71 => ⟨S1024, .f32⟩
  | 72 => ⟨S2x8192x1024, .f32⟩
  | 73 => ⟨S_, .f32⟩
  | 74 => ⟨S2x8192, .f32⟩
  | 75 => ⟨S2x8192x1, .f32⟩
  | 76 => ⟨S_, .f32⟩
  | 77 => ⟨S2x8192x1, .f32⟩
  | 78 => ⟨S2x8192x1, .f32⟩
  | 79 => ⟨S_, .f32⟩
  | 80 => ⟨S2x8192x1, .f32⟩
  | 81 => ⟨S2x8192x1, .f32⟩
  | 82 => ⟨S2x8192x1, .f32⟩
  | 83 => ⟨S2x8192x1024, .f32⟩
  | 84 => ⟨S2x8192x1024, .f32⟩
  | 85 => ⟨S1x1x1024, .f32⟩
  | 86 => ⟨S2x8192x1024, .f32⟩
  | 87 => ⟨S2x8192x1024, .f32⟩
  | 88 => ⟨S2x8192x1024, .f32⟩
  | 89 => ⟨S2x8192x1024, .f32⟩
  | 90 => ⟨S2x8192x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call0_call0_cst : Ref sig .tc := ⟨.hbm, 66, rfl⟩
abbrev main_call0_call0_v0 : Ref sig .tc := ⟨.hbm, 67, rfl⟩
abbrev main_v47 : Ref sig .tc := ⟨.hbm, 68, rfl⟩
abbrev main_c : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_cst_3 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_4 : Ref sig .tc := ⟨.hbm, 80, rfl⟩
abbrev main_call2_v0 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_6 : Ref sig .tc := ⟨.hbm, 94, rfl⟩
abbrev main_call3_v0 : Ref sig .tc := ⟨.hbm, 95, rfl⟩
abbrev main_v67 : Ref sig .tc := ⟨.hbm, 96, rfl⟩
abbrev main_cst_7 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_8 : Ref sig .tc := ⟨.hbm, 108, rfl⟩
abbrev main_call4_v0 : Ref sig .tc := ⟨.hbm, 109, rfl⟩
abbrev main_v78 : Ref sig .tc := ⟨.hbm, 110, rfl⟩
abbrev main_cst_9 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_10 : Ref sig .tc := ⟨.hbm, 122, rfl⟩
abbrev main_call5_v0 : Ref sig .tc := ⟨.hbm, 123, rfl⟩
abbrev main_v89 : Ref sig .tc := ⟨.hbm, 124, rfl⟩
abbrev main_cst_11 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_c_12 : Ref sig .tc := ⟨.hbm, 149, rfl⟩
abbrev main_call6_v0 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_13 : Ref sig .tc := ⟨.hbm, 180, rfl⟩
abbrev main_v142 : Ref sig .tc := ⟨.hbm, 181, rfl⟩
abbrev main_v143 : Ref sig .tc := ⟨.hbm, 182, rfl⟩
abbrev main_cst_14 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_cst_15 : Ref sig .tc := ⟨.hbm, 189, rfl⟩
abbrev main_v149 : Ref sig .tc := ⟨.hbm, 190, rfl⟩
abbrev main_v150 : Ref sig .tc := ⟨.hbm, 191, rfl⟩
abbrev main_cst_16 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_cst_17 : Ref sig .tc := ⟨.hbm, 201, rfl⟩
abbrev main_v159 : Ref sig .tc := ⟨.hbm, 202, rfl⟩
abbrev main_v160 : Ref sig .tc := ⟨.hbm, 203, rfl⟩
abbrev main_cst_18 : Ref sig .tc := ⟨.hbm, 204, rfl⟩
abbrev main_v161 : Ref sig .tc := ⟨.hbm, 205, rfl⟩
abbrev main_v162 : Ref sig .tc := ⟨.hbm, 206, rfl⟩
abbrev main_cst_19 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x6144 : Shape := ⟨2, ![2, 6144]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S5632 : Shape := ⟨1, ![5632]⟩
abbrev S2816x1024 : Shape := ⟨2, ![2816, 1024]⟩
abbrev S1x512x1024 : Shape := ⟨3, ![1, 512, 1024]⟩
abbrev S44x520x128 : Shape := ⟨3, ![44, 520, 128]⟩
abbrev S44x8x128 : Shape := ⟨3, ![44, 8, 128]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S512x128 : Shape := ⟨2, ![512, 128]⟩
abbrev S1x512x128 : Shape := ⟨3, ![1, 512, 128]⟩
abbrev S1x8x128 : Shape := ⟨3, ![1, 8, 128]⟩
abbrev S8x128 : Shape := ⟨2, ![8, 128]⟩
abbrev S1x3x1536 : Shape := ⟨3, ![1, 3, 1536]⟩
abbrev S3x1536 : Shape := ⟨2, ![3, 1536]⟩
abbrev S1x1536 : Shape := ⟨2, ![1, 1536]⟩
abbrev S1536x1024 : Shape := ⟨2, ![1536, 1024]⟩
abbrev S1024x1280 : Shape := ⟨2, ![1024, 1280]⟩
abbrev S512x1280 : Shape := ⟨2, ![512, 1280]⟩
abbrev S1x3x1280 : Shape := ⟨3, ![1, 3, 1280]⟩
abbrev S3x1280 : Shape := ⟨2, ![3, 1280]⟩
abbrev S1x1280 : Shape := ⟨2, ![1, 1280]⟩
abbrev S1280x1024 : Shape := ⟨2, ![1280, 1024]⟩

abbrev nBuf : Space → Nat
  | .hbm => 19
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x5632, .f32⟩
  | .hbm, ⟨7, _⟩ => ⟨S1x2816x1024, .f32⟩
  | .hbm, ⟨8, _⟩ => ⟨S1024, .f32⟩
  | .hbm, ⟨9, _⟩ => ⟨S1024, .f32⟩
  | .hbm, ⟨10, _⟩ => ⟨S1024x5632, .f32⟩
  | .hbm, ⟨11, _⟩ => ⟨S1024x5632, .bf16⟩
  | .hbm, ⟨12, _⟩ => ⟨S5632, .f32⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S1x1024, .f32⟩
  | .hbm, ⟨17, _⟩ => ⟨S1x5632, .f32⟩
  | .hbm, ⟨18, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S2x6144, .f32⟩
  | .local _ .vmem, ⟨3, _⟩ => ⟨S1x1024, .f32⟩
  | .local _ .vmem, ⟨4, _⟩ => ⟨S1x1024, .f32⟩
  | .local _ .vmem, ⟨5, _⟩ => ⟨S1024x5632, .bf16⟩
  | .local _ .vmem, ⟨6, _⟩ => ⟨S1x3x5632, .f32⟩
  | .local _ .vmem, ⟨7, _⟩ => ⟨S1x5632, .f32⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | .local _ .vmem, ⟨11, _⟩ => ⟨S44x520x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let v5 : Index := Scalar.indexCast arg0
  let c3072 : Index := 3072#32
  ![v5.toNat, 3072]
def k0_off2 (i : grid0.Coords) : Fin 2 → Nat :=
  let arg0 : BitVec 32 := BitVec.ofNat 32 (i 0).val
  let v7 : Index := Scalar.indexCast arg0
  let c4096 : Index := 4096#32
  ![v7.toNat, 4096]
def k0_off3 (i : grid0.Coords) : Fin 2 → Nat :=
  let arg0 : BitVec 32 := BitVec.ofNat 32 (i 0).val
  let v9 : Index := Scalar.indexCast arg0
  let c5120 : Index := 5120#32
  ![v9.toNat, 5120]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "gelu_ka" => some ((80338380498831 / 2251799813685248 : ℝ) : EReal)
  | _ => none
-- ==== Reference2Ideal.lean ====
abbrev S2x8192x1024 : Shape := ⟨3, ![2, 8192, 1024]⟩
abbrev S2x6144 : Shape := ⟨2, ![2, 6144]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S3x5632 : Shape := ⟨2, ![3, 5632]⟩
abbrev S5632 : Shape := ⟨1, ![5632]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S2816x1024 : Shape := ⟨2, ![2816, 1024]⟩

abbrev nBuf : Space → Nat
  | .hbm => 116
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x3x5632, .f32⟩
  | .hbm, ⟨6, _⟩ => ⟨S1x5632, .f32⟩
  | .hbm, ⟨7, _⟩ => ⟨S1x2816x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S1024, .f32⟩
  | .hbm, ⟨21, _⟩ => ⟨S2x8192x1024, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S1024x5632, .f32⟩
  | .hbm, ⟨45, _⟩ => ⟨S2x8192x5632, .f32⟩
  | .hbm, ⟨46, _⟩ => ⟨S3x5632, .f32⟩
  | .hbm, ⟨47, _⟩ => ⟨S5632, .f32⟩
  | .hbm, ⟨48, _⟩ => ⟨S_, .i32⟩
  | .hbm, ⟨49, _⟩ => ⟨S_, .f32⟩
  | .hbm, ⟨50, _⟩ => ⟨S2x8194x5632, .f32⟩
  | .hbm, ⟨51, _⟩ => ⟨S1x5632, .f32⟩
  | .hbm, ⟨52, _⟩ => ⟨S5632, .f32⟩
  | .hbm, ⟨53, _⟩ => ⟨S2x8192x5632, .f32⟩
  | .hbm, ⟨54, _⟩ => ⟨S1x1x5632, .f32⟩
  | .hbm, ⟨55, _⟩ => ⟨S2x8192x5632, .f32⟩
  | .hbm, ⟨56, _⟩ => ⟨S2x8192x5632, .f32⟩
  | .hbm, ⟨57, _⟩ => ⟨S1x1x5632, .f32⟩
  | .hbm, ⟨58, _⟩ => ⟨S2x8192x5632, .f32⟩
  | .hbm, ⟨59, _⟩ => ⟨S2x8192x5632, .f32⟩
  | .hbm, ⟨60, _⟩ => ⟨S1x5632, .f32⟩
  | .hbm, ⟨61, _⟩ => ⟨S5632, .f32⟩
  | .hbm, ⟨62, _⟩ => ⟨S2x8192x5632, .f32⟩
  | .hbm, ⟨63, _⟩ => ⟨S1x1x5632, .f32⟩
  | .hbm, ⟨64, _⟩ => ⟨S2x8192x5632, .f32⟩
  | .hbm, ⟨65, _⟩ => ⟨S2x8192x5632, .f32⟩
  | .hbm, ⟨66, _⟩ => ⟨S2x8192x5632, .f32⟩
  | .hbm, ⟨67, _⟩ => ⟨S1x5632, .f32⟩
  | .hbm, ⟨68, _⟩ => ⟨S5632, .f32⟩
  | .hbm, ⟨69, _⟩ => ⟨S2x8192x5632, .f32⟩
  | .hbm, ⟨70, _⟩ => ⟨S1x1x5632, .f32⟩
  | .hbm, ⟨71, _⟩ => ⟨S2x8192x5632, .f32⟩
  | .hbm, ⟨72, _⟩ => ⟨S2x8192x5632, .f32⟩
  | .hbm, ⟨73, _⟩ => ⟨S2x8192x5632, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S_, .f32⟩
  | .hbm, ⟨79, _⟩ => ⟨S2x8192x2816, .f32⟩
  | .hbm, ⟨80, _⟩ => ⟨S2x8192x2816, .f32⟩
  | .hbm, ⟨81, _⟩ => ⟨S2x8192x2816, .f32⟩
  | .hbm, ⟨82, _⟩ => ⟨S_, .f32⟩
  | .hbm, ⟨83, _⟩ => ⟨S2x8192x2816, .f32⟩
  | .hbm, ⟨84, _⟩ => ⟨S2x8192x2816, .f32⟩
  | .hbm, ⟨85, _⟩ => ⟨S2x8192x2816, .f32⟩
  | .hbm, ⟨86, _⟩ => ⟨S_, .f32⟩
  | .hbm, ⟨87, _⟩ => ⟨S2x8192x2816, .f32⟩
  | .hbm, ⟨88, _⟩ => ⟨S2x8192x2816, .f32⟩
  | .hbm, ⟨89, _⟩ => ⟨S_, .f32⟩
  | .hbm, ⟨90, _⟩ => ⟨S2x8192x2816, .f32⟩
  | .hbm, ⟨91, _⟩ => ⟨S2x8192x2816, .f32⟩
  | .hbm, ⟨92, _⟩ => ⟨S2x8192x2816, .f32⟩
  | .hbm, ⟨93, _⟩ => ⟨S2x8192x2816, .f32⟩
  | .hbm, ⟨94, _⟩ => ⟨S2816x1024, .f32⟩
  | .hbm, ⟨95, _⟩ => ⟨S2x8192x1024, .f32⟩
  | .hbm, ⟨96, _⟩ => ⟨S1024, .f32⟩
  | .hbm, ⟨97, _⟩ => ⟨S2x8192x1024, .f32⟩
  | .hbm, ⟨98, _⟩ => ⟨S_, .f32⟩
  | .hbm, ⟨99, _⟩ => ⟨S2x8192, .f32⟩
  | .hbm, ⟨100, _⟩ => ⟨S2x8192x1, .f32⟩
  | .hbm, ⟨101, _⟩ => ⟨S_, .f32⟩
  | .hbm, ⟨102, _⟩ => ⟨S2x8192x1, .f32⟩
  | .hbm, ⟨103, _⟩ => ⟨S2x8192x1, .f32⟩
  | .hbm, ⟨104, _⟩ => ⟨S_, .f32⟩
  | .hbm, ⟨105, _⟩ => ⟨S2x8192x1, .f32⟩
  | .hbm, ⟨106, _⟩ => ⟨S2x8192x1, .f32⟩
  | .hbm, ⟨107, _⟩ => ⟨S2x8192x1, .f32⟩
  | .hbm, ⟨108, _⟩ => ⟨S2x8192x1024, .f32⟩
  | .hbm, ⟨109, _⟩ => ⟨S2x8192x1024, .f32⟩
  | .hbm, ⟨110, _⟩ => ⟨S1x1x1024, .f32⟩
  | .hbm, ⟨111, _⟩ => ⟨S2x8192x1024, .f32⟩
  | .hbm, ⟨112, _⟩ => ⟨S2x8192x1024, .f32⟩
  | .hbm, ⟨113, _⟩ => ⟨S2x8192x1024, .f32⟩
  | .hbm, ⟨114, _⟩ => ⟨S2x8192x1024, .f32⟩
  | .hbm, ⟨115, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_call0_v0 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_5 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_7 : Ref sig .tc := ⟨.hbm, 98, rfl⟩
abbrev main_v80 : Ref sig .tc := ⟨.hbm, 99, rfl⟩
abbrev main_v81 : Ref sig .tc := ⟨.hbm, 100, rfl⟩
abbrev main_cst_8 : Ref sig .tc := ⟨.hbm, 101, rfl⟩
abbrev main_v82 : Ref sig .tc := ⟨.hbm, 102, rfl⟩
abbrev main_v83 : Ref sig .tc := ⟨.hbm, 103, rfl⟩
abbrev main_cst_9 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩

abbrev nD : Nat := 1
abbrev τ : Topo := Topo.v7x

variable {F : FTy → Type} [FloatOps F]
-- ==== Proof.MixKit.lean ====
/- The mixer's launch set-up: the arrays' contents before the call, each window's block at a grid point, the conditions of
   the body's branches over the points, the staging and scratch buffers, and the frame from a run of the pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (Pipeline.UD sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 5 rfl).trans ((hA c 5).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 3 rfl).trans ((hA c 3).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_1 : ∀ t : Fin cfg0.N, cond0_1 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the points from point 1 on — decided over the grid. -/
theorem hcond0_2 : ∀ t : Fin cfg0.N, cond0_2 (grid0.coords t) ↔ 1 ≤ t.val :=
  (by decide +kernel : ∀ t : Fin grid0.N, cond0_2 (grid0.coords t) ↔ 1 ≤ t.val)

/-- The condition of the body's `scf.if` 3 (`k0_h4`), from the grid coordinates (the skeleton's scalar
    chain substituted). -/
abbrev cond0_3 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_3 : ∀ t : Fin cfg0.N, cond0_3 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_3, e0, e1]
    word_cmp
   : ∀ t : Fin grid0.N, cond0_3 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x6144 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S32x5632 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x6144 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x5632 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .bf16 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S8x528x128 .f32 := Memref.whole cc0_scratch0
abbrev scM0_1 : Memref sig .tc .vmem S8x520x128 .f32 := Memref.whole cc0_scratch1
abbrev scM0_2 : Memref sig .tc .vmem S1024x1024 .bf16 := Memref.whole cc0_scratch2
abbrev scM0_3 : Memref sig .tc .vmem S1024x5120 .bf16 := Memref.whole cc0_scratch3
abbrev scM0_4 : Memref sig .tc .vmem S1024x1024 .bf16 := Memref.whole cc0_scratch4
abbrev scM0_5 : Memref sig .tc .vmem S1024x1024 .bf16 := Memref.whole cc0_scratch5
abbrev scM0_6 : Memref sig .tc .vmem S4x1024x512 .f32 := Memref.whole cc0_scratch6
/-- The scratch `arg23` the kernel carries between points, as a view: what it holds is stated through it. -/
abbrev VS0_2 : View sig .tc .vmem S1024x1024 .bf16 := scM0_2.view
/-- The scratch `arg24` the kernel carries between points, as a view: what it holds is stated through it. -/
abbrev VS0_3 : View sig .tc .vmem S1024x5120 .bf16 := scM0_3.view
/-- The operands left in HBM that the body copies into scratch itself, whole. -/
abbrev hbM0_0 : Memref sig .tc .hbm S1024x6144 .f32 := Memref.whole main_v0
abbrev hbM0_1 : Memref sig .tc .hbm S1024x6144 .f32 := Memref.whole main_v4
abbrev hbM0_2 : Memref sig .tc .hbm S1024x1024 .f32 := Memref.whole main_v8
abbrev hbM0_3 : Memref sig .tc .hbm S1024x1024 .f32 := Memref.whole main_v9
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 21, SemLoc.dma 22, SemLoc.dma 23, SemLoc.dma 24] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_v0, main_v4, main_v8, main_v9}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v4) ∗ hbPt0 c hbM0_2 (V m c main_v8) ∗ hbPt0 c hbM0_3 (V m c main_v9)) := by
  rw [BI.bigSep_eq_bigSepL_of_eq [main_v0, main_v4, main_v8, main_v9] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v0) ∗ hbPt0 c hbM0_1 (V m c main_v4) ∗ hbPt0 c hbM0_2 (V m c main_v8) ∗ hbPt0 c hbM0_3 (V m c main_v9))) := by
  rw [Pipeline.ΦD_eq, scopedRest0_eq, ownSems00_eq, hbmPts0_eq]; simp only [scM0_0, scM0_1, scM0_2, scM0_3, scM0_4, scM0_5, scM0_6, owns_whole]; try rfl

end Cert.KernelIdeal.Gen

end
-- ==== Proof.MixRunA.lean ====
/- One grid point of the mixer, run by symbolic execution. -/
module

public import proofs.«01_k».proof.Proof.MixKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in set_option sl_exec.dmaWindow true in set_option sl_exec.dmaWindowSet true in
noncomputable def mixRunA (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x3x1024 .f32) (harg5 : arg5.IsWhole) (arg6 : Memref sig .tc .vmem S1x1024 .f32) (harg6 : arg6.IsWhole) (arg7 : Memref sig .tc .vmem S2x1024 .f32) (harg7 : arg7.IsWhole) (arg8 : Memref sig .tc .vmem S1x6144 .f32) (harg8 : arg8.IsWhole) (arg9 : Memref sig .tc .vmem S4x256x256 .f32) (harg9 : arg9.IsWhole) (arg10 : Memref sig .tc .vmem S1x1024 .f32) (harg10 : arg10.IsWhole) (arg11 : Memref sig .tc .vmem S32x5632 .f32) (harg11 : arg11.IsWhole) (arg12 : Memref sig .tc .vmem S128x1024 .f32) (harg12 : arg12.IsWhole) (arg17 : Memref sig .tc .vmem S1x512x1024 .f32) (harg17 : arg17.IsWhole) (arg18 : Memref sig .tc .vmem S2x6144 .f32) (harg18 : arg18.IsWhole) (arg19 : Memref sig .tc .vmem S32x5632 .bf16) (harg19 : arg19.IsWhole) (arg20 : Memref sig .tc .vmem S128x1024 .bf16) (harg20 : arg20.IsWhole) (arg21 : Memref sig .tc .vmem S8x528x128 .f32) (harg21 : arg21.IsWhole) (arg22 : Memref sig .tc .vmem S8x520x128 .f32) (harg22 : arg22.IsWhole) (arg23 : Memref sig .tc .vmem S1024x1024 .bf16) (harg23 : arg23.IsWhole) (arg24 : Memref sig .tc .vmem S1024x5120 .bf16) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S4x1024x512 .f32) (harg27 : arg27.IsWhole) (hc0 : cond0_0 i) (hc1 : cond0_1 i) (hc2 : ¬cond0_2 i)
    (x0 : Vec F S1x512x1024 .f32) (x1 : Vec F S1x1024 .f32) (x2 : Vec F S1x1024 .f32) (x3 : Vec F S1x3x1024 .f32) (x4 : Vec F S1x1024 .f32) (x5 : Vec F S2x1024 .f32) (x6 : Vec F S1x6144 .f32) (x7 : Vec F S4x256x256 .f32) (x8 : Vec F S1x1024 .f32) (x9 : Vec F S32x5632 .f32) (x10 : Vec F S128x1024 .f32) (fh0 : HbBuf0 (F := F) c hbM0_0) (fh1 : HbBuf0 (F := F) c hbM0_1) (fh2 : HbBuf0 (F := F) c hbM0_2) (fh3 : HbBuf0 (F := F) c hbM0_3) (xs6 : Vec F S4x1024x512 .f32) :
    Σ' (L11 : List (View.Piece (Elt F) S1x512x1024 .f32)), Σ' (L12 : List (View.Piece (Elt F) S2x6144 .f32)), Σ' (L13 : List (View.Piece (Elt F) S32x5632 .bf16)), Σ' (L14 : List (View.Piece (Elt F) S128x1024 .bf16)), Σ' (LS0 : List (View.Piece (Elt F) S8x528x128 .f32)), Σ' (LS1 : List (View.Piece (Elt F) S8x520x128 .f32)), Σ' (LS2 : List (View.Piece (Elt F) S1024x1024 .bf16)), Σ' (LS3 : List (View.Piece (Elt F) S1024x5120 .bf16)), Σ' (LS4 : List (View.Piece (Elt F) S1024x1024 .bf16)), { LS5 : List (View.Piece (Elt F) S1024x1024 .bf16) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xs6 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg17.view.loc (c : Thread nD τ) ↦[arg17.view.set]{fullShare} arg17.view.writes (Elt F) f L11) ∗ (∃ f, arg18.view.loc (c : Thread nD τ) ↦[arg18.view.set]{fullShare} arg18.view.writes (Elt F) f L12) ∗ (∃ f, arg19.view.loc (c : Thread nD τ) ↦[arg19.view.set]{fullShare} arg19.view.writes (Elt F) f L13) ∗ (∃ f, arg20.view.loc (c : Thread nD τ) ↦[arg20.view.set]{fullShare} arg20.view.writes (Elt F) f L14) ∗ (∃ f, arg21.view.loc (c : Thread nD τ) ↦[arg21.view.set]{fullShare} arg21.view.writes (Elt F) f LS0) ∗ (∃ f, arg22.view.loc (c : Thread nD τ) ↦[arg22.view.set]{fullShare} arg22.view.writes (Elt F) f LS1) ∗ (∃ f, arg23.view.loc (c : Thread nD τ) ↦[arg23.view.set]{fullShare} arg23.view.writes (Elt F) f LS2) ∗ (∃ f, arg24.view.loc (c : Thread nD τ) ↦[arg24.view.set]{fullShare} arg24.view.writes (Elt F) f LS3) ∗ (∃ f, arg25.view.loc (c : Thread nD τ) ↦[arg25.view.set]{fullShare} arg25.view.writes (Elt F) f LS4) ∗ (∃ f, arg26.view.loc (c : Thread nD τ) ↦[arg26.view.set]{fullShare} arg26.view.writes (Elt F) f LS5) ∗ (∃ d, owns (c : Thread nD τ) arg27 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mixer i arg2 harg2 arg3 harg3 arg4 harg4 arg5 harg5 arg6 harg6 arg7 harg7 arg8 harg8 arg9 harg9 arg10 harg10 arg11 harg11 arg12 harg12 (Memref.whole main_v0) (Memref.isWhole_whole _) (Memref.whole main_v4) (Memref.isWhole_whole _) (Memref.whole main_v8) (Memref.isWhole_whole _) (Memref.whole main_v9) (Memref.isWhole_whole _) arg17 harg17 arg18 harg18 arg19 harg19 arg20 harg20 arg21 harg21 arg22 harg22 arg23 harg23 arg24 harg24 arg25 harg25 arg26 harg26 arg27 harg27 cc0_scratch7) K } := by
  refine ⟨?_, ?_, ?_, ?_, ?_, ?_, ?_, ?_, ?_, ?_, fun W K => ?run⟩
  case run =>
    simp only [cc0_mixer_eq_skeleton]; unfold cc0_mixer_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%fs6, %hfs6, HS6⟩, Hq0, Hq1, Hq2, Hq3, Hh0, Hh1, Hh2, Hh3, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg27.eq_unread hfs6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]; · iexists _; iexact H12
    isplitl [H13]; · iexists _; iexact H13
    isplitl [H14]; · iexists _; iexact H14
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.MixRunB.lean ====
/- One grid point of the mixer, run by symbolic execution. -/
module

public import proofs.«01_k».proof.Proof.MixKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
noncomputable def mixRunB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x3x1024 .f32) (harg5 : arg5.IsWhole) (arg6 : Memref sig .tc .vmem S1x1024 .f32) (harg6 : arg6.IsWhole) (arg7 : Memref sig .tc .vmem S2x1024 .f32) (harg7 : arg7.IsWhole) (arg8 : Memref sig .tc .vmem S1x6144 .f32) (harg8 : arg8.IsWhole) (arg9 : Memref sig .tc .vmem S4x256x256 .f32) (harg9 : arg9.IsWhole) (arg10 : Memref sig .tc .vmem S1x1024 .f32) (harg10 : arg10.IsWhole) (arg11 : Memref sig .tc .vmem S32x5632 .f32) (harg11 : arg11.IsWhole) (arg12 : Memref sig .tc .vmem S128x1024 .f32) (harg12 : arg12.IsWhole) (arg17 : Memref sig .tc .vmem S1x512x1024 .f32) (harg17 : arg17.IsWhole) (arg18 : Memref sig .tc .vmem S2x6144 .f32) (harg18 : arg18.IsWhole) (arg19 : Memref sig .tc .vmem S32x5632 .bf16) (harg19 : arg19.IsWhole) (arg20 : Memref sig .tc .vmem S128x1024 .bf16) (harg20 : arg20.IsWhole) (arg21 : Memref sig .tc .vmem S8x528x128 .f32) (harg21 : arg21.IsWhole) (arg22 : Memref sig .tc .vmem S8x520x128 .f32) (harg22 : arg22.IsWhole) (arg23 : Memref sig .tc .vmem S1024x1024 .bf16) (harg23 : arg23.IsWhole) (arg24 : Memref sig .tc .vmem S1024x5120 .bf16) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S4x1024x512 .f32) (harg27 : arg27.IsWhole) (hc0 : ¬cond0_0 i) (hc2 : cond0_2 i) (hc3 : ¬cond0_3 i)
    (x0 : Vec F S1x512x1024 .f32) (x1 : Vec F S1x1024 .f32) (x2 : Vec F S1x1024 .f32) (x3 : Vec F S1x3x1024 .f32) (x4 : Vec F S1x1024 .f32) (x5 : Vec F S2x1024 .f32) (x6 : Vec F S1x6144 .f32) (x7 : Vec F S4x256x256 .f32) (x8 : Vec F S1x1024 .f32) (x9 : Vec F S32x5632 .f32) (x10 : Vec F S128x1024 .f32) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) (fh0 : HbBuf0 (F := F) c hbM0_0) (fh1 : HbBuf0 (F := F) c hbM0_1) (fh2 : HbBuf0 (F := F) c hbM0_2) (fh3 : HbBuf0 (F := F) c hbM0_3) :
    Σ' (L11 : List (View.Piece (Elt F) S1x512x1024 .f32)), Σ' (L13 : List (View.Piece (Elt F) S32x5632 .bf16)), Σ' (L14 : List (View.Piece (Elt F) S128x1024 .bf16)), Σ' (LS0 : List (View.Piece (Elt F) S8x528x128 .f32)), { LS1 : List (View.Piece (Elt F) S8x520x128 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg17 fullShare d) ∗ owns (c : Thread nD τ) arg18 fullShare x12 ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ (∃ d, owns (c : Thread nD τ) arg27 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg17.view.loc (c : Thread nD τ) ↦[arg17.view.set]{fullShare} arg17.view.writes (Elt F) f L11) ∗ owns (c : Thread nD τ) arg18 fullShare x12 ∗ (∃ f, arg19.view.loc (c : Thread nD τ) ↦[arg19.view.set]{fullShare} arg19.view.writes (Elt F) f L13) ∗ (∃ f, arg20.view.loc (c : Thread nD τ) ↦[arg20.view.set]{fullShare} arg20.view.writes (Elt F) f L14) ∗ (arg21.view.loc (c : Thread nD τ) ↦[arg21.view.set]{fullShare} arg21.view.writes (Elt F) (harg21.unread xs0) LS0) ∗ (arg22.view.loc (c : Thread nD τ) ↦[arg22.view.set]{fullShare} arg22.view.writes (Elt F) (harg22.unread xs1) LS1) ∗ owns (c : Thread nD τ) arg23 fullShare xs2 ∗ owns (c : Thread nD τ) arg24 fullShare xs3 ∗ owns (c : Thread nD τ) arg25 fullShare xs4 ∗ owns (c : Thread nD τ) arg26 fullShare xs5 ∗ (∃ d, owns (c : Thread nD τ) arg27 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mixer i arg2 harg2 arg3 harg3 arg4 harg4 arg5 harg5 arg6 harg6 arg7 harg7 arg8 harg8 arg9 harg9 arg10 harg10 arg11 harg11 arg12 harg12 (Memref.whole main_v0) (Memref.isWhole_whole _) (Memref.whole main_v4) (Memref.isWhole_whole _) (Memref.whole main_v8) (Memref.isWhole_whole _) (Memref.whole main_v9) (Memref.isWhole_whole _) arg17 harg17 arg18 harg18 arg19 harg19 arg20 harg20 arg21 harg21 arg22 harg22 arg23 harg23 arg24 harg24 arg25 harg25 arg26 harg26 arg27 harg27 cc0_scratch7) K } := by
  refine ⟨?_, ?_, ?_, ?_, ?_, fun W K => ?run⟩
  case run =>
    simp only [cc0_mixer_eq_skeleton]; unfold cc0_mixer_skel
    simp only [k0_part50_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, Hq0, Hq1, Hq2, Hq3, Hh0, Hh1, Hh2, Hh3, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg18.eq_unread hf12; obtain rfl := harg21.eq_unread hfs0; obtain rfl := harg22.eq_unread hfs1; obtain rfl := harg25.eq_unread hfs4; obtain rfl := harg26.eq_unread hfs5; obtain rfl := harg23.eq_unread hfs2; obtain rfl := harg24.eq_unread hfs3
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]
    · iexists _; isplitr; · ipureintro; exact harg18.read_unread _
      iexact H12
    isplitl [H13]; · iexists _; iexact H13
    isplitl [H14]; · iexists _; iexact H14
    isplitl [HS0]; · iexact HS0
    isplitl [HS1]; · iexact HS1
    isplitl [HS2]
    · iexists _; isplitr; · ipureintro; exact harg23.read_unread _
      iexact HS2
    isplitl [HS3]
    · iexists _; isplitr; · ipureintro; exact harg24.read_unread _
      iexact HS3
    isplitl [HS4]
    · iexists _; isplitr; · ipureintro; exact harg25.read_unread _
      iexact HS4
    isplitl [HS5]
    · iexists _; isplitr; · ipureintro; exact harg26.read_unread _
      iexact HS5
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.MixRunC.lean ====
/- One grid point of the mixer, run by symbolic execution. -/
module

public import proofs.«01_k».proof.Proof.MixKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in
noncomputable def mixRunC (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x3x1024 .f32) (harg5 : arg5.IsWhole) (arg6 : Memref sig .tc .vmem S1x1024 .f32) (harg6 : arg6.IsWhole) (arg7 : Memref sig .tc .vmem S2x1024 .f32) (harg7 : arg7.IsWhole) (arg8 : Memref sig .tc .vmem S1x6144 .f32) (harg8 : arg8.IsWhole) (arg9 : Memref sig .tc .vmem S4x256x256 .f32) (harg9 : arg9.IsWhole) (arg10 : Memref sig .tc .vmem S1x1024 .f32) (harg10 : arg10.IsWhole) (arg11 : Memref sig .tc .vmem S32x5632 .f32) (harg11 : arg11.IsWhole) (arg12 : Memref sig .tc .vmem S128x1024 .f32) (harg12 : arg12.IsWhole) (arg17 : Memref sig .tc .vmem S1x512x1024 .f32) (harg17 : arg17.IsWhole) (arg18 : Memref sig .tc .vmem S2x6144 .f32) (harg18 : arg18.IsWhole) (arg19 : Memref sig .tc .vmem S32x5632 .bf16) (harg19 : arg19.IsWhole) (arg20 : Memref sig .tc .vmem S128x1024 .bf16) (harg20 : arg20.IsWhole) (arg21 : Memref sig .tc .vmem S8x528x128 .f32) (harg21 : arg21.IsWhole) (arg22 : Memref sig .tc .vmem S8x520x128 .f32) (harg22 : arg22.IsWhole) (arg23 : Memref sig .tc .vmem S1024x1024 .bf16) (harg23 : arg23.IsWhole) (arg24 : Memref sig .tc .vmem S1024x5120 .bf16) (harg24 : arg24.IsWhole) (arg25 : Memref sig .tc .vmem S1024x1024 .bf16) (harg25 : arg25.IsWhole) (arg26 : Memref sig .tc .vmem S1024x1024 .bf16) (harg26 : arg26.IsWhole) (arg27 : Memref sig .tc .vmem S4x1024x512 .f32) (harg27 : arg27.IsWhole) (hc0 : ¬cond0_0 i) (hc2 : cond0_2 i) (hc3 : cond0_3 i)
    (x0 : Vec F S1x512x1024 .f32) (x1 : Vec F S1x1024 .f32) (x2 : Vec F S1x1024 .f32) (x3 : Vec F S1x3x1024 .f32) (x4 : Vec F S1x1024 .f32) (x5 : Vec F S2x1024 .f32) (x6 : Vec F S1x6144 .f32) (x7 : Vec F S4x256x256 .f32) (x8 : Vec F S1x1024 .f32) (x9 : Vec F S32x5632 .f32) (x10 : Vec F S128x1024 .f32) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) (fh0 : HbBuf0 (F := F) c hbM0_0) (fh1 : HbBuf0 (F := F) c hbM0_1) (fh2 : HbBuf0 (F := F) c hbM0_2) (fh3 : HbBuf0 (F := F) c hbM0_3) :
    Σ' (L11 : List (View.Piece (Elt F) S1x512x1024 .f32)), Σ' (L13 : List (View.Piece (Elt F) S32x5632 .bf16)), Σ' (L14 : List (View.Piece (Elt F) S128x1024 .bf16)), Σ' (LS0 : List (View.Piece (Elt F) S8x528x128 .f32)), { LS1 : List (View.Piece (Elt F) S8x520x128 .f32) //
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg17 fullShare d) ∗ owns (c : Thread nD τ) arg18 fullShare x12 ∗ (∃ d, owns (c : Thread nD τ) arg19 fullShare d) ∗ (∃ d, owns (c : Thread nD τ) arg20 fullShare d) ∗ owns (c : Thread nD τ) arg21 fullShare xs0 ∗ owns (c : Thread nD τ) arg22 fullShare xs1 ∗ owns (c : Thread nD τ) arg23 fullShare xs2 ∗ owns (c : Thread nD τ) arg24 fullShare xs3 ∗ owns (c : Thread nD τ) arg25 fullShare xs4 ∗ owns (c : Thread nD τ) arg26 fullShare xs5 ∗ (∃ d, owns (c : Thread nD τ) arg27 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg17.view.loc (c : Thread nD τ) ↦[arg17.view.set]{fullShare} arg17.view.writes (Elt F) f L11) ∗ owns (c : Thread nD τ) arg18 fullShare x12 ∗ (∃ f, arg19.view.loc (c : Thread nD τ) ↦[arg19.view.set]{fullShare} arg19.view.writes (Elt F) f L13) ∗ (∃ f, arg20.view.loc (c : Thread nD τ) ↦[arg20.view.set]{fullShare} arg20.view.writes (Elt F) f L14) ∗ (arg21.view.loc (c : Thread nD τ) ↦[arg21.view.set]{fullShare} arg21.view.writes (Elt F) (harg21.unread xs0) LS0) ∗ (arg22.view.loc (c : Thread nD τ) ↦[arg22.view.set]{fullShare} arg22.view.writes (Elt F) (harg22.unread xs1) LS1) ∗ owns (c : Thread nD τ) arg23 fullShare xs2 ∗ owns (c : Thread nD τ) arg24 fullShare xs3 ∗ owns (c : Thread nD τ) arg25 fullShare xs4 ∗ owns (c : Thread nD τ) arg26 fullShare xs5 ∗ (∃ d, owns (c : Thread nD τ) arg27 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mixer i arg2 harg2 arg3 harg3 arg4 harg4 arg5 harg5 arg6 harg6 arg7 harg7 arg8 harg8 arg9 harg9 arg10 harg10 arg11 harg11 arg12 harg12 (Memref.whole main_v0) (Memref.isWhole_whole _) (Memref.whole main_v4) (Memref.isWhole_whole _) (Memref.whole main_v8) (Memref.isWhole_whole _) (Memref.whole main_v9) (Memref.isWhole_whole _) arg17 harg17 arg18 harg18 arg19 harg19 arg20 harg20 arg21 harg21 arg22 harg22 arg23 harg23 arg24 harg24 arg25 harg25 arg26 harg26 arg27 harg27 cc0_scratch7) K } := by
  refine ⟨?_, ?_, ?_, ?_, ?_, fun W K => ?run⟩
  case run =>
    simp only [cc0_mixer_eq_skeleton]; unfold cc0_mixer_skel
    simp only [k0_part50_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, Hq0, Hq1, Hq2, Hq3, Hh0, Hh1, Hh2, Hh3, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg18.eq_unread hf12; obtain rfl := harg21.eq_unread hfs0; obtain rfl := harg22.eq_unread hfs1; obtain rfl := harg25.eq_unread hfs4; obtain rfl := harg26.eq_unread hfs5; obtain rfl := harg23.eq_unread hfs2; obtain rfl := harg24.eq_unread hfs3
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [H12]
    · iexists _; isplitr; · ipureintro; exact harg18.read_unread _
      iexact H12
    isplitl [H13]; · iexists _; iexact H13
    isplitl [H14]; · iexists _; iexact H14
    isplitl [HS0]; · iexact HS0
    isplitl [HS1]; · iexact HS1
    isplitl [HS2]
    · iexists _; isplitr; · ipureintro; exact harg23.read_unread _
      iexact HS2
    isplitl [HS3]
    · iexists _; isplitr; · ipureintro; exact harg24.read_unread _
      iexact HS3
    isplitl [HS4]
    · iexists _; isplitr; · ipureintro; exact harg25.read_unread _
      iexact HS4
    isplitl [HS5]
    · iexists _; isplitr; · ipureintro; exact harg26.read_unread _
      iexact HS5
    isplitl [HS6]
    · iexists _, _; isplitr; swap; · iexact HS6
      ipureintro; rfl
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    iexists _; iexact HW

end Cert.KernelIdeal.Gen

end
-- ==== Proof.MixCore.lean ====
/- What one grid point of the mixer leaves: the run of each of its three cases, its results named. -/
module

public import proofs.«01_k».proof.Proof.MixRunA
public import proofs.«01_k».proof.Proof.MixRunB
public import proofs.«01_k».proof.Proof.MixRunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Case A's stores into output window 11. -/
def piecesAX11 (c : Dev nD) (t : Fin cfg0.N) (h0 : t.val % 32 = 0) (h1 : t.val % 16 = 0) (h2 : ¬1 ≤ t.val) (xs6 : Vec F S4x1024x512 .f32) : List (View.Piece (Elt F) S1x512x1024 .f32) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).1

/-- Case A's stores into output window 12. -/
def piecesAX12 (c : Dev nD) (t : Fin cfg0.N) (h0 : t.val % 32 = 0) (h1 : t.val % 16 = 0) (h2 : ¬1 ≤ t.val) (xs6 : Vec F S4x1024x512 .f32) : List (View.Piece (Elt F) S2x6144 .f32) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.1

/-- Case A's stores into output window 13. -/
def piecesAX13 (c : Dev nD) (t : Fin cfg0.N) (h0 : t.val % 32 = 0) (h1 : t.val % 16 = 0) (h2 : ¬1 ≤ t.val) (xs6 : Vec F S4x1024x512 .f32) : List (View.Piece (Elt F) S32x5632 .bf16) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.1

/-- Case A's stores into output window 14. -/
def piecesAX14 (c : Dev nD) (t : Fin cfg0.N) (h0 : t.val % 32 = 0) (h1 : t.val % 16 = 0) (h2 : ¬1 ≤ t.val) (xs6 : Vec F S4x1024x512 .f32) : List (View.Piece (Elt F) S128x1024 .bf16) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.1

/-- Case A's stores into scratch 0. -/
def piecesAS0 (c : Dev nD) (t : Fin cfg0.N) (h0 : t.val % 32 = 0) (h1 : t.val % 16 = 0) (h2 : ¬1 ≤ t.val) (xs6 : Vec F S4x1024x512 .f32) : List (View.Piece (Elt F) S8x528x128 .f32) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.2.1

/-- Case A's stores into scratch 1. -/
def piecesAS1 (c : Dev nD) (t : Fin cfg0.N) (h0 : t.val % 32 = 0) (h1 : t.val % 16 = 0) (h2 : ¬1 ≤ t.val) (xs6 : Vec F S4x1024x512 .f32) : List (View.Piece (Elt F) S8x520x128 .f32) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.2.2.1

/-- Case A's stores into scratch 2. -/
def piecesAS2 (c : Dev nD) (t : Fin cfg0.N) (h0 : t.val % 32 = 0) (h1 : t.val % 16 = 0) (h2 : ¬1 ≤ t.val) (xs6 : Vec F S4x1024x512 .f32) : List (View.Piece (Elt F) S1024x1024 .bf16) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.2.2.2.1

/-- Case A's stores into scratch 3. -/
def piecesAS3 (c : Dev nD) (t : Fin cfg0.N) (h0 : t.val % 32 = 0) (h1 : t.val % 16 = 0) (h2 : ¬1 ≤ t.val) (xs6 : Vec F S4x1024x512 .f32) : List (View.Piece (Elt F) S1024x5120 .bf16) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.2.2.2.2.1

/-- Case A's stores into scratch 4. -/
def piecesAS4 (c : Dev nD) (t : Fin cfg0.N) (h0 : t.val % 32 = 0) (h1 : t.val % 16 = 0) (h2 : ¬1 ≤ t.val) (xs6 : Vec F S4x1024x512 .f32) : List (View.Piece (Elt F) S1024x1024 .bf16) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.2.2.2.2.2.1

/-- Case A's stores into scratch 5. -/
def piecesAS5 (c : Dev nD) (t : Fin cfg0.N) (h0 : t.val % 32 = 0) (h1 : t.val % 16 = 0) (h2 : ¬1 ≤ t.val) (xs6 : Vec F S4x1024x512 .f32) : List (View.Piece (Elt F) S1024x1024 .bf16) :=
  (mixRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.2.2.2.2.2.2.1

/-- What case A leaves at point `t`: each output and each stored scratch, its stores read back over anything. -/
def StepA (c : Dev nD) (t : Fin cfg0.N) (h0 : t.val % 32 = 0) (h1 : t.val % 16 = 0) (h2 : ¬1 ≤ t.val) (xs6 : Vec F S4x1024x512 .f32) (X11 : Vec F S1x512x1024 .f32) (X12 : Vec F S2x6144 .f32) (X13 : Vec F S32x5632 .bf16) (X14 : Vec F S128x1024 .bf16) (S0 : Vec F S8x528x128 .f32) (S1 : Vec F S8x520x128 .f32) (S2 : Vec F S1024x1024 .bf16) (S3 : Vec F S1024x5120 .bf16) (S4 : Vec F S1024x1024 .bf16) (S5 : Vec F S1024x1024 .bf16) : Prop :=
  (∃ f, X11 = (ms0_11 t).view.read (Elt F) ((ms0_11 t).view.writes (Elt F) f (piecesAX11 m c t h0 h1 h2 xs6)))
    ∧ (∃ f, X12 = (ms0_12 t).view.read (Elt F) ((ms0_12 t).view.writes (Elt F) f (piecesAX12 m c t h0 h1 h2 xs6)))
    ∧ (∃ f, X13 = (ms0_13 t).view.read (Elt F) ((ms0_13 t).view.writes (Elt F) f (piecesAX13 m c t h0 h1 h2 xs6)))
    ∧ (∃ f, X14 = (ms0_14 t).view.read (Elt F) ((ms0_14 t).view.writes (Elt F) f (piecesAX14 m c t h0 h1 h2 xs6)))
    ∧ (∃ f, S0 = scM0_0.view.read (Elt F) (scM0_0.view.writes (Elt F) f (piecesAS0 m c t h0 h1 h2 xs6)))
    ∧ (∃ f, S1 = scM0_1.view.read (Elt F) (scM0_1.view.writes (Elt F) f (piecesAS1 m c t h0 h1 h2 xs6)))
    ∧ (∃ f, S2 = scM0_2.view.read (Elt F) (scM0_2.view.writes (Elt F) f (piecesAS2 m c t h0 h1 h2 xs6)))
    ∧ (∃ f, S3 = scM0_3.view.read (Elt F) (scM0_3.view.writes (Elt F) f (piecesAS3 m c t h0 h1 h2 xs6)))
    ∧ (∃ f, S4 = scM0_4.view.read (Elt F) (scM0_4.view.writes (Elt F) f (piecesAS4 m c t h0 h1 h2 xs6)))
    ∧ (∃ f, S5 = scM0_5.view.read (Elt F) (scM0_5.view.writes (Elt F) f (piecesAS5 m c t h0 h1 h2 xs6)))

set_option maxHeartbeats 24000000 in
/-- The body at a point of case A: from its inputs' blocks to what `StepA` says it leaves. -/
theorem coreA (c : Dev nD) (t : Fin cfg0.N) (h0 : t.val % 32 = 0) (h1 : t.val % 16 = 0) (h2 : ¬1 ≤ t.val)  (W : Waits sig Unit) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ owes (c : Thread nD τ) 0 W)
      ⊢ wp frame (wpE (defs₀ (F := F)) Variants.none c none) Set.univ (bodyAt0 t) (fun _ => iprop(∃ xs6, ∃ X11, ∃ X12, ∃ X13, ∃ X14, ∃ S0, ∃ S1, ∃ S2, ∃ S3, ∃ S4, ∃ S5, ⌜StepA m c t h0 h1 h2 xs6 X11 X12 X13 X14 S0 S1 S2 S3 S4 S5⌝ ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare X11 ∗ owns (c : Thread nD τ) (ms0_12 t) fullShare X12 ∗ owns (c : Thread nD τ) (ms0_13 t) fullShare X13 ∗ owns (c : Thread nD τ) (ms0_14 t) fullShare X14 ∗ owns (c : Thread nD τ) scM0_0 fullShare S0 ∗ owns (c : Thread nD τ) scM0_1 fullShare S1 ∗ owns (c : Thread nD τ) scM0_2 fullShare S2 ∗ owns (c : Thread nD τ) scM0_3 fullShare S3 ∗ owns (c : Thread nD τ) scM0_4 fullShare S4 ∗ owns (c : Thread nD τ) scM0_5 fullShare S5 ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ (∃ W', owes (c : Thread nD τ) 0 W'))) := by
  unfold bodyAt0
  iintro ⟨I0, I1, I2, I3, I4, I5, I6, I7, I8, I9, I10, O11, O12, O13, O14, S0, S1, S2, S3, S4, S5, ⟨%xs6, S6⟩, Q0, Q1, Q2, Q3, B0, B1, B2, B3, HW⟩
  iapply ((mixRunA c (grid0.coords t) _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (V m c main_v0) (V m c main_v4) (V m c main_v8) (V m c main_v9) xs6).2.2.2.2.2.2.2.2.2.2 W _)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]; · iexact O11
  isplitl [O12]; · iexact O12
  isplitl [O13]; · iexact O13
  isplitl [O14]; · iexact O14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [Q0]; · iexact Q0
  isplitl [Q1]; · iexact Q1
  isplitl [Q2]; · iexact Q2
  isplitl [Q3]; · iexact Q3
  isplitl [B0]; · iexact B0
  isplitl [B1]; · iexact B1
  isplitl [B2]; · iexact B2
  isplitl [B3]; · iexact B3
  isplitl [HW]; · iexact HW
  iintro ⟨I0, I1, I2, I3, I4, I5, I6, I7, I8, I9, I10, ⟨%f11, O11⟩, ⟨%f12, O12⟩, ⟨%f13, O13⟩, ⟨%f14, O14⟩, ⟨%g0, S0⟩, ⟨%g1, S1⟩, ⟨%g2, S2⟩, ⟨%g3, S3⟩, ⟨%g4, S4⟩, ⟨%g5, S5⟩, S6, Q0, Q1, Q2, Q3, B0, B1, B2, B3, HW⟩
  iexists xs6
  iexists ((ms0_11 t).view.read (Elt F) ((ms0_11 t).view.writes (Elt F) f11 (piecesAX11 m c t h0 h1 h2 xs6)))
  iexists ((ms0_12 t).view.read (Elt F) ((ms0_12 t).view.writes (Elt F) f12 (piecesAX12 m c t h0 h1 h2 xs6)))
  iexists ((ms0_13 t).view.read (Elt F) ((ms0_13 t).view.writes (Elt F) f13 (piecesAX13 m c t h0 h1 h2 xs6)))
  iexists ((ms0_14 t).view.read (Elt F) ((ms0_14 t).view.writes (Elt F) f14 (piecesAX14 m c t h0 h1 h2 xs6)))
  iexists (scM0_0.view.read (Elt F) (scM0_0.view.writes (Elt F) g0 (piecesAS0 m c t h0 h1 h2 xs6)))
  iexists (scM0_1.view.read (Elt F) (scM0_1.view.writes (Elt F) g1 (piecesAS1 m c t h0 h1 h2 xs6)))
  iexists (scM0_2.view.read (Elt F) (scM0_2.view.writes (Elt F) g2 (piecesAS2 m c t h0 h1 h2 xs6)))
  iexists (scM0_3.view.read (Elt F) (scM0_3.view.writes (Elt F) g3 (piecesAS3 m c t h0 h1 h2 xs6)))
  iexists (scM0_4.view.read (Elt F) (scM0_4.view.writes (Elt F) g4 (piecesAS4 m c t h0 h1 h2 xs6)))
  iexists (scM0_5.view.read (Elt F) (scM0_5.view.writes (Elt F) g5 (piecesAS5 m c t h0 h1 h2 xs6)))
  isplitr
  · ipureintro
    exact ⟨⟨_, rfl⟩, ⟨_, rfl⟩, ⟨_, rfl⟩, ⟨_, rfl⟩, ⟨_, rfl⟩, ⟨_, rfl⟩, ⟨_, rfl⟩, ⟨_, rfl⟩, ⟨_, rfl⟩, ⟨_, rfl⟩⟩
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]
  · unfold owns; iexists _; isplitr
    swap; · iexact O11
    ipureintro; rfl
  isplitl [O12]
  · unfold owns; iexists _; isplitr
    swap; · iexact O12
    ipureintro; rfl
  isplitl [O13]
  · unfold owns; iexists _; isplitr
    swap; · iexact O13
    ipureintro; rfl
  isplitl [O14]
  · unfold owns; iexists _; isplitr
    swap; · iexact O14
    ipureintro; rfl
  isplitl [S0]
  · unfold owns; iexists _; isplitr
    swap; · iexact S0
    ipureintro; rfl
  isplitl [S1]
  · unfold owns; iexists _; isplitr
    swap; · iexact S1
    ipureintro; rfl
  isplitl [S2]
  · unfold owns; iexists _; isplitr
    swap; · iexact S2
    ipureintro; rfl
  isplitl [S3]
  · unfold owns; iexists _; isplitr
    swap; · iexact S3
    ipureintro; rfl
  isplitl [S4]
  · unfold owns; iexists _; isplitr
    swap; · iexact S4
    ipureintro; rfl
  isplitl [S5]
  · unfold owns; iexists _; isplitr
    swap; · iexact S5
    ipureintro; rfl
  isplitl [S6]; · iexact S6
  isplitl [Q0]; · iexact Q0
  isplitl [Q1]; · iexact Q1
  isplitl [Q2]; · iexact Q2
  isplitl [Q3]; · iexact Q3
  isplitl [B0]; · iexact B0
  isplitl [B1]; · iexact B1
  isplitl [B2]; · iexact B2
  isplitl [B3]; · iexact B3
  iexact HW

/-- Case B's stores into output window 11. -/
def piecesBX11 (c : Dev nD) (t : Fin cfg0.N) (h0 : ¬t.val % 32 = 0) (h2 : 1 ≤ t.val) (h3 : ¬t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S1x512x1024 .f32) :=
  (mixRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).1

/-- Case B's stores into output window 13. -/
def piecesBX13 (c : Dev nD) (t : Fin cfg0.N) (h0 : ¬t.val % 32 = 0) (h2 : 1 ≤ t.val) (h3 : ¬t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S32x5632 .bf16) :=
  (mixRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.1

/-- Case B's stores into output window 14. -/
def piecesBX14 (c : Dev nD) (t : Fin cfg0.N) (h0 : ¬t.val % 32 = 0) (h2 : 1 ≤ t.val) (h3 : ¬t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S128x1024 .bf16) :=
  (mixRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.1

/-- Case B's stores into scratch 0. -/
def piecesBS0 (c : Dev nD) (t : Fin cfg0.N) (h0 : ¬t.val % 32 = 0) (h2 : 1 ≤ t.val) (h3 : ¬t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S8x528x128 .f32) :=
  (mixRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.2.1

/-- Case B's stores into scratch 1. -/
def piecesBS1 (c : Dev nD) (t : Fin cfg0.N) (h0 : ¬t.val % 32 = 0) (h2 : 1 ≤ t.val) (h3 : ¬t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S8x520x128 .f32) :=
  (mixRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.2.2.1

/-- What case B leaves at point `t`: each output and each stored scratch, its stores read back. -/
def StepB (c : Dev nD) (t : Fin cfg0.N) (h0 : ¬t.val % 32 = 0) (h2 : 1 ≤ t.val) (h3 : ¬t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) (X11 : Vec F S1x512x1024 .f32) (X12 : Vec F S2x6144 .f32) (X13 : Vec F S32x5632 .bf16) (X14 : Vec F S128x1024 .bf16) (S0 : Vec F S8x528x128 .f32) (S1 : Vec F S8x520x128 .f32) (S2 : Vec F S1024x1024 .bf16) (S3 : Vec F S1024x5120 .bf16) (S4 : Vec F S1024x1024 .bf16) (S5 : Vec F S1024x1024 .bf16) : Prop :=
  (∃ f, X11 = (ms0_11 t).view.read (Elt F) ((ms0_11 t).view.writes (Elt F) f (piecesBX11 m c t h0 h2 h3 x12 xs0 xs1 xs2 xs3 xs4 xs5)))
    ∧ (∃ f, X13 = (ms0_13 t).view.read (Elt F) ((ms0_13 t).view.writes (Elt F) f (piecesBX13 m c t h0 h2 h3 x12 xs0 xs1 xs2 xs3 xs4 xs5)))
    ∧ (∃ f, X14 = (ms0_14 t).view.read (Elt F) ((ms0_14 t).view.writes (Elt F) f (piecesBX14 m c t h0 h2 h3 x12 xs0 xs1 xs2 xs3 xs4 xs5)))
    ∧ S0 = scM0_0.view.read (Elt F) (scM0_0.view.writes (Elt F) ((Memref.isWhole_whole _ : scM0_0.IsWhole).unread xs0) (piecesBS0 m c t h0 h2 h3 x12 xs0 xs1 xs2 xs3 xs4 xs5))
    ∧ S1 = scM0_1.view.read (Elt F) (scM0_1.view.writes (Elt F) ((Memref.isWhole_whole _ : scM0_1.IsWhole).unread xs1) (piecesBS1 m c t h0 h2 h3 x12 xs0 xs1 xs2 xs3 xs4 xs5))
    ∧ X12 = x12
    ∧ S2 = xs2
    ∧ S3 = xs3
    ∧ S4 = xs4
    ∧ S5 = xs5

set_option maxHeartbeats 24000000 in
/-- The body at a point of case B: from its inputs' blocks to what `StepB` says it leaves. -/
theorem coreB (c : Dev nD) (t : Fin cfg0.N) (h0 : ¬t.val % 32 = 0) (h2 : 1 ≤ t.val) (h3 : ¬t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) (W : Waits sig Unit) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ (∃ d, owns (c : Thread nD τ) (ms0_11 t) fullShare d) ∗ owns (c : Thread nD τ) (ms0_12 t) fullShare x12 ∗ (∃ d, owns (c : Thread nD τ) (ms0_13 t) fullShare d) ∗ (∃ d, owns (c : Thread nD τ) (ms0_14 t) fullShare d) ∗ owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4 ∗ owns (c : Thread nD τ) scM0_5 fullShare xs5 ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ owes (c : Thread nD τ) 0 W)
      ⊢ wp frame (wpE (defs₀ (F := F)) Variants.none c none) Set.univ (bodyAt0 t) (fun _ => iprop(∃ X11, ∃ X12, ∃ X13, ∃ X14, ∃ S0, ∃ S1, ∃ S2, ∃ S3, ∃ S4, ∃ S5, ⌜StepB m c t h0 h2 h3 x12 xs0 xs1 xs2 xs3 xs4 xs5 X11 X12 X13 X14 S0 S1 S2 S3 S4 S5⌝ ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare X11 ∗ owns (c : Thread nD τ) (ms0_12 t) fullShare X12 ∗ owns (c : Thread nD τ) (ms0_13 t) fullShare X13 ∗ owns (c : Thread nD τ) (ms0_14 t) fullShare X14 ∗ owns (c : Thread nD τ) scM0_0 fullShare S0 ∗ owns (c : Thread nD τ) scM0_1 fullShare S1 ∗ owns (c : Thread nD τ) scM0_2 fullShare S2 ∗ owns (c : Thread nD τ) scM0_3 fullShare S3 ∗ owns (c : Thread nD τ) scM0_4 fullShare S4 ∗ owns (c : Thread nD τ) scM0_5 fullShare S5 ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ (∃ W', owes (c : Thread nD τ) 0 W'))) := by
  unfold bodyAt0
  iintro ⟨I0, I1, I2, I3, I4, I5, I6, I7, I8, I9, I10, O11, O12, O13, O14, S0, S1, S2, S3, S4, S5, S6, Q0, Q1, Q2, Q3, B0, B1, B2, B3, HW⟩
  iapply ((mixRunB c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.2.2.2 W _)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]; · iexact O11
  isplitl [O12]; · iexact O12
  isplitl [O13]; · iexact O13
  isplitl [O14]; · iexact O14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [Q0]; · iexact Q0
  isplitl [Q1]; · iexact Q1
  isplitl [Q2]; · iexact Q2
  isplitl [Q3]; · iexact Q3
  isplitl [B0]; · iexact B0
  isplitl [B1]; · iexact B1
  isplitl [B2]; · iexact B2
  isplitl [B3]; · iexact B3
  isplitl [HW]; · iexact HW
  iintro ⟨I0, I1, I2, I3, I4, I5, I6, I7, I8, I9, I10, ⟨%f11, O11⟩, O12, ⟨%f13, O13⟩, ⟨%f14, O14⟩, S0, S1, S2, S3, S4, S5, S6, Q0, Q1, Q2, Q3, B0, B1, B2, B3, HW⟩
  iexists ((ms0_11 t).view.read (Elt F) ((ms0_11 t).view.writes (Elt F) f11 (piecesBX11 m c t h0 h2 h3 x12 xs0 xs1 xs2 xs3 xs4 xs5)))
  iexists (x12)
  iexists ((ms0_13 t).view.read (Elt F) ((ms0_13 t).view.writes (Elt F) f13 (piecesBX13 m c t h0 h2 h3 x12 xs0 xs1 xs2 xs3 xs4 xs5)))
  iexists ((ms0_14 t).view.read (Elt F) ((ms0_14 t).view.writes (Elt F) f14 (piecesBX14 m c t h0 h2 h3 x12 xs0 xs1 xs2 xs3 xs4 xs5)))
  iexists (scM0_0.view.read (Elt F) (scM0_0.view.writes (Elt F) ((Memref.isWhole_whole _ : scM0_0.IsWhole).unread xs0) (piecesBS0 m c t h0 h2 h3 x12 xs0 xs1 xs2 xs3 xs4 xs5)))
  iexists (scM0_1.view.read (Elt F) (scM0_1.view.writes (Elt F) ((Memref.isWhole_whole _ : scM0_1.IsWhole).unread xs1) (piecesBS1 m c t h0 h2 h3 x12 xs0 xs1 xs2 xs3 xs4 xs5)))
  iexists (xs2)
  iexists (xs3)
  iexists (xs4)
  iexists (xs5)
  isplitr
  · ipureintro
    exact ⟨⟨_, rfl⟩, ⟨_, rfl⟩, ⟨_, rfl⟩, rfl, rfl, rfl, rfl, rfl, rfl, rfl⟩
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]
  · unfold owns; iexists _; isplitr
    swap; · iexact O11
    ipureintro; rfl
  isplitl [O12]; · iexact O12
  isplitl [O13]
  · unfold owns; iexists _; isplitr
    swap; · iexact O13
    ipureintro; rfl
  isplitl [O14]
  · unfold owns; iexists _; isplitr
    swap; · iexact O14
    ipureintro; rfl
  isplitl [S0]
  · unfold owns; iexists _; isplitr
    swap; · iexact S0
    ipureintro; rfl
  isplitl [S1]
  · unfold owns; iexists _; isplitr
    swap; · iexact S1
    ipureintro; rfl
  isplitl [S2]; · iexact S2
  isplitl [S3]; · iexact S3
  isplitl [S4]; · iexact S4
  isplitl [S5]; · iexact S5
  isplitl [S6]; · iexact S6
  isplitl [Q0]; · iexact Q0
  isplitl [Q1]; · iexact Q1
  isplitl [Q2]; · iexact Q2
  isplitl [Q3]; · iexact Q3
  isplitl [B0]; · iexact B0
  isplitl [B1]; · iexact B1
  isplitl [B2]; · iexact B2
  isplitl [B3]; · iexact B3
  iexact HW

/-- Case C's stores into output window 11. -/
def piecesCX11 (c : Dev nD) (t : Fin cfg0.N) (h0 : ¬t.val % 32 = 0) (h2 : 1 ≤ t.val) (h3 : t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S1x512x1024 .f32) :=
  (mixRunC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).1

/-- Case C's stores into output window 13. -/
def piecesCX13 (c : Dev nD) (t : Fin cfg0.N) (h0 : ¬t.val % 32 = 0) (h2 : 1 ≤ t.val) (h3 : t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S32x5632 .bf16) :=
  (mixRunC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.1

/-- Case C's stores into output window 14. -/
def piecesCX14 (c : Dev nD) (t : Fin cfg0.N) (h0 : ¬t.val % 32 = 0) (h2 : 1 ≤ t.val) (h3 : t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S128x1024 .bf16) :=
  (mixRunC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.1

/-- Case C's stores into scratch 0. -/
def piecesCS0 (c : Dev nD) (t : Fin cfg0.N) (h0 : ¬t.val % 32 = 0) (h2 : 1 ≤ t.val) (h3 : t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S8x528x128 .f32) :=
  (mixRunC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.2.1

/-- Case C's stores into scratch 1. -/
def piecesCS1 (c : Dev nD) (t : Fin cfg0.N) (h0 : ¬t.val % 32 = 0) (h2 : 1 ≤ t.val) (h3 : t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) : List (View.Piece (Elt F) S8x520x128 .f32) :=
  (mixRunC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.2.2.1

/-- What case C leaves at point `t`: each output and each stored scratch, its stores read back. -/
def StepC (c : Dev nD) (t : Fin cfg0.N) (h0 : ¬t.val % 32 = 0) (h2 : 1 ≤ t.val) (h3 : t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) (X11 : Vec F S1x512x1024 .f32) (X12 : Vec F S2x6144 .f32) (X13 : Vec F S32x5632 .bf16) (X14 : Vec F S128x1024 .bf16) (S0 : Vec F S8x528x128 .f32) (S1 : Vec F S8x520x128 .f32) (S2 : Vec F S1024x1024 .bf16) (S3 : Vec F S1024x5120 .bf16) (S4 : Vec F S1024x1024 .bf16) (S5 : Vec F S1024x1024 .bf16) : Prop :=
  (∃ f, X11 = (ms0_11 t).view.read (Elt F) ((ms0_11 t).view.writes (Elt F) f (piecesCX11 m c t h0 h2 h3 x12 xs0 xs1 xs2 xs3 xs4 xs5)))
    ∧ (∃ f, X13 = (ms0_13 t).view.read (Elt F) ((ms0_13 t).view.writes (Elt F) f (piecesCX13 m c t h0 h2 h3 x12 xs0 xs1 xs2 xs3 xs4 xs5)))
    ∧ (∃ f, X14 = (ms0_14 t).view.read (Elt F) ((ms0_14 t).view.writes (Elt F) f (piecesCX14 m c t h0 h2 h3 x12 xs0 xs1 xs2 xs3 xs4 xs5)))
    ∧ S0 = scM0_0.view.read (Elt F) (scM0_0.view.writes (Elt F) ((Memref.isWhole_whole _ : scM0_0.IsWhole).unread xs0) (piecesCS0 m c t h0 h2 h3 x12 xs0 xs1 xs2 xs3 xs4 xs5))
    ∧ S1 = scM0_1.view.read (Elt F) (scM0_1.view.writes (Elt F) ((Memref.isWhole_whole _ : scM0_1.IsWhole).unread xs1) (piecesCS1 m c t h0 h2 h3 x12 xs0 xs1 xs2 xs3 xs4 xs5))
    ∧ X12 = x12
    ∧ S2 = xs2
    ∧ S3 = xs3
    ∧ S4 = xs4
    ∧ S5 = xs5

set_option maxHeartbeats 24000000 in
/-- The body at a point of case C: from its inputs' blocks to what `StepC` says it leaves. -/
theorem coreC (c : Dev nD) (t : Fin cfg0.N) (h0 : ¬t.val % 32 = 0) (h2 : 1 ≤ t.val) (h3 : t.val % 16 = 0) (x12 : Vec F S2x6144 .f32) (xs0 : Vec F S8x528x128 .f32) (xs1 : Vec F S8x520x128 .f32) (xs2 : Vec F S1024x1024 .bf16) (xs3 : Vec F S1024x5120 .bf16) (xs4 : Vec F S1024x1024 .bf16) (xs5 : Vec F S1024x1024 .bf16) (W : Waits sig Unit) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ (∃ d, owns (c : Thread nD τ) (ms0_11 t) fullShare d) ∗ owns (c : Thread nD τ) (ms0_12 t) fullShare x12 ∗ (∃ d, owns (c : Thread nD τ) (ms0_13 t) fullShare d) ∗ (∃ d, owns (c : Thread nD τ) (ms0_14 t) fullShare d) ∗ owns (c : Thread nD τ) scM0_0 fullShare xs0 ∗ owns (c : Thread nD τ) scM0_1 fullShare xs1 ∗ owns (c : Thread nD τ) scM0_2 fullShare xs2 ∗ owns (c : Thread nD τ) scM0_3 fullShare xs3 ∗ owns (c : Thread nD τ) scM0_4 fullShare xs4 ∗ owns (c : Thread nD τ) scM0_5 fullShare xs5 ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ owes (c : Thread nD τ) 0 W)
      ⊢ wp frame (wpE (defs₀ (F := F)) Variants.none c none) Set.univ (bodyAt0 t) (fun _ => iprop(∃ X11, ∃ X12, ∃ X13, ∃ X14, ∃ S0, ∃ S1, ∃ S2, ∃ S3, ∃ S4, ∃ S5, ⌜StepC m c t h0 h2 h3 x12 xs0 xs1 xs2 xs3 xs4 xs5 X11 X12 X13 X14 S0 S1 S2 S3 S4 S5⌝ ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare X11 ∗ owns (c : Thread nD τ) (ms0_12 t) fullShare X12 ∗ owns (c : Thread nD τ) (ms0_13 t) fullShare X13 ∗ owns (c : Thread nD τ) (ms0_14 t) fullShare X14 ∗ owns (c : Thread nD τ) scM0_0 fullShare S0 ∗ owns (c : Thread nD τ) scM0_1 fullShare S1 ∗ owns (c : Thread nD τ) scM0_2 fullShare S2 ∗ owns (c : Thread nD τ) scM0_3 fullShare S3 ∗ owns (c : Thread nD τ) scM0_4 fullShare S4 ∗ owns (c : Thread nD τ) scM0_5 fullShare S5 ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ (∃ W', owes (c : Thread nD τ) 0 W'))) := by
  unfold bodyAt0
  iintro ⟨I0, I1, I2, I3, I4, I5, I6, I7, I8, I9, I10, O11, O12, O13, O14, S0, S1, S2, S3, S4, S5, S6, Q0, Q1, Q2, Q3, B0, B1, B2, B3, HW⟩
  iapply ((mixRunC c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) x12 xs0 xs1 xs2 xs3 xs4 xs5 (V m c main_v0) (V m c main_v4) (V m c main_v8) (V m c main_v9)).2.2.2.2.2 W _)
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]; · iexact O11
  isplitl [O12]; · iexact O12
  isplitl [O13]; · iexact O13
  isplitl [O14]; · iexact O14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [Q0]; · iexact Q0
  isplitl [Q1]; · iexact Q1
  isplitl [Q2]; · iexact Q2
  isplitl [Q3]; · iexact Q3
  isplitl [B0]; · iexact B0
  isplitl [B1]; · iexact B1
  isplitl [B2]; · iexact B2
  isplitl [B3]; · iexact B3
  isplitl [HW]; · iexact HW
  iintro ⟨I0, I1, I2, I3, I4, I5, I6, I7, I8, I9, I10, ⟨%f11, O11⟩, O12, ⟨%f13, O13⟩, ⟨%f14, O14⟩, S0, S1, S2, S3, S4, S5, S6, Q0, Q1, Q2, Q3, B0, B1, B2, B3, HW⟩
  iexists ((ms0_11 t).view.read (Elt F) ((ms0_11 t).view.writes (Elt F) f11 (piecesCX11 m c t h0 h2 h3 x12 xs0 xs1 xs2 xs3 xs4 xs5)))
  iexists (x12)
  iexists ((ms0_13 t).view.read (Elt F) ((ms0_13 t).view.writes (Elt F) f13 (piecesCX13 m c t h0 h2 h3 x12 xs0 xs1 xs2 xs3 xs4 xs5)))
  iexists ((ms0_14 t).view.read (Elt F) ((ms0_14 t).view.writes (Elt F) f14 (piecesCX14 m c t h0 h2 h3 x12 xs0 xs1 xs2 xs3 xs4 xs5)))
  iexists (scM0_0.view.read (Elt F) (scM0_0.view.writes (Elt F) ((Memref.isWhole_whole _ : scM0_0.IsWhole).unread xs0) (piecesCS0 m c t h0 h2 h3 x12 xs0 xs1 xs2 xs3 xs4 xs5)))
  iexists (scM0_1.view.read (Elt F) (scM0_1.view.writes (Elt F) ((Memref.isWhole_whole _ : scM0_1.IsWhole).unread xs1) (piecesCS1 m c t h0 h2 h3 x12 xs0 xs1 xs2 xs3 xs4 xs5)))
  iexists (xs2)
  iexists (xs3)
  iexists (xs4)
  iexists (xs5)
  isplitr
  · ipureintro
    exact ⟨⟨_, rfl⟩, ⟨_, rfl⟩, ⟨_, rfl⟩, rfl, rfl, rfl, rfl, rfl, rfl, rfl⟩
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]
  · unfold owns; iexists _; isplitr
    swap; · iexact O11
    ipureintro; rfl
  isplitl [O12]; · iexact O12
  isplitl [O13]
  · unfold owns; iexists _; isplitr
    swap; · iexact O13
    ipureintro; rfl
  isplitl [O14]
  · unfold owns; iexists _; isplitr
    swap; · iexact O14
    ipureintro; rfl
  isplitl [S0]
  · unfold owns; iexists _; isplitr
    swap; · iexact S0
    ipureintro; rfl
  isplitl [S1]
  · unfold owns; iexists _; isplitr
    swap; · iexact S1
    ipureintro; rfl
  isplitl [S2]; · iexact S2
  isplitl [S3]; · iexact S3
  isplitl [S4]; · iexact S4
  isplitl [S5]; · iexact S5
  isplitl [S6]; · iexact S6
  isplitl [Q0]; · iexact Q0
  isplitl [Q1]; · iexact Q1
  isplitl [Q2]; · iexact Q2
  isplitl [Q3]; · iexact Q3
  isplitl [B0]; · iexact B0
  isplitl [B1]; · iexact B1
  isplitl [B2]; · iexact B2
  isplitl [B3]; · iexact B3
  iexact HW

end Cert.KernelIdeal.Gen
-- ==== Proof.MixFrame.lean ====
/- The mixer's frame: its pipeline over the runs of its grid points, nothing said of its outputs. -/
module

public import proofs.«01_k».proof.Proof.MixCore
public import Idealize.ShloMosaic.Lib.Claim

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four output windows, whose contents the frame leaves unsaid. -/
def forgets : Fin 15 → Bool := fun w => w.val == 11 || w.val == 12 || w.val == 13 || w.val == 14

/-- The pipeline's data: each input's buffer at its block, the outputs unsaid, the launch's invariant throughout. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the body is called with at point `t`, the windows one by one, -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 24000000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10]
  rw [show (dats m 0 c).Φ t.succ = Pipeline.ΦD osem0 spec0 H0 (V m) c from rfl, show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  rw [show (dats m 0 c).leavesExact 6 t = owns (c : Thread nD τ) (ms0_6 t) fullShare ((dats m 0 c).after 6 t) from by
    unfold Dat.leavesExact; rw [liveAt0_6 t], after_6]
  rw [show (dats m 0 c).leavesExact 7 t = owns (c : Thread nD τ) (ms0_7 t) fullShare ((dats m 0 c).after 7 t) from by
    unfold Dat.leavesExact; rw [liveAt0_7 t], after_7]
  rw [show (dats m 0 c).leavesExact 8 t = owns (c : Thread nD τ) (ms0_8 t) fullShare ((dats m 0 c).after 8 t) from by
    unfold Dat.leavesExact; rw [liveAt0_8 t], after_8]
  rw [show (dats m 0 c).leavesExact 9 t = owns (c : Thread nD τ) (ms0_9 t) fullShare ((dats m 0 c).after 9 t) from by
    unfold Dat.leavesExact; rw [liveAt0_9 t], after_9]
  rw [show (dats m 0 c).leavesExact 10 t = owns (c : Thread nD τ) (ms0_10 t) fullShare ((dats m 0 c).after 10 t) from by
    unfold Dat.leavesExact; rw [liveAt0_10 t], after_10]
  have hN : t.val < 32 := lt_of_lt_of_eq t.isLt (show cfg0.N = 32 from N_0)
  by_cases h0 : t.val % 32 = 0
  · have h1 : t.val % 16 = 0 := by omega
    have h2 : ¬1 ≤ t.val := by omega
    iintro ⟨⟨⟨S0, S1, S2, S3, S4, S5, S6⟩, Hg, ⟨Q0, Q1, Q2, Q3⟩, ⟨B0, B1, B2, B3⟩⟩, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, O11, O12, O13, O14⟩
    iapply (wp_wand_r _ _ _)
    isplitl [I0 I1 I2 I3 I4 I5 I6 I7 I8 I9 I10 O11 O12 O13 O14 S0 S1 S2 S3 S4 S5 S6 Q0 Q1 Q2 Q3 B0 B1 B2 B3 HW]
    · iapply (coreA m c t h0 h1 h2 W)
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [O11]; · iexact O11
      isplitl [O12]; · iexact O12
      isplitl [O13]; · iexact O13
      isplitl [O14]; · iexact O14
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [Q0]; · iexact Q0
      isplitl [Q1]; · iexact Q1
      isplitl [Q2]; · iexact Q2
      isplitl [Q3]; · iexact Q3
      isplitl [B0]; · iexact B0
      isplitl [B1]; · iexact B1
      isplitl [B2]; · iexact B2
      isplitl [B3]; · iexact B3
      iexact HW
    iintro %_ ⟨%xs6, %X11, %X12, %X13, %X14, %Z0, %Z1, %Z2, %Z3, %Z4, %Z5, -, I0, I1, I2, I3, I4, I5, I6, I7, I8, I9, I10, O11, O12, O13, O14, S0, S1, S2, S3, S4, S5, S6, Q0, Q1, Q2, Q3, B0, B1, B2, B3, ⟨%W', HW⟩⟩
    isplitl [S0 S1 S2 S3 S4 S5 S6 Hg Q0 Q1 Q2 Q3 B0 B1 B2 B3]
    · isplitl [S0 S1 S2 S3 S4 S5 S6]
      · isplitl [S0]; · iexists _; iexact S0
        isplitl [S1]; · iexists _; iexact S1
        isplitl [S2]; · iexists _; iexact S2
        isplitl [S3]; · iexists _; iexact S3
        isplitl [S4]; · iexists _; iexact S4
        isplitl [S5]; · iexists _; iexact S5
        iexact S6
      isplitl [Hg]; · iexact Hg
      isplitl [Q0 Q1 Q2 Q3]
      · isplitl [Q0]; · iexact Q0
        isplitl [Q1]; · iexact Q1
        isplitl [Q2]; · iexact Q2
        iexact Q3
      isplitl [B0]; · iexact B0
      isplitl [B1]; · iexact B1
      isplitl [B2]; · iexact B2
      iexact B3
    isplitl [HW]
    · iexists W'; isplitr; · ipureintro; exact fun _ _ => Or.inl trivial
      iexact HW
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [O11]; · iexists _; iexact O11
    isplitl [O12]; · iexists _; iexact O12
    isplitl [O13]; · iexists _; iexact O13
    iexists _; iexact O14
  · have h2 : 1 ≤ t.val := by omega
    by_cases h3 : t.val % 16 = 0
    · iintro ⟨⟨⟨⟨%xs0, S0⟩, ⟨%xs1, S1⟩, ⟨%xs2, S2⟩, ⟨%xs3, S3⟩, ⟨%xs4, S4⟩, ⟨%xs5, S5⟩, S6⟩, Hg, ⟨Q0, Q1, Q2, Q3⟩, ⟨B0, B1, B2, B3⟩⟩, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, O11, ⟨%x12, O12⟩, O13, O14⟩
      iapply (wp_wand_r _ _ _)
      isplitl [I0 I1 I2 I3 I4 I5 I6 I7 I8 I9 I10 O11 O12 O13 O14 S0 S1 S2 S3 S4 S5 S6 Q0 Q1 Q2 Q3 B0 B1 B2 B3 HW]
      · iapply (coreC m c t h0 h2 h3 x12 xs0 xs1 xs2 xs3 xs4 xs5 W)
        isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [O11]; · iexact O11
        isplitl [O12]; · iexact O12
        isplitl [O13]; · iexact O13
        isplitl [O14]; · iexact O14
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [Q0]; · iexact Q0
        isplitl [Q1]; · iexact Q1
        isplitl [Q2]; · iexact Q2
        isplitl [Q3]; · iexact Q3
        isplitl [B0]; · iexact B0
        isplitl [B1]; · iexact B1
        isplitl [B2]; · iexact B2
        isplitl [B3]; · iexact B3
        iexact HW
      iintro %_ ⟨%X11, %X12, %X13, %X14, %Z0, %Z1, %Z2, %Z3, %Z4, %Z5, -, I0, I1, I2, I3, I4, I5, I6, I7, I8, I9, I10, O11, O12, O13, O14, S0, S1, S2, S3, S4, S5, S6, Q0, Q1, Q2, Q3, B0, B1, B2, B3, ⟨%W', HW⟩⟩
      isplitl [S0 S1 S2 S3 S4 S5 S6 Hg Q0 Q1 Q2 Q3 B0 B1 B2 B3]
      · isplitl [S0 S1 S2 S3 S4 S5 S6]
        · isplitl [S0]; · iexists _; iexact S0
          isplitl [S1]; · iexists _; iexact S1
          isplitl [S2]; · iexists _; iexact S2
          isplitl [S3]; · iexists _; iexact S3
          isplitl [S4]; · iexists _; iexact S4
          isplitl [S5]; · iexists _; iexact S5
          iexact S6
        isplitl [Hg]; · iexact Hg
        isplitl [Q0 Q1 Q2 Q3]
        · isplitl [Q0]; · iexact Q0
          isplitl [Q1]; · iexact Q1
          isplitl [Q2]; · iexact Q2
          iexact Q3
        isplitl [B0]; · iexact B0
        isplitl [B1]; · iexact B1
        isplitl [B2]; · iexact B2
        iexact B3
      isplitl [HW]
      · iexists W'; isplitr; · ipureintro; exact fun _ _ => Or.inl trivial
        iexact HW
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [O11]; · iexists _; iexact O11
      isplitl [O12]; · iexists _; iexact O12
      isplitl [O13]; · iexists _; iexact O13
      iexists _; iexact O14
    · iintro ⟨⟨⟨⟨%xs0, S0⟩, ⟨%xs1, S1⟩, ⟨%xs2, S2⟩, ⟨%xs3, S3⟩, ⟨%xs4, S4⟩, ⟨%xs5, S5⟩, S6⟩, Hg, ⟨Q0, Q1, Q2, Q3⟩, ⟨B0, B1, B2, B3⟩⟩, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, O11, ⟨%x12, O12⟩, O13, O14⟩
      iapply (wp_wand_r _ _ _)
      isplitl [I0 I1 I2 I3 I4 I5 I6 I7 I8 I9 I10 O11 O12 O13 O14 S0 S1 S2 S3 S4 S5 S6 Q0 Q1 Q2 Q3 B0 B1 B2 B3 HW]
      · iapply (coreB m c t h0 h2 h3 x12 xs0 xs1 xs2 xs3 xs4 xs5 W)
        isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [O11]; · iexact O11
        isplitl [O12]; · iexact O12
        isplitl [O13]; · iexact O13
        isplitl [O14]; · iexact O14
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [Q0]; · iexact Q0
        isplitl [Q1]; · iexact Q1
        isplitl [Q2]; · iexact Q2
        isplitl [Q3]; · iexact Q3
        isplitl [B0]; · iexact B0
        isplitl [B1]; · iexact B1
        isplitl [B2]; · iexact B2
        isplitl [B3]; · iexact B3
        iexact HW
      iintro %_ ⟨%X11, %X12, %X13, %X14, %Z0, %Z1, %Z2, %Z3, %Z4, %Z5, -, I0, I1, I2, I3, I4, I5, I6, I7, I8, I9, I10, O11, O12, O13, O14, S0, S1, S2, S3, S4, S5, S6, Q0, Q1, Q2, Q3, B0, B1, B2, B3, ⟨%W', HW⟩⟩
      isplitl [S0 S1 S2 S3 S4 S5 S6 Hg Q0 Q1 Q2 Q3 B0 B1 B2 B3]
      · isplitl [S0 S1 S2 S3 S4 S5 S6]
        · isplitl [S0]; · iexists _; iexact S0
          isplitl [S1]; · iexists _; iexact S1
          isplitl [S2]; · iexists _; iexact S2
          isplitl [S3]; · iexists _; iexact S3
          isplitl [S4]; · iexists _; iexact S4
          isplitl [S5]; · iexists _; iexact S5
          iexact S6
        isplitl [Hg]; · iexact Hg
        isplitl [Q0 Q1 Q2 Q3]
        · isplitl [Q0]; · iexact Q0
          isplitl [Q1]; · iexact Q1
          isplitl [Q2]; · iexact Q2
          iexact Q3
        isplitl [B0]; · iexact B0
        isplitl [B1]; · iexact B1
        isplitl [B2]; · iexact B2
        iexact B3
      isplitl [HW]
      · iexists W'; isplitr; · ipureintro; exact fun _ _ => Or.inl trivial
        iexact HW
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [O11]; · iexists _; iexact O11
      isplitl [O12]; · iexists _; iexact O12
      isplitl [O13]; · iexists _; iexact O13
      iexists _; iexact O14

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution ends with the arrays as the pipeline's data has them and every counter at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_dma_forget (Q' := _) cfgs (dats m) (0 : Fin 1) launch0 osem0 defs₀ Variants.none forgets ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The mixer's frame: every execution from clear counters ends with the arguments unchanged and the counters clear. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (fun c => (dats m 0 c).toRForget forgets) (A_eq m) ((θ_run defs _ _).mono (fun _ h => h.1) (run_main m ρ))) ((θ_run defs _ _).mono (fun _ h => h.2) (run_main m ρ))

end Cert.KernelIdeal.Mix
-- ==== Proof.Frames.lean ====
/- The frames of the two programs as they stand, before they are read at the ideal instance. -/
module

public import proofs.«01_k».proof.Defs
public import proofs.«01_k».proof.Proof.MixFrame
public import proofs.«01_k».proof.Proof.Gen.Kernel
public import Idealize.ShloMosaic.Adequacy
public import Idealize.ShloMosaic.Init

@[expose] public section

set_option maxRecDepth 16384

noncomputable section

namespace Cert.Proof

open Idealize.ShloMosaic Idealize.SL.Sem Cert.Kernel

variable {F : FTy → Type} [FloatOps F]

set_option maxHeartbeats 4000000 in
/-- The bodies of the two mixers are the same text. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- So are their tables of bodies, with the launches. -/
theorem defs_eq : Cert.Kernel.defs (F := F) = Cert.KernelIdeal.defs (F := F) :=
  congrArg (Pipeline.defs (Cert.KernelIdeal.pcfgs (F := F))) bodies_eq

/-- A run under one table of bodies is a run under an equal one. -/
theorem run_of_defs_eq {nD : Nat} {τ : Topo} {sig : RefSig} {Val : EltTy → Type} {Λ : Labels}
    {d d' : Defs nD τ sig Val Λ} (h : d = d') {p σ Q} (H : θ_run d' p σ Q) : θ_run d p σ Q := h ▸ H

/-- The mixer as printed is the mixer read at the ideal instance, word for word, so its frame is that one's. -/
theorem mixer_frame : Cert.quiescent_Kernel (hKernel := Cert.Kernel.Gen.facts) := fun m ρ _ =>
  run_of_defs_eq (defs_eq (F := Bits)) (Cert.KernelIdeal.Mix.frame (F := Bits) m ρ)

end Cert.Proof
-- ==== Proof.RealKit.lean ====
/- Extended reals that are real: sums, the constants, the root-mean-square scale and the gate's curve. -/
module

public import Idealize.ShloMosaic.Lib.Pointwise
public import Idealize.ShloMosaic.PureOps.Ideal.Laws

@[expose] public section

noncomputable section

namespace Cert.RealKit

open Idealize.ShloMosaic

/-- A finite sum of reals, read as an extended real. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum whose terms are real. -/
theorem sum_coe {ι : Type*} [Fintype ι] {g : ι → EReal} {f : ι → ℝ} (h : ∀ i, g i = (f i : EReal)) :
    ∑ i, g i = ((∑ i, f i : ℝ) : EReal) := by
  rw [coe_sum]; exact Finset.sum_congr rfl fun i _ => h i

/-- The variance offset of the norms. -/
def eps : ℝ := 8796093 / 8796093022208
/-- The gate's outer constant, the float nearest the square root of 2/π. -/
def gk : ℝ := 13386282 / 16777216
/-- The gate's cubic constant, the float nearest 0.044715. -/
def ga : ℝ := 12003091 / 268435456

theorem eps_pos : 0 < eps := by unfold eps; norm_num

theorem word_1024 : Ideal.ofBits .f32 0x44800000#32 = ((1024 : ℝ) : EReal) := by
  simp [Ideal.ofBits, Ideal.ieee, -EReal.coe_mul]; norm_num
theorem word_eps : Ideal.ofBits .f32 0x358637BD#32 = (eps : EReal) := by
  unfold eps; simp [Ideal.ofBits, Ideal.ieee, -EReal.coe_mul]; norm_num
theorem word_gk : Ideal.ofBits .f32 0x3F4C422A#32 = (gk : EReal) := by
  unfold gk; simp [Ideal.ofBits, Ideal.ieee, -EReal.coe_mul]; norm_num
theorem word_ga : Ideal.ofBits .f32 0x3D372713#32 = (ga : EReal) := by
  unfold ga; simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee, -EReal.coe_mul]

/-- The scale of a root-mean-square norm over 1024 entries. -/
def rs (f : ℕ → ℝ) : ℝ := (Real.sqrt ((∑ k : Fin 1024, f k.val * f k.val) / 1024 + eps))⁻¹

theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The scale as a sum of squares, a division by 1024, the offset and a reciprocal root give it. -/
theorem rsqrt_rs (f : ℕ → ℝ) :
    Ideal.rsqrt (Ideal.div ((∑ k : Fin 1024, f k.val * f k.val : ℝ) : EReal) ((1024 : ℝ) : EReal) + (eps : EReal)) = (rs f : EReal) := by
  rw [Ideal.div_coe (by norm_num), ← EReal.coe_mul, ← EReal.coe_add]
  have h0 : (0 : ℝ) ≤ ∑ k : Fin 1024, f k.val * f k.val := Finset.sum_nonneg fun k _ => mul_self_nonneg _
  have h : (0 : ℝ) < (∑ k : Fin 1024, f k.val * f k.val) * (1 / 1024) + eps := by
    have := eps_pos; positivity
  rw [rsqrt_pos h]; unfold rs; rw [mul_one_div]

/-- The gate's curve: the tanh form of the Gaussian error unit. -/
def gelu (a : ℝ) : ℝ := a * (1 / 2 * (1 + Real.tanh (gk * (a + ga * (a * a * a)))))

end Cert.RealKit
-- ==== Proof.Finite.lean ====
/- Arrays that a finiteness test accepts hold real numbers. -/
module

public import proofs.«01_k».proof.Proof.RealKit
public import Idealize.ShloMosaic.Lib.ReduceAll
public import Idealize.ShloMosaic.Lib.Affine

@[expose] public section

noncomputable section

namespace Cert.RealKit

open Idealize.ShloMosaic

/-- A value whose absolute value is below infinity is a real. -/
theorem real_of_olt (x : Ideal .f32)
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact ⟨r, rfl⟩
  | top => simp at h'

/-- Every value of `X` is a real. -/
def AllReal {s : Shape} (X : s.Idx → EReal) : Prop := ∀ i, ∃ r : ℝ, X i = (r : EReal)

/-- The finiteness test, all of it true: every value is a real. -/
theorem real_of_all {s t u z : Shape} [Subsingleton t.Idx] {axes : List (Fin s.rank)} (X : FVec Ideal s .f32) (dims : Fin z.rank → Fin s.rank)
    (hb : z.BroadcastsInDim s dims) (init : u.Idx → BitVec 1) (h : s.ReducesTo axes t) (hu : 0 < u.numel) (j : t.Idx)
    (e : Host.reduce IntOp.andi (cmpf .olt (Host.absf X) (broadcastInDim s dims hb (constant z .f32 0x7F800000#32))) init h hu j = 1#1) :
    AllReal X :=
  fun i => real_of_olt (X i) (Host.reduce_andi_all _ init h hu j e i)

/-- The real entry of a matrix at natural numbers, zero outside it. -/
def nat2 {a b : ℕ} (X : Shape.Idx ⟨2, ![a, b]⟩ → EReal) (i j : ℕ) : ℝ :=
  if h : i < a ∧ j < b then (X (ix2 ⟨i, h.1⟩ ⟨j, h.2⟩)).toReal else 0

/-- The real entry of an array of three axes at natural numbers, zero outside it. -/
def nat3 {a b c : ℕ} (X : Shape.Idx ⟨3, ![a, b, c]⟩ → EReal) (i j k : ℕ) : ℝ :=
  if h : i < a ∧ j < b ∧ k < c then (X (ix3 ⟨i, h.1⟩ ⟨j, h.2.1⟩ ⟨k, h.2.2⟩)).toReal else 0

theorem toReal_of {x : EReal} (h : ∃ r : ℝ, x = (r : EReal)) : x = (x.toReal : EReal) := by
  obtain ⟨r, rfl⟩ := h; rfl

theorem nat2_eq {a b : ℕ} {X : Shape.Idx ⟨2, ![a, b]⟩ → EReal} (h : AllReal X) (i : Fin a) (j : Fin b) :
    X (ix2 i j) = (nat2 X i.val j.val : EReal) := by
  unfold nat2
  rw [dif_pos ⟨i.isLt, j.isLt⟩]
  exact toReal_of (h _)

theorem nat3_eq {a b c : ℕ} {X : Shape.Idx ⟨3, ![a, b, c]⟩ → EReal} (h : AllReal X) (i : Fin a) (j : Fin b) (k : Fin c) :
    X (ix3 i j k) = (nat3 X i.val j.val k.val : EReal) := by
  unfold nat3
  rw [dif_pos ⟨i.isLt, j.isLt, k.isLt⟩]
  exact toReal_of (h _)

end Cert.RealKit
-- ==== Proof.FfnSpec.lean ====
/- The gated feed-forward half of the block over the reals: what its result is, entry by entry. -/
module

public import proofs.«01_k».proof.Proof.RealKit

@[expose] public section

noncomputable section

namespace Cert.Ffn

open Idealize.ShloMosaic Cert.RealKit

/-- The arrays the feed-forward half reads, at any indices. -/
structure In where
  x : ℕ → ℕ → ℕ → ℝ
  md : ℕ → ℕ → ℝ
  gpre : ℕ → ℝ
  gpost : ℕ → ℝ
  w : ℕ → ℕ → ℝ
  cw : ℕ → ℕ → ℝ
  cb : ℕ → ℝ
  wd : ℕ → ℕ → ℝ

namespace In
variable (I : In)

/-- The normalised, modulated row. -/
def hid (b s d : ℕ) : ℝ := I.x b s d * rs (I.x b s) * I.gpre d * (1 + I.md b (4096 + d)) + I.md b (3072 + d)
/-- The up projection. -/
def up (b s f : ℕ) : ℝ := ∑ d : Fin 1024, I.hid b s d.val * I.w d.val f
/-- The up projection `k` rows earlier, zero before the sequence. -/
def back (k b s f : ℕ) : ℝ := if s < k then 0 else I.up b (s - k) f
/-- The causal convolution of width three. -/
def cv (b s f : ℕ) : ℝ := I.cb f + I.cw 0 f * I.back 2 b s f + I.cw 1 f * I.back 1 b s f + I.cw 2 f * I.back 0 b s f
/-- The gated activation. -/
def act (b s j : ℕ) : ℝ := gelu (I.cv b s j) * I.cv b s (2816 + j)
/-- The down projection. -/
def ff (b s d : ℕ) : ℝ := ∑ j : Fin 2816, I.act b s j.val * I.wd j.val d
/-- The result. -/
def out (b s d : ℕ) : ℝ := I.x b s d + I.md b (5120 + d) * (I.ff b s d * rs (I.ff b s) * I.gpost d)
end In

end Cert.Ffn
-- ==== Proof.FfnKit.lean ====
/- The column buffer of the feed-forward kernel, slab by slab: what a read finds after the tile's rows and the kept
   history have been stored. -/
module

public import proofs.«01_k».proof.Proof.FfnSpec
public import proofs.«01_k».proof.Proof.Gen.Kernel2Ideal.Frame
public import Idealize.ShloMosaic.Lib.Pipeline.ValueKit
public import Idealize.ShloMosaic.Lib.WritesUnit

@[expose] public section

set_option maxRecDepth 16384

noncomputable section

namespace Cert.Ffn

open Idealize.ShloMosaic Cert.Kernel2Ideal

/-- A memory of 44 slabs of 520 rows by 128 columns, as a function of its index. -/
abbrev Slabs : Type := S44x520x128.Idx → EReal

/-- The tile's rows stand in the slabs of `U`, from row 8 on: row `8 + r`, slab `a`, column `l` holds `up r (128 a + l)`. -/
def Rows (up : ℕ → ℕ → ℝ) (U : List ℕ) (g : Slabs) : Prop :=
  ∀ (a : Fin 44) (r : Fin 520) (l : Fin 128), 8 ≤ r.val → a.val ∈ U →
    g (ix3 a r l) = (up (r.val - 8) (128 * a.val + l.val) : EReal)

/-- The first eight rows outside the slabs of `H` are the rows `hist`. -/
def Old (hist : ℕ → ℕ → ℝ) (H : List ℕ) (g : Slabs) : Prop :=
  ∀ (a : Fin 44) (r : Fin 520) (l : Fin 128), r.val < 8 → a.val ∉ H →
    g (ix3 a r l) = (hist r.val (128 * a.val + l.val) : EReal)

/-- The first eight rows in the slabs of `H` are the tile's last eight. -/
def Kept (up : ℕ → ℕ → ℝ) (H : List ℕ) (g : Slabs) : Prop :=
  ∀ (a : Fin 44) (r : Fin 520) (l : Fin 128), r.val < 8 → a.val ∈ H →
    g (ix3 a r l) = (up (504 + r.val) (128 * a.val + l.val) : EReal)

/-- Row `r - k` of the tile, from the history when that lies before it. -/
def prev (up hist : ℕ → ℕ → ℝ) (k r f : ℕ) : ℝ := if r < k then hist (8 + r - k) f else up (r - k) f

section
variable {sig : RefSig} {sp : Space} {v : View sig .tc sp S44x520x128 .f32} {up hist : ℕ → ℕ → ℝ} {U H : List ℕ}
  {f : v.ty.Contents (Elt Ideal)} {L : List (View.Piece (Elt Ideal) S44x520x128 .f32)}

/-- What the buffer reads after the pieces `L` over contents `f`. -/
abbrev after (v : View sig .tc sp S44x520x128 .f32) (f : v.ty.Contents (Elt Ideal))
    (L : List (View.Piece (Elt Ideal) S44x520x128 .f32)) : Slabs := v.read (Elt Ideal) (v.writes (Elt Ideal) f L)

theorem Rows.nil (g : Slabs) : Rows up [] g := fun _ _ _ _ h => absurd h (List.not_mem_nil)

theorem Rows.put {j : ℕ} {inb} {w : (Rect.unit (s := S44x520x128) ![j, 8, 0] S1x512x128.size inb).shape.Idx → EReal}
    (h : Rows up U (after v f L)) (hw : ∀ (r : Fin 512) (l : Fin 128), w (ix3 0 r l) = (up r.val (128 * j + l.val) : EReal)) :
    Rows up (j :: U) (after v f (⟨Rect.unit ![j, 8, 0] S1x512x128.size inb, w⟩ :: L)) := by
  intro a r l hr ha
  by_cases e : a.val = j
  · refine (View.read_writes_cons_unit_of_mem v f inb w L (ix3 a r l) (ix3 0 ⟨r.val - 8, by omega⟩ l) rfl ?_).trans ?_
    · intro x
      fin_cases x
      · simpa using e
      · show r.val = 8 + (r.val - 8); omega
      · show l.val = 0 + l.val; omega
    · rw [hw, e]
  · refine (View.read_writes_cons_unit_of_not_mem v f inb w L (ix3 a r l) rfl 0 ?_).trans
      (h a r l hr ((List.mem_cons.mp ha).resolve_left e))
    show a.val < j ∨ j + 1 ≤ a.val
    omega

theorem Rows.keep {j : ℕ} {inb} {w : (Rect.unit (s := S44x520x128) ![j, 0, 0] S1x8x128.size inb).shape.Idx → EReal}
    (h : Rows up U (after v f L)) : Rows up U (after v f (⟨Rect.unit ![j, 0, 0] S1x8x128.size inb, w⟩ :: L)) := by
  intro a r l hr ha
  refine (View.read_writes_cons_unit_of_not_mem v f inb w L (ix3 a r l) rfl 1 ?_).trans (h a r l hr ha)
  show r.val < 0 ∨ 0 + 8 ≤ r.val
  omega

theorem Old.put {j : ℕ} {inb} {w : (Rect.unit (s := S44x520x128) ![j, 8, 0] S1x512x128.size inb).shape.Idx → EReal}
    (h : Old hist H (after v f L)) : Old hist H (after v f (⟨Rect.unit ![j, 8, 0] S1x512x128.size inb, w⟩ :: L)) := by
  intro a r l hr ha
  refine (View.read_writes_cons_unit_of_not_mem v f inb w L (ix3 a r l) rfl 1 ?_).trans (h a r l hr ha)
  show r.val < 8 ∨ 8 + 512 ≤ r.val
  omega

theorem Old.keep {j : ℕ} {inb} {w : (Rect.unit (s := S44x520x128) ![j, 0, 0] S1x8x128.size inb).shape.Idx → EReal}
    (h : Old hist H (after v f L)) : Old hist (j :: H) (after v f (⟨Rect.unit ![j, 0, 0] S1x8x128.size inb, w⟩ :: L)) := by
  intro a r l hr ha
  have e : a.val ≠ j := fun e => ha (e ▸ List.mem_cons_self)
  refine (View.read_writes_cons_unit_of_not_mem v f inb w L (ix3 a r l) rfl 0 ?_).trans
    (h a r l hr fun h' => ha (List.mem_cons_of_mem _ h'))
  show a.val < j ∨ j + 1 ≤ a.val
  omega

theorem Old.base {xs : Slabs} (h : Old hist [] xs) (hf : v.read (Elt Ideal) f = xs) : Old hist [] (after v f []) :=
  fun a r l hr ha => (congrFun hf _).trans (h a r l hr ha)

theorem Old.zero {inb} {w : (Rect.unit (s := S44x520x128) ![0, 0, 0] S44x8x128.size inb).shape.Idx → EReal}
    (hw : ∀ (a : Fin 44) (r : Fin 8) (l : Fin 128), w (ix3 a r l) = (0 : EReal)) (h0 : ∀ r f, r < 8 → hist r f = 0) :
    Old hist [] (after v f [⟨Rect.unit ![0, 0, 0] S44x8x128.size inb, w⟩]) := by
  intro a r l hr _
  refine (View.read_writes_cons_unit_of_mem v f inb w [] (ix3 a r l) (ix3 a ⟨r.val, hr⟩ l) rfl ?_).trans ?_
  · intro x
    fin_cases x
    · show a.val = 0 + a.val; omega
    · show r.val = 0 + r.val; omega
    · show l.val = 0 + l.val; omega
  · rw [hw, h0 _ _ hr, EReal.coe_zero]

theorem Kept.nil (g : Slabs) : Kept up [] g := fun _ _ _ _ h => absurd h (List.not_mem_nil)

theorem Kept.put {j : ℕ} {inb} {w : (Rect.unit (s := S44x520x128) ![j, 8, 0] S1x512x128.size inb).shape.Idx → EReal}
    (h : Kept up H (after v f L)) : Kept up H (after v f (⟨Rect.unit ![j, 8, 0] S1x512x128.size inb, w⟩ :: L)) := by
  intro a r l hr ha
  refine (View.read_writes_cons_unit_of_not_mem v f inb w L (ix3 a r l) rfl 1 ?_).trans (h a r l hr ha)
  show r.val < 8 ∨ 8 + 512 ≤ r.val
  omega

theorem Kept.keep {j : ℕ} {inb} {w : (Rect.unit (s := S44x520x128) ![j, 0, 0] S1x8x128.size inb).shape.Idx → EReal}
    (h : Kept up H (after v f L))
    (hw : ∀ (r : Fin 8) (l : Fin 128), w (ix3 0 r l) = (up (504 + r.val) (128 * j + l.val) : EReal)) :
    Kept up (j :: H) (after v f (⟨Rect.unit ![j, 0, 0] S1x8x128.size inb, w⟩ :: L)) := by
  intro a r l hr ha
  by_cases e : a.val = j
  · refine (View.read_writes_cons_unit_of_mem v f inb w L (ix3 a r l) (ix3 0 ⟨r.val, hr⟩ l) rfl ?_).trans ?_
    · intro x
      fin_cases x
      · simpa using e
      · show r.val = 0 + r.val; omega
      · show l.val = 0 + l.val; omega
    · rw [hw, e]
  · refine (View.read_writes_cons_unit_of_not_mem v f inb w L (ix3 a r l) rfl 0 ?_).trans
      (h a r l hr ((List.mem_cons.mp ha).resolve_left e))
    show a.val < j ∨ j + 1 ≤ a.val
    omega

/-- The rows `8 - k …` of slab `j`: the tile's rows, `k` earlier. -/
theorem load_prev {j o : ℕ} {inb} (k : ℕ) (hR : Rows up U (after v f L)) (hO : Old hist H (after v f L)) (hj : j ∈ U)
    (hh : j ∉ H) (ho : o + k = 8) (r : Fin 512) (l : Fin 128) :
    v.readAt (Elt Ideal) (Rect.unit (s := S44x520x128) ![j, o, 0] S1x512x128.size inb).toLoadRect
      (v.writes (Elt Ideal) f L) (ix3 0 r l) = (prev up hist k r.val (128 * j + l.val) : EReal) := by
  have hj4 : j < 44 := by have := inb 0; simpa using this
  have ei : (Rect.unit (s := S44x520x128) ![j, o, 0] S1x512x128.size inb).toLoadRect.idx (ix3 0 r l)
      = ix3 (⟨j, hj4⟩ : Fin 44) (⟨o + r.val, by omega⟩ : Fin 520) l := by
    funext x
    apply Fin.ext
    fin_cases x
    · show j + 0 * 1 = j; omega
    · show o + 1 * r.val = o + r.val; omega
    · show 0 + 1 * l.val = l.val; omega
  rw [View.readAt_apply, ei]
  unfold prev
  split_ifs with hk
  · refine (hO _ _ _ ?_ hh).trans ?_
    · show o + r.val < 8; omega
    · show ((hist (o + r.val) _ : ℝ) : EReal) = _
      rw [show o + r.val = 8 + r.val - k by omega]
  · refine (hR _ _ _ ?_ hj).trans ?_
    · show 8 ≤ o + r.val; omega
    · show ((up (o + r.val - 8) _ : ℝ) : EReal) = _
      rw [show o + r.val - 8 = r.val - k by omega]

/-- The last eight rows of slab `j`. -/
theorem load_last {j : ℕ} {inb} (hR : Rows up U (after v f L)) (hj : j ∈ U) (r : Fin 8) (l : Fin 128) :
    v.readAt (Elt Ideal) (Rect.unit (s := S44x520x128) ![j, 512, 0] S1x8x128.size inb).toLoadRect
      (v.writes (Elt Ideal) f L) (ix3 0 r l) = (up (504 + r.val) (128 * j + l.val) : EReal) := by
  have hj4 : j < 44 := by have := inb 0; simpa using this
  have ei : (Rect.unit (s := S44x520x128) ![j, 512, 0] S1x8x128.size inb).toLoadRect.idx (ix3 0 r l)
      = ix3 (⟨j, hj4⟩ : Fin 44) (⟨512 + r.val, by omega⟩ : Fin 520) l := by
    funext x
    apply Fin.ext
    fin_cases x
    · show j + 0 * 1 = j; omega
    · show 512 + 1 * r.val = 512 + r.val; omega
    · show 0 + 1 * l.val = l.val; omega
  rw [View.readAt_apply, ei]
  refine (hR _ _ _ ?_ hj).trans ?_
  · show 8 ≤ 512 + r.val; omega
  · show ((up (512 + r.val - 8) _ : ℝ) : EReal) = _
    rw [show 512 + r.val - 8 = 504 + r.val by omega]
end

end Cert.Ffn
-- ==== Proof.FfnPay.lean ====
/- What the feed-forward kernel's pure parts compute on tiles that hold real arrays. -/
module

public import proofs.«01_k».proof.Proof.FfnKit

@[expose] public section

set_option maxRecDepth 16384

noncomputable section

namespace Cert.Ffn

open Idealize.ShloMosaic Cert.RealKit Cert.Kernel2Ideal Cert.Kernel2Ideal.Gen

/-! ## Moves -/

theorem sq {X : FVec Ideal S1x512x128 .f32} {h} (r : Fin 512) (l : Fin 128) :
    shapeCast S512x128 X h (ix2 r l) = X (ix3 0 r l) := by
  pointwise

theorem unsq {X : FVec Ideal S512x128 .f32} {h} (r : Fin 512) (l : Fin 128) :
    shapeCast S1x512x128 X h (ix3 0 r l) = X (ix2 r l) := by
  pointwise

theorem sq8 {X : FVec Ideal S1x8x128 .f32} {h h'} (r : Fin 8) (l : Fin 128) :
    shapeCast S1x8x128 (shapeCast S8x128 X h) h' (ix3 0 r l) = X (ix3 0 r l) := by
  pointwise

/-- Slab `j` of a block of 1536 columns that starts at column `lo`. -/
theorem cutA {Y : FVec Ideal S512x1536 .f32} {g : ℕ → ℕ → ℝ} {N j : ℕ} {h} (lo : ℕ)
    (hY : ∀ (r : Fin 512) (n : Fin 1536), Y (ix2 r n) = (g r.val (lo + n.val) : EReal)) (e : lo + N = 128 * j) (r : Fin 512) (l : Fin 128) :
    extractStridedSlice S512x128 ![0, N] Y h (ix2 r l) = (g r.val (128 * j + l.val) : EReal) := by
  have hN : N + 128 ≤ 1536 := by have := h.2 1; simpa using this
  have : extractStridedSlice S512x128 ![0, N] Y h (ix2 r l) = Y (ix2 r ⟨N + l.val, by omega⟩) := by
    pointwise
  rw [this, hY]
  show ((g r.val (lo + (N + l.val)) : ℝ) : EReal) = _
  rw [← Nat.add_assoc, e]

theorem cutB {Y : FVec Ideal S512x1280 .f32} {g : ℕ → ℕ → ℝ} {N j : ℕ} {h} (lo : ℕ)
    (hY : ∀ (r : Fin 512) (n : Fin 1280), Y (ix2 r n) = (g r.val (lo + n.val) : EReal)) (e : lo + N = 128 * j) (r : Fin 512) (l : Fin 128) :
    extractStridedSlice S512x128 ![0, N] Y h (ix2 r l) = (g r.val (128 * j + l.val) : EReal) := by
  have hN : N + 128 ≤ 1280 := by have := h.2 1; simpa using this
  have : extractStridedSlice S512x128 ![0, N] Y h (ix2 r l) = Y (ix2 r ⟨N + l.val, by omega⟩) := by
    pointwise
  rw [this, hY]
  show ((g r.val (lo + (N + l.val)) : ℝ) : EReal) = _
  rw [← Nat.add_assoc, e]

/-- A slab's columns laid at their place among the `lo + n`. -/
abbrev Slab (g : ℕ → ℕ → ℝ) (j : ℕ) (p : FVec Ideal S512x128 .f32) : Prop :=
  ∀ (r : Fin 512) (l : Fin 128), p (ix2 r l) = (g r.val (128 * j + l.val) : EReal)

theorem cat_slabs {t : Shape} {g : ℕ → ℕ → ℝ} (b : ℕ) (a : Fin t.rank) (hr : S512x128.rank = t.rank) (ha1 : (1 : Fin S512x128.rank).cast hr = a)
    (ps : List (FVec Ideal S512x128 .f32)) {h} (j : t.Idx) (r : Fin 512) (n : ℕ) (hr0 : r.val = (j ((0 : Fin S512x128.rank).cast hr)).val)
    (hn : n = (j a).val) (hl : n < 128 * ps.length) (H : ∀ k (hk : k < ps.length), Slab g (b + k) ps[k]) :
    concatenate t a (ps.map fun p => ⟨S512x128, p⟩) h j = (g r.val (128 * b + n) : EReal) := by
  have hk : n / 128 < ps.length := by omega
  have hs : ∀ k ≤ ps.length, ((((ps.map fun p => (⟨S512x128, p⟩ : (s : Shape) × (s.Idx → EReal))).take k).map (·.1)).map
      fun s => if h : s.rank = t.rank then s.size (a.cast h.symm) else 0).sum = 128 * k := by
    intro k hk
    rw [← List.map_take, List.map_map, List.map_map]
    rw [List.map_congr_left (g := fun _ => 128) fun p _ => ?_]
    · rw [List.map_const', List.sum_replicate, List.length_take, smul_eq_mul, min_eq_left hk, Nat.mul_comm]
    · show (if h : S512x128.rank = t.rank then S512x128.size (a.cast h.symm) else 0) = 128
      rw [dif_pos hr, ← ha1]; rfl
  rw [concatenate_apply_piece a _ h j (n / 128) (by simpa using hk) S512x128 ps[n / 128] (by simp) hr (128 * (n / 128))
    (hs _ hk.le) (ix2 r ⟨n % 128, Nat.mod_lt _ (by decide)⟩) ?_ ?_, H (n / 128) hk]
  · show ((g r.val (128 * (b + n / 128) + n % 128) : ℝ) : EReal) = _
    congr 2; omega
  · intro c hc
    fin_cases c
    · exact hr0
    · exact absurd ha1 hc
  · subst ha1
    rw [← hn]
    show 128 * (n / 128) + n % 128 = n
    omega

theorem cat12 {g : ℕ → ℕ → ℝ} (b : ℕ) {p0 p1 p2 p3 p4 p5 p6 p7 p8 p9 p10 p11 : FVec Ideal S512x128 .f32} {h}
    (h0 : Slab g (b + 0) p0) (h1 : Slab g (b + 1) p1) (h2 : Slab g (b + 2) p2) (h3 : Slab g (b + 3) p3) (h4 : Slab g (b + 4) p4)
    (h5 : Slab g (b + 5) p5) (h6 : Slab g (b + 6) p6) (h7 : Slab g (b + 7) p7) (h8 : Slab g (b + 8) p8) (h9 : Slab g (b + 9) p9)
    (h10 : Slab g (b + 10) p10) (h11 : Slab g (b + 11) p11) (r : Fin 512) (n : Fin 1536) :
    concatenate S512x1536 1 [⟨S512x128, p0⟩, ⟨S512x128, p1⟩, ⟨S512x128, p2⟩, ⟨S512x128, p3⟩, ⟨S512x128, p4⟩, ⟨S512x128, p5⟩,
      ⟨S512x128, p6⟩, ⟨S512x128, p7⟩, ⟨S512x128, p8⟩, ⟨S512x128, p9⟩, ⟨S512x128, p10⟩, ⟨S512x128, p11⟩] h (ix2 r n)
      = (g r.val (128 * b + n.val) : EReal) := by
  exact cat_slabs (t := S512x1536) b 1 rfl rfl [p0, p1, p2, p3, p4, p5, p6, p7, p8, p9, p10, p11] (ix2 r n) r n.val rfl rfl n.isLt fun k hk => by
    simp only [List.length_cons, List.length_nil] at hk
    interval_cases k
    exacts [h0, h1, h2, h3, h4, h5, h6, h7, h8, h9, h10, h11]

theorem cat10 {g : ℕ → ℕ → ℝ} (b : ℕ) {p0 p1 p2 p3 p4 p5 p6 p7 p8 p9 : FVec Ideal S512x128 .f32} {h}
    (h0 : Slab g (b + 0) p0) (h1 : Slab g (b + 1) p1) (h2 : Slab g (b + 2) p2) (h3 : Slab g (b + 3) p3) (h4 : Slab g (b + 4) p4)
    (h5 : Slab g (b + 5) p5) (h6 : Slab g (b + 6) p6) (h7 : Slab g (b + 7) p7) (h8 : Slab g (b + 8) p8) (h9 : Slab g (b + 9) p9)
    (r : Fin 512) (n : Fin 1280) :
    concatenate S512x1280 1 [⟨S512x128, p0⟩, ⟨S512x128, p1⟩, ⟨S512x128, p2⟩, ⟨S512x128, p3⟩, ⟨S512x128, p4⟩, ⟨S512x128, p5⟩,
      ⟨S512x128, p6⟩, ⟨S512x128, p7⟩, ⟨S512x128, p8⟩, ⟨S512x128, p9⟩] h (ix2 r n)
      = (g r.val (128 * b + n.val) : EReal) := by
  exact cat_slabs (t := S512x1280) b 1 rfl rfl [p0, p1, p2, p3, p4, p5, p6, p7, p8, p9] (ix2 r n) r n.val rfl rfl n.isLt fun k hk => by
    simp only [List.length_cons, List.length_nil] at hk
    interval_cases k
    exacts [h0, h1, h2, h3, h4, h5, h6, h7, h8, h9]

/-! ## The arithmetic -/

section
variable (I : In) (b s : ℕ)

theorem pay_hid {x : FVec Ideal S1x512x1024 .f32} {sh sc g : FVec Ideal S1x1024 .f32}
    (hx : ∀ (r : Fin 512) (d : Fin 1024), x (ix3 0 r d) = (I.x b (s + r.val) d.val : EReal))
    (hsh : ∀ d : Fin 1024, sh (ix2 0 d) = (I.md b (3072 + d.val) : EReal))
    (hsc : ∀ d : Fin 1024, sc (ix2 0 d) = (I.md b (4096 + d.val) : EReal))
    (hg : ∀ d : Fin 1024, g (ix2 0 d) = (I.gpre d.val : EReal)) (r : Fin 512) (d : Fin 1024) :
    k0_pay4 (F := Ideal) x sh sc g (ix2 r d) = (I.hid b (s + r.val) d.val : EReal) := by
  pointwise [k0_pay4, k0_pay3]
  simp only [hx, hsh, hsc, hg, ← EReal.coe_mul, ← coe_sum]
  rw [word_1024, word_eps, rsqrt_rs (I.x b (s + r.val)), ← EReal.coe_one]
  simp only [← EReal.coe_mul, ← EReal.coe_add]
  congr 1
  unfold In.hid
  ring

variable {I b s}

theorem pay_upA {h : FVec Ideal S512x1024 .bf16} {w : FVec Ideal S1024x1536 .bf16} (lo : ℕ)
    (hh : ∀ (r : Fin 512) (d : Fin 1024), h (ix2 r d) = (I.hid b (s + r.val) d.val : EReal))
    (hw : ∀ (d : Fin 1024) (n : Fin 1536), w (ix2 d n) = (I.w d.val (lo + n.val) : EReal)) (r : Fin 512) (n : Fin 1536) :
    k0_pay46 (F := Ideal) h w (ix2 r n) = (I.up b (s + r.val) (lo + n.val) : EReal) := by
  pointwise [k0_pay46]
  simp only [hh, hw, ← EReal.coe_mul, ← coe_sum]
  rfl

theorem pay_upB {h : FVec Ideal S512x1024 .bf16} {w : FVec Ideal S1024x1280 .bf16} (lo : ℕ)
    (hh : ∀ (r : Fin 512) (d : Fin 1024), h (ix2 r d) = (I.hid b (s + r.val) d.val : EReal))
    (hw : ∀ (d : Fin 1024) (n : Fin 1280), w (ix2 d n) = (I.w d.val (lo + n.val) : EReal)) (r : Fin 512) (n : Fin 1280) :
    k0_pay102 (F := Ideal) h w (ix2 r n) = (I.up b (s + r.val) (lo + n.val) : EReal) := by
  pointwise [k0_pay102]
  simp only [hh, hw, ← EReal.coe_mul, ← coe_sum]
  rfl

theorem back_zero (k f : ℕ) : I.up b k f = I.back 0 b k f := by
  unfold In.back; rw [if_neg (Nat.not_lt_zero _)]; rfl

theorem pay_gateA {u u1 u2 : FVec Ideal S512x1536 .f32} {w : FVec Ideal S1x3x1536 .f32} {c : FVec Ideal S1x1536 .f32}
    (hu : ∀ (r : Fin 512) (n : Fin 1536), u (ix2 r n) = (I.up b (s + r.val) (0 + n.val) : EReal))
    (h1 : ∀ (r : Fin 512) (n : Fin 1536), u1 (ix2 r n) = (I.back 1 b (s + r.val) (0 + n.val) : EReal))
    (h2 : ∀ (r : Fin 512) (n : Fin 1536), u2 (ix2 r n) = (I.back 2 b (s + r.val) (0 + n.val) : EReal))
    (hw : ∀ (k : Fin 3) (n : Fin 1536), w (ix3 0 k n) = (I.cw k.val (0 + n.val) : EReal))
    (hc : ∀ n : Fin 1536, c (ix2 0 n) = (I.cb (0 + n.val) : EReal)) (r : Fin 512) (n : Fin 1536) :
    k0_pay45 (F := Ideal) u u1 u2 w c (ix2 r n) = (I.cv b (s + r.val) n.val : EReal) := by
  pointwise [k0_pay45]
  simp only [hu, Nat.zero_add, h1, h2, hw, hc, ← EReal.coe_mul, ← EReal.coe_add, back_zero]
  rfl

theorem pay_gateB {u u1 u2 : FVec Ideal S512x1280 .f32} {w : FVec Ideal S1x3x1280 .f32} {c : FVec Ideal S1x1280 .f32}
    (hu : ∀ (r : Fin 512) (n : Fin 1280), u (ix2 r n) = (I.up b (s + r.val) (1536 + n.val) : EReal))
    (h1 : ∀ (r : Fin 512) (n : Fin 1280), u1 (ix2 r n) = (I.back 1 b (s + r.val) (1536 + n.val) : EReal))
    (h2 : ∀ (r : Fin 512) (n : Fin 1280), u2 (ix2 r n) = (I.back 2 b (s + r.val) (1536 + n.val) : EReal))
    (hw : ∀ (k : Fin 3) (n : Fin 1280), w (ix3 0 k n) = (I.cw k.val (1536 + n.val) : EReal))
    (hc : ∀ n : Fin 1280, c (ix2 0 n) = (I.cb (1536 + n.val) : EReal)) (r : Fin 512) (n : Fin 1280) :
    k0_pay136 (F := Ideal) u u1 u2 w c (ix2 r n) = (I.cv b (s + r.val) (1536 + n.val) : EReal) := by
  pointwise [k0_pay136]
  simp only [hu, h1, h2, hw, hc, ← EReal.coe_mul, ← EReal.coe_add, back_zero]
  rfl

theorem pay_pairA {a u u1 u2 : FVec Ideal S512x1536 .f32} {w : FVec Ideal S1x3x1536 .f32} {c : FVec Ideal S1x1536 .f32}
    (ha : ∀ (r : Fin 512) (n : Fin 1536), a (ix2 r n) = (I.cv b (s + r.val) n.val : EReal))
    (hu : ∀ (r : Fin 512) (n : Fin 1536), u (ix2 r n) = (I.up b (s + r.val) (2816 + n.val) : EReal))
    (h1 : ∀ (r : Fin 512) (n : Fin 1536), u1 (ix2 r n) = (I.back 1 b (s + r.val) (2816 + n.val) : EReal))
    (h2 : ∀ (r : Fin 512) (n : Fin 1536), u2 (ix2 r n) = (I.back 2 b (s + r.val) (2816 + n.val) : EReal))
    (hw : ∀ (k : Fin 3) (n : Fin 1536), w (ix3 0 k n) = (I.cw k.val (2816 + n.val) : EReal))
    (hc : ∀ n : Fin 1536, c (ix2 0 n) = (I.cb (2816 + n.val) : EReal)) (r : Fin 512) (n : Fin 1536) :
    k0_pay99 (F := Ideal) a u u1 u2 w c (ix2 r n)
      = (I.cv b (s + r.val) n.val * (1 / 2 * I.cv b (s + r.val) (2816 + n.val)) : ℝ) := by
  pointwise [k0_pay99]
  simp only [ha, hu, h1, h2, hw, hc, word_half, ← EReal.coe_mul, ← EReal.coe_add, back_zero]
  simp only [Fin.isValue, Fin.val_zero, Fin.val_one, Fin.val_two]
  congr 1
  unfold In.cv
  ring

theorem word_ka : Named.named (F := Ideal) (φ := .f32) Cert.Kernel2Ideal.κ "gelu_ka" 0x3D122279#32 = ((gk * ga : ℝ) : EReal) := by
  rw [IdealRules.named_const.ideal_named_scalar _ _ _ _ rfl]
  unfold gk ga
  norm_num

/-- One entry of the gated activation, as the kernel forms it from the gate `a` and half the other factor `c`. -/
theorem act_eq (a c : ℝ) :
    a * (1 / 2 * c) + a * (1 / 2 * c) * Real.tanh (a * (gk + gk * ga * (a * a))) = gelu a * c := by
  unfold gelu
  rw [show gk * (a + ga * (a * a * a)) = a * (gk + gk * ga * (a * a)) by ring]
  ring

theorem pay_downA {a p : FVec Ideal S512x1536 .f32} {w : FVec Ideal S1536x1024 .bf16}
    (ha : ∀ (r : Fin 512) (n : Fin 1536), a (ix2 r n) = (I.cv b (s + r.val) n.val : EReal))
    (hp : ∀ (r : Fin 512) (n : Fin 1536), p (ix2 r n) = (I.cv b (s + r.val) n.val * (1 / 2 * I.cv b (s + r.val) (2816 + n.val)) : ℝ))
    (hw : ∀ (j : Fin 1536) (d : Fin 1024), w (ix2 j d) = (I.wd (0 + j.val) d.val : EReal)) (r : Fin 512) (d : Fin 1024) :
    k0_pay101 (F := Ideal) a p (k0_pay100 a) (Scalar.ofBits .f32 0x3F4C422A#32) w (ix2 r d)
      = ((∑ j : Fin 1536, I.act b (s + r.val) j.val * I.wd j.val d.val : ℝ) : EReal) := by
  pointwise [k0_pay101, k0_pay100]
  simp only [ha, hp, hw, Nat.zero_add, word_ka, word_gk, ← EReal.coe_mul, ← EReal.coe_add, Ideal.tanh_coe, act_eq, ← coe_sum]
  rfl

theorem pay_out {x : FVec Ideal S512x1024 .f32} {gt : FVec Ideal S1x1024 .f32} {y : FVec Ideal S512x1024 .f32}
    {a u u1 u2 : FVec Ideal S512x1280 .f32} {w : FVec Ideal S1x3x1280 .f32} {c : FVec Ideal S1x1280 .f32} {wd : FVec Ideal S1280x1024 .bf16}
    {g : FVec Ideal S1x1024 .f32}
    (hx : ∀ (r : Fin 512) (d : Fin 1024), x (ix2 r d) = (I.x b (s + r.val) d.val : EReal))
    (hgt : ∀ d : Fin 1024, gt (ix2 0 d) = (I.md b (5120 + d.val) : EReal))
    (hy : ∀ (r : Fin 512) (d : Fin 1024), y (ix2 r d) = ((∑ j : Fin 1536, I.act b (s + r.val) j.val * I.wd j.val d.val : ℝ) : EReal))
    (ha : ∀ (r : Fin 512) (n : Fin 1280), a (ix2 r n) = (I.cv b (s + r.val) (1536 + n.val) : EReal))
    (hu : ∀ (r : Fin 512) (n : Fin 1280), u (ix2 r n) = (I.up b (s + r.val) (4352 + n.val) : EReal))
    (h1 : ∀ (r : Fin 512) (n : Fin 1280), u1 (ix2 r n) = (I.back 1 b (s + r.val) (4352 + n.val) : EReal))
    (h2 : ∀ (r : Fin 512) (n : Fin 1280), u2 (ix2 r n) = (I.back 2 b (s + r.val) (4352 + n.val) : EReal))
    (hw : ∀ (k : Fin 3) (n : Fin 1280), w (ix3 0 k n) = (I.cw k.val (4352 + n.val) : EReal))
    (hc : ∀ n : Fin 1280, c (ix2 0 n) = (I.cb (4352 + n.val) : EReal))
    (hd : ∀ (j : Fin 1280) (d : Fin 1024), wd (ix2 j d) = (I.wd (1536 + j.val) d.val : EReal))
    (hg : ∀ d : Fin 1024, g (ix2 0 d) = (I.gpost d.val : EReal)) (r : Fin 512) (d : Fin 1024) :
    k0_pay1 (F := Ideal) (k0_pay165 x gt y a u u1 u2 (k0_pay163 w) (k0_pay164 c) wd g) (ix3 0 r d) = (I.out b (s + r.val) d.val : EReal) := by
  have hff : ∀ e : Fin 1024, (∑ j : Fin 1536, I.act b (s + r.val) j.val * I.wd j.val e.val)
      + (∑ j : Fin 1280, gelu (I.cv b (s + r.val) (1536 + j.val)) * I.cv b (s + r.val) (4352 + j.val) * I.wd (1536 + j.val) e.val)
      = I.ff b (s + r.val) e.val := by
    intro e
    unfold In.ff
    rw [show (∑ j : Fin 2816, I.act b (s + r.val) j.val * I.wd j.val e.val)
      = ∑ j : Fin (1536 + 1280), I.act b (s + r.val) j.val * I.wd j.val e.val from rfl, Fin.sum_univ_add]
    refine congrArg (_ + ·) (Finset.sum_congr rfl fun j _ => ?_)
    show _ = I.act b (s + r.val) (1536 + j.val) * I.wd (1536 + j.val) e.val
    unfold In.act
    rw [show 2816 + (1536 + j.val) = 4352 + j.val by omega]
  have hcv : ∀ n : Fin 1280, 1 / 2 * I.cv b (s + r.val) (4352 + n.val)
      = I.cb (4352 + n.val) * (1 / 2) + I.cw 0 (4352 + n.val) * (1 / 2) * I.back 2 b (s + r.val) (4352 + n.val)
        + I.cw 1 (4352 + n.val) * (1 / 2) * I.back 1 b (s + r.val) (4352 + n.val)
        + I.cw 2 (4352 + n.val) * (1 / 2) * I.back 0 b (s + r.val) (4352 + n.val) := by
    intro n; unfold In.cv; ring
  pointwise [k0_pay1, k0_pay165, k0_pay163, k0_pay164]
  simp only [hx, hgt, hy, ha, hu, h1, h2, hw, hc, hd, hg, word_ka, word_gk, word_half, ← EReal.coe_mul, ← EReal.coe_add, Ideal.tanh_coe,
    back_zero, ← coe_sum]
  simp only [Fin.isValue, Fin.val_zero, Fin.val_one, Fin.val_two, ← hcv, act_eq, hff]
  rw [word_1024, word_eps, rsqrt_rs (I.ff b (s + r.val))]
  simp only [← EReal.coe_mul, ← EReal.coe_add]
  congr 1
  unfold In.out
  ring
end

end Cert.Ffn
-- ==== Proof.FfnTile.lean ====
/- One tile of the feed-forward kernel: the blocks it reads hold real arrays, and the stages its column buffer goes through. -/
module

public import proofs.«01_k».proof.Proof.FfnPay

@[expose] public section

set_option maxRecDepth 16384

noncomputable section

namespace Cert.Ffn

open Idealize.ShloMosaic Cert.RealKit Cert.Kernel2Ideal Cert.Kernel2Ideal.Gen

/-- The blocks of the tile of batch `i 0` whose first row is `s` hold `I`'s arrays. -/
structure Blk (I : In) (i : grid0.Coords) (s : ℕ) (x0 : Vec Ideal S1x512x1024 .f32) (x1 : Vec Ideal S2x6144 .f32)
    (x2 x3 : Vec Ideal S1x1024 .f32) (x4 : Vec Ideal S1024x5632 .bf16) (x5 : Vec Ideal S1x3x5632 .f32) (x6 : Vec Ideal S1x5632 .f32)
    (x7 : Vec Ideal S2816x1024 .bf16) : Prop where
  h0 : ∀ (r : Fin 512) (d : Fin 1024), x0 (ix3 0 r d) = (I.x (i 0).val (s + r.val) d.val : EReal)
  h1 : ∀ (b : Fin 2) (j : Fin 6144), x1 (ix2 b j) = (I.md b.val j.val : EReal)
  h2 : ∀ (d : Fin 1024), x2 (ix2 0 d) = (I.gpre d.val : EReal)
  h3 : ∀ (d : Fin 1024), x3 (ix2 0 d) = (I.gpost d.val : EReal)
  h4 : ∀ (d : Fin 1024) (f : Fin 5632), x4 (ix2 d f) = (I.w d.val f.val : EReal)
  h5 : ∀ (k : Fin 3) (f : Fin 5632), x5 (ix3 0 k f) = (I.cw k.val f.val : EReal)
  h6 : ∀ (f : Fin 5632), x6 (ix2 0 f) = (I.cb f.val : EReal)
  h7 : ∀ (j : Fin 2816) (d : Fin 1024), x7 (ix2 j d) = (I.wd j.val d.val : EReal)

theorem off1 : ∀ i : grid0.Coords, k0_off1 i 0 = (i 0).val := by decide +kernel
theorem off2 : ∀ i : grid0.Coords, k0_off2 i 0 = (i 0).val := by decide +kernel
theorem off3 : ∀ i : grid0.Coords, k0_off3 i 0 = (i 0).val := by decide +kernel

theorem sq1024 {X : FVec Ideal S1x512x1024 .f32} {h} (r : Fin 512) (d : Fin 1024) :
    shapeCast S512x1024 X h (ix2 r d) = X (ix3 0 r d) := by
  pointwise

theorem pay_zero (a : Fin 44) (r : Fin 8) (l : Fin 128) : k0_pay2 (F := Ideal) (ix3 a r l) = (0 : EReal) := by
  pointwise [k0_pay2]

/-- A load from a whole buffer that holds `X`. -/
theorem ld_at {sh : Shape} {e : EltTy} {m : Memref sig .tc .vmem sh e} (h : m.IsWhole) (X : Vec Ideal sh e) (r : LoadRect sh) (y : r.shape.Idx)
    (z : sh.Idx) (ez : r.idx y = z) : m.view.readAt (Elt Ideal) r (h.unread X) y = X z := by
  rw [View.readAt_apply, h.read_unread, ez]

namespace Blk
variable {I : In} {i : grid0.Coords} {s : ℕ} {x0 : Vec Ideal S1x512x1024 .f32} {x1 : Vec Ideal S2x6144 .f32}
    {x2 x3 : Vec Ideal S1x1024 .f32} {x4 : Vec Ideal S1024x5632 .bf16} {x5 : Vec Ideal S1x3x5632 .f32} {x6 : Vec Ideal S1x5632 .f32}
    {x7 : Vec Ideal S2816x1024 .bf16} (B : Blk I i s x0 x1 x2 x3 x4 x5 x6 x7)
include B

theorem x {m : Memref sig .tc .vmem S1x512x1024 .f32} (h : m.IsWhole) {inb} (r : Fin 512) (d : Fin 1024) :
    m.view.readAt (Elt Ideal) (Rect.unit (s := S1x512x1024) ![0, 0, 0] S1x512x1024.size inb).toLoadRect (h.unread x0) (ix3 0 r d)
      = (I.x (i 0).val (s + r.val) d.val : EReal) := by
  refine (ld_at h x0 _ _ (ix3 0 r d) ?_).trans (B.h0 r d)
  funext x; apply Fin.ext
  fin_cases x
  · rfl
  · show 0 + 1 * r.val = r.val; omega
  · show 0 + 1 * d.val = d.val; omega

theorem md {m : Memref sig .tc .vmem S2x6144 .f32} (h : m.IsWhole) {off : Fin 2 → ℕ} {inb} (lo : ℕ) (e0 : off 0 = (i 0).val) (e1 : off 1 = lo)
    (d : Fin 1024) :
    m.view.readAt (Elt Ideal) (Rect.unit (s := S2x6144) off S1x1024.size inb).toLoadRect (h.unread x1) (ix2 0 d)
      = (I.md (i 0).val (lo + d.val) : EReal) := by
  have hb : lo + 1024 ≤ 6144 := by have := inb 1; rw [e1] at this; exact this
  refine (ld_at h x1 _ _ (ix2 (i 0) (⟨lo + d.val, by omega⟩ : Fin 6144)) ?_).trans (B.h1 _ _)
  funext x; apply Fin.ext
  fin_cases x
  · show off 0 + 1 * 0 = (i 0).val; omega
  · show off 1 + 1 * d.val = lo + d.val; omega

theorem gpre {m : Memref sig .tc .vmem S1x1024 .f32} (h : m.IsWhole) {inb} (d : Fin 1024) :
    m.view.readAt (Elt Ideal) (Rect.unit (s := S1x1024) ![0, 0] S1x1024.size inb).toLoadRect (h.unread x2) (ix2 0 d) = (I.gpre d.val : EReal) := by
  refine (ld_at h x2 _ _ (ix2 0 d) ?_).trans (B.h2 d)
  funext x; apply Fin.ext
  fin_cases x
  · rfl
  · show 0 + 1 * d.val = d.val; omega

theorem gpost {m : Memref sig .tc .vmem S1x1024 .f32} (h : m.IsWhole) {inb} (d : Fin 1024) :
    m.view.readAt (Elt Ideal) (Rect.unit (s := S1x1024) ![0, 0] S1x1024.size inb).toLoadRect (h.unread x3) (ix2 0 d) = (I.gpost d.val : EReal) := by
  refine (ld_at h x3 _ _ (ix2 0 d) ?_).trans (B.h3 d)
  funext x; apply Fin.ext
  fin_cases x
  · rfl
  · show 0 + 1 * d.val = d.val; omega

theorem w {m : Memref sig .tc .vmem S1024x5632 .bf16} (h : m.IsWhole) {lo N : ℕ} {inb} (d : Fin 1024) (n : Fin N) :
    m.view.readAt (Elt Ideal) (Rect.unit (s := S1024x5632) ![0, lo] ![1024, N] inb).toLoadRect (h.unread x4) (ix2 d n)
      = (I.w d.val (lo + n.val) : EReal) := by
  have hb : lo + N ≤ 5632 := inb 1
  refine (ld_at h x4 _ _ (ix2 d (⟨lo + n.val, by omega⟩ : Fin 5632)) ?_).trans (B.h4 _ _)
  funext x; apply Fin.ext
  fin_cases x
  · show 0 + 1 * d.val = d.val; omega
  · show lo + 1 * n.val = lo + n.val; omega

theorem cw {m : Memref sig .tc .vmem S1x3x5632 .f32} (h : m.IsWhole) {lo N : ℕ} {inb} (k : Fin 3) (n : Fin N) :
    m.view.readAt (Elt Ideal) (Rect.unit (s := S1x3x5632) ![0, 0, lo] ![1, 3, N] inb).toLoadRect (h.unread x5) (ix3 0 k n)
      = (I.cw k.val (lo + n.val) : EReal) := by
  have hb : lo + N ≤ 5632 := inb 2
  refine (ld_at h x5 _ _ (ix3 0 k (⟨lo + n.val, by omega⟩ : Fin 5632)) ?_).trans (B.h5 _ _)
  funext x; apply Fin.ext
  fin_cases x
  · rfl
  · show 0 + 1 * k.val = k.val; omega
  · show lo + 1 * n.val = lo + n.val; omega

theorem cb {m : Memref sig .tc .vmem S1x5632 .f32} (h : m.IsWhole) {lo N : ℕ} {inb} (n : Fin N) :
    m.view.readAt (Elt Ideal) (Rect.unit (s := S1x5632) ![0, lo] ![1, N] inb).toLoadRect (h.unread x6) (ix2 0 n)
      = (I.cb (lo + n.val) : EReal) := by
  have hb : lo + N ≤ 5632 := inb 1
  refine (ld_at h x6 _ _ (ix2 0 (⟨lo + n.val, by omega⟩ : Fin 5632)) ?_).trans (B.h6 _)
  funext x; apply Fin.ext
  fin_cases x
  · rfl
  · show lo + 1 * n.val = lo + n.val; omega

theorem wd {m : Memref sig .tc .vmem S2816x1024 .bf16} (h : m.IsWhole) {lo N : ℕ} {inb} (j : Fin N) (d : Fin 1024) :
    m.view.readAt (Elt Ideal) (Rect.unit (s := S2816x1024) ![lo, 0] ![N, 1024] inb).toLoadRect (h.unread x7) (ix2 j d)
      = (I.wd (lo + j.val) d.val : EReal) := by
  have hb : lo + N ≤ 2816 := inb 0
  refine (ld_at h x7 _ _ (ix2 (⟨lo + j.val, by omega⟩ : Fin 2816) d) ?_).trans (B.h7 _ _)
  funext x; apply Fin.ext
  fin_cases x
  · show lo + 1 * j.val = lo + j.val; omega
  · show 0 + 1 * d.val = d.val; omega
end Blk

/-! The slabs in the order the kernel fills them, a chunk at a time; `T` leaves the chunk's last slab out. -/
abbrev T0 : List ℕ := 10 :: 9 :: 8 :: 7 :: 6 :: 5 :: 4 :: 3 :: 2 :: 1 :: 0 :: []
abbrev U0 : List ℕ := 11 :: T0
abbrev T1 : List ℕ := 32 :: 31 :: 30 :: 29 :: 28 :: 27 :: 26 :: 25 :: 24 :: 23 :: 22 :: U0
abbrev U1 : List ℕ := 33 :: T1
abbrev T2 : List ℕ := 20 :: 19 :: 18 :: 17 :: 16 :: 15 :: 14 :: 13 :: 12 :: U1
abbrev U2 : List ℕ := 21 :: T2
abbrev T3 : List ℕ := 42 :: 41 :: 40 :: 39 :: 38 :: 37 :: 36 :: 35 :: 34 :: U2
abbrev U3 : List ℕ := 43 :: T3

/-- A slab cut from a block of the up projection that starts at column `lo`. -/
theorem putA {I : In} {b s : ℕ} {Y : FVec Ideal S512x1536 .f32} {N j : ℕ} {h'} (lo : ℕ)
    (hY : ∀ (r : Fin 512) (n : Fin 1536), Y (ix2 r n) = (I.up b (s + r.val) (lo + n.val) : EReal))
    (h : S512x1536.Slices ![0, N] S512x128) (e : lo + N = 128 * j)
    (r : Fin 512) (l : Fin 128) :
    shapeCast S1x512x128 (extractStridedSlice S512x128 ![0, N] Y h) h' (ix3 0 r l) = (I.up b (s + r.val) (128 * j + l.val) : EReal) :=
  (unsq r l).trans (cutA (g := fun r f => I.up b (s + r) f) lo hY e r l)

theorem putB {I : In} {b s : ℕ} {Y : FVec Ideal S512x1280 .f32} {N j : ℕ} {h'} (lo : ℕ)
    (hY : ∀ (r : Fin 512) (n : Fin 1280), Y (ix2 r n) = (I.up b (s + r.val) (lo + n.val) : EReal))
    (h : S512x1280.Slices ![0, N] S512x128) (e : lo + N = 128 * j)
    (r : Fin 512) (l : Fin 128) :
    shapeCast S1x512x128 (extractStridedSlice S512x128 ![0, N] Y h) h' (ix3 0 r l) = (I.up b (s + r.val) (128 * j + l.val) : EReal) :=
  (unsq r l).trans (cutB (g := fun r f => I.up b (s + r) f) lo hY e r l)

/-- The column buffer after the pieces `L`: rows in the slabs of `U`, the next tile's history in those of `H`, this tile's
    history, over the contents `f0`, in the others. -/
structure St (I : In) (b s : ℕ) {sig : RefSig} {sp : Space} (v : View sig .tc sp S44x520x128 .f32) (f0 : v.ty.Contents (Elt Ideal)) (U H : List ℕ)
    (L : List (View.Piece (Elt Ideal) S44x520x128 .f32)) : Prop where
  rows : ∀ f, Rows (fun r f => I.up b (s + r) f) U (after v f L)
  kept : ∀ f, Kept (fun r f => I.up b (s + r) f) H (after v f L)
  old : Old (fun r f => I.back 8 b (s + r) f) H (after v f0 L)

namespace St
variable {I : In} {b s : ℕ} {sig : RefSig} {sp : Space} {v : View sig .tc sp S44x520x128 .f32} {f0 : v.ty.Contents (Elt Ideal)} {U H : List ℕ}
  {L : List (View.Piece (Elt Ideal) S44x520x128 .f32)}

theorem base {xs : Slabs} (hf : v.read (Elt Ideal) f0 = xs) (h : Old (fun r f => I.back 8 b (s + r) f) [] xs) : St I b s v f0 [] [] [] :=
  ⟨fun _ => Rows.nil _, fun _ => Kept.nil _, Old.base h hf⟩

theorem zero {inb} {w : (Rect.unit (s := S44x520x128) ![0, 0, 0] S44x8x128.size inb).shape.Idx → EReal}
    (hw : ∀ (a : Fin 44) (r : Fin 8) (l : Fin 128), w (ix3 a r l) = (0 : EReal)) :
    St I b 0 v f0 [] [] [⟨Rect.unit ![0, 0, 0] S44x8x128.size inb, w⟩] :=
  ⟨fun _ => Rows.nil _, fun _ => Kept.nil _, Old.zero hw fun r f hr => if_pos (by omega)⟩

theorem put {j : ℕ} {inb} {w : (Rect.unit (s := S44x520x128) ![j, 8, 0] S1x512x128.size inb).shape.Idx → EReal}
    (h : St I b s v f0 U H L) (hw : ∀ (r : Fin 512) (l : Fin 128), w (ix3 0 r l) = (I.up b (s + r.val) (128 * j + l.val) : EReal)) :
    St I b s v f0 (j :: U) H (⟨Rect.unit ![j, 8, 0] S1x512x128.size inb, w⟩ :: L) :=
  ⟨fun f => (h.rows f).put hw, fun f => (h.kept f).put, h.old.put⟩

theorem last {j : ℕ} {inb} (h : St I b s v f0 U H L) (hj : j ∈ U) (r : Fin 8) (l : Fin 128) :
    v.readCov L (Rect.unit (s := S44x520x128) ![j, 512, 0] S1x8x128.size inb).toLoadRect (ix3 0 r l)
      = (I.up b (s + (504 + r.val)) (128 * j + l.val) : EReal) :=
  load_last (h.rows _) hj r l

theorem keep {j : ℕ} {inb inb' h1 h2} (h : St I b s v f0 U H L) (hj : j ∈ U) :
    St I b s v f0 U (j :: H) (⟨Rect.unit (s := S44x520x128) ![j, 0, 0] S1x8x128.size inb, shapeCast S1x8x128 (shapeCast S8x128
      (v.readCov L (Rect.unit (s := S44x520x128) ![j, 512, 0] S1x8x128.size inb').toLoadRect : FVec Ideal S1x8x128 .f32) h1) h2⟩ :: L) :=
  ⟨fun f => (h.rows f).keep, fun f => (h.kept f).keep fun r l => (sq8 r l).trans (h.last hj r l), h.old.keep⟩

/-- The rows `k` earlier in slab `j`, loaded over the contents `f0`. -/
theorem load {j o : ℕ} {inb} (h : St I b s v f0 U H L) (k : ℕ) (hj : j ∈ U) (hh : j ∉ H) (ho : o + k = 8) (r : Fin 512) (l : Fin 128) :
    v.readAt (Elt Ideal) (Rect.unit (s := S44x520x128) ![j, o, 0] S1x512x128.size inb).toLoadRect (v.writes (Elt Ideal) f0 L) (ix3 0 r l)
      = (I.back k b (s + r.val) (128 * j + l.val) : EReal) := by
  refine (load_prev k (h.rows f0) h.old hj hh ho r l).trans (congrArg _ ?_)
  unfold prev In.back
  dsimp only
  by_cases h1 : r.val < k
  · rw [if_pos h1]
    by_cases h2 : s + r.val < k
    · rw [if_pos h2, if_pos (by omega)]
    · rw [if_neg h2, if_neg (by omega), show s + (8 + r.val - k) - 8 = s + r.val - k by omega]
  · rw [if_neg h1, if_neg (by omega), show s + (r.val - k) = s + r.val - k by omega]
end St

end Cert.Ffn
-- ==== Proof.FfnRunA.lean ====
/- The feed-forward kernel's run on the first tile of a sequence, whose history is zero. -/
module

public import proofs.«01_k».proof.Proof.FfnTile
import all proofs.«01_k».proof.Proof.Gen.Kernel2Ideal.Frame.RunA
import all proofs.«01_k».proof.Proof.Gen.Kernel2Ideal.Frame.RunB

public section

set_option maxRecDepth 16384
set_option maxHeartbeats 2000000

noncomputable section

namespace Cert.Ffn.RunA

open Idealize.ShloMosaic Cert.RealKit Cert.Kernel2Ideal Cert.Kernel2Ideal.Gen

variable {I : In} {x0 : Vec Ideal S1x512x1024 .f32} {x1 : Vec Ideal S2x6144 .f32}
  {x2 x3 : Vec Ideal S1x1024 .f32} {x4 : Vec Ideal S1024x5632 .bf16} {x5 : Vec Ideal S1x3x5632 .f32} {x6 : Vec Ideal S1x5632 .f32}
  {x7 : Vec Ideal S2816x1024 .bf16}
  (c : Dev nD) (i : grid0.Coords) {arg2 : Memref sig .tc .vmem S1x512x1024 .f32} (harg2 : arg2.IsWhole) {arg3 : Memref sig .tc .vmem S2x6144 .f32} (harg3 : arg3.IsWhole)
  {arg4 : Memref sig .tc .vmem S1x1024 .f32} (harg4 : arg4.IsWhole) {arg5 : Memref sig .tc .vmem S1x1024 .f32} (harg5 : arg5.IsWhole) {arg6 : Memref sig .tc .vmem S1024x5632 .bf16} (harg6 : arg6.IsWhole)
  {arg7 : Memref sig .tc .vmem S1x3x5632 .f32} (harg7 : arg7.IsWhole) {arg8 : Memref sig .tc .vmem S1x5632 .f32} (harg8 : arg8.IsWhole) {arg9 : Memref sig .tc .vmem S2816x1024 .bf16} (harg9 : arg9.IsWhole)
  (arg11 : Memref sig .tc .vmem S44x520x128 .f32)
  (B : Blk I i 0 x0 x1 x2 x3 x4 x5 x6 x7)
include B

theorem hid : ∀ (r : Fin 512) (d : Fin 1024), (kernelRun0_A.sl.r_2 c i arg2 harg2 arg3 harg3 arg4 harg4 x0 x1 x2) (ix2 r d) = (I.hid (i 0).val (0 + r.val) d.val : EReal) :=
  pay_hid I _ _ (B.x harg2) (B.md harg3 3072 (off1 i) rfl) (B.md harg3 4096 (off2 i) rfl) (B.gpre harg4)

theorem up0 : ∀ (r : Fin 512) (n : Fin 1536), (kernelRun0_A.sl.r_3 c i arg2 harg2 arg3 harg3 arg4 harg4 arg6 harg6 x0 x1 x2 x4) (ix2 r n) = (I.up (i 0).val (0 + r.val) (0 + n.val) : EReal) :=
  pay_upA 0 (hid c i harg2 harg3 harg4 B) (B.w harg6)

theorem up1 : ∀ (r : Fin 512) (n : Fin 1536), (kernelRun0_A.sl.r_21 c i arg2 harg2 arg3 harg3 arg4 harg4 arg6 harg6 x0 x1 x2 x4) (ix2 r n) = (I.up (i 0).val (0 + r.val) (2816 + n.val) : EReal) :=
  pay_upA 2816 (hid c i harg2 harg3 harg4 B) (B.w harg6)

theorem up2 : ∀ (r : Fin 512) (n : Fin 1280), (kernelRun0_A.sl.r_53 c i arg2 harg2 arg3 harg3 arg4 harg4 arg6 harg6 x0 x1 x2 x4) (ix2 r n) = (I.up (i 0).val (0 + r.val) (1536 + n.val) : EReal) :=
  pay_upB 1536 (hid c i harg2 harg3 harg4 B) (B.w harg6)

theorem up3 : ∀ (r : Fin 512) (n : Fin 1280), (kernelRun0_A.sl.r_68 c i arg2 harg2 arg3 harg3 arg4 harg4 arg6 harg6 x0 x1 x2 x4) (ix2 r n) = (I.up (i 0).val (0 + r.val) (4352 + n.val) : EReal) :=
  pay_upB 4352 (hid c i harg2 harg3 harg4 B) (B.w harg6)

theorem st0 : St I (i 0).val 0 arg11.view arg11.view.junk U0 [] (kernelRun0_A.sl.HS0_13 c i arg2 harg2 arg3 harg3 arg4 harg4 arg6 harg6 x0 x1 x2 x4) := by
  iterate 12 refine St.put ?_ ?_
  · exact St.zero pay_zero
  all_goals exact putA 0 (up0 c i harg2 harg3 harg4 harg6 B) (by decide) (by decide)

theorem u1_0 : ∀ (r : Fin 512) (n : Fin 1536), (kernelRun0_A.sl.r_12 c i arg2 harg2 arg3 harg3 arg4 harg4 arg6 harg6 arg11 x0 x1 x2 x4) (ix2 r n) = (I.back 1 (i 0).val (0 + r.val) (0 + n.val) : EReal) := by
  refine cat12 (g := fun r f => I.back 1 (i 0).val (0 + r) f) (h := concatenates_S512x128_S512x128_S512x128_S512x128_S512x128_S512x128_S512x128_S512x128_S512x128_S512x128_S512x128_S512x128_S512x1536_d1) 0 ?_ ?_ ?_ ?_ ?_ ?_ ?_ ?_ ?_ ?_ ?_ ?_
  all_goals exact fun r l => (sq r l).trans ((st0 c i harg2 harg3 harg4 harg6 arg11 B).load 1 (by decide) (by decide) rfl r l)

theorem u2_0 : ∀ (r : Fin 512) (n : Fin 1536), (kernelRun0_A.sl.r_18 c i arg2 harg2 arg3 harg3 arg4 harg4 arg6 harg6 arg11 x0 x1 x2 x4) (ix2 r n) = (I.back 2 (i 0).val (0 + r.val) (0 + n.val) : EReal) := by
  refine cat12 (g := fun r f => I.back 2 (i 0).val (0 + r) f) (h := concatenates_S512x128_S512x128_S512x128_S512x128_S512x128_S512x128_S512x128_S512x128_S512x128_S512x128_S512x128_S512x128_S512x1536_d1) 0 ?_ ?_ ?_ ?_ ?_ ?_ ?_ ?_ ?_ ?_ ?_ ?_
  all_goals exact fun r l => (sq r l).trans ((st0 c i harg2 harg3 harg4 harg6 arg11 B).load 2 (by decide) (by decide) rfl r l)

theorem kept0 : St I (i 0).val 0 arg11.view arg11.view.junk U0 T0 (kernelRun0_A.sl.HS0_24 c i arg2 harg2 arg3 harg3 arg4 harg4 arg6 harg6 arg11 x0 x1 x2 x4) := by
  iterate 11 refine St.keep ?_ (by decide)
  exact st0 c i harg2 harg3 harg4 harg6 arg11 B

theorem st1 : St I (i 0).val 0 arg11.view arg11.view.junk U1 U0 (kernelRun0_A.sl.HS0_37 c i arg2 harg2 arg3 harg3 arg4 harg4 arg6 harg6 arg11 x0 x1 x2 x4) := by
  iterate 12 refine St.put ?_ ?_
  · refine St.keep ?_ (by decide)
    exact kept0 c i harg2 harg3 harg4 harg6 arg11 B

  all_goals exact putA 2816 (up1 c i harg2 harg3 harg4 harg6 B) (by decide) (by decide)

theorem u1_1 : ∀ (r : Fin 512) (n : Fin 1536), (kernelRun0_A.sl.r_35 c i arg2 harg2 arg3 harg3 arg4 harg4 arg6 harg6 arg11 x0 x1 x2 x4) (ix2 r n) = (I.back 1 (i 0).val (0 + r.val) (2816 + n.val) : EReal) := by
  refine cat12 (g := fun r f => I.back 1 (i 0).val (0 + r) f) (h := concatenates_S512x128_S512x128_S512x128_S512x128_S512x128_S512x128_S512x128_S512x128_S512x128_S512x128_S512x128_S512x128_S512x1536_d1) 22 ?_ ?_ ?_ ?_ ?_ ?_ ?_ ?_ ?_ ?_ ?_ ?_
  all_goals exact fun r l => (sq r l).trans ((st1 c i harg2 harg3 harg4 harg6 arg11 B).load 1 (by decide) (by decide) rfl r l)

theorem u2_1 : ∀ (r : Fin 512) (n : Fin 1536), (kernelRun0_A.sl.r_47 c i arg2 harg2 arg3 harg3 arg4 harg4 arg6 harg6 arg11 x0 x1 x2 x4) (ix2 r n) = (I.back 2 (i 0).val (0 + r.val) (2816 + n.val) : EReal) := by
  refine cat12 (g := fun r f => I.back 2 (i 0).val (0 + r) f) (h := concatenates_S512x128_S512x128_S512x128_S512x128_S512x128_S512x128_S512x128_S512x128_S512x128_S512x128_S512x128_S512x128_S512x1536_d1) 22 ?_ ?_ ?_ ?_ ?_ ?_ ?_ ?_ ?_ ?_ ?_ ?_
  all_goals exact fun r l => (sq r l).trans ((st1 c i harg2 harg3 harg4 harg6 arg11 B).load 2 (by decide) (by decide) rfl r l)

theorem kept1 : St I (i 0).val 0 arg11.view arg11.view.junk U1 T1 (kernelRun0_A.sl.HS0_48 c i arg2 harg2 arg3 harg3 arg4 harg4 arg6 harg6 arg11 x0 x1 x2 x4) := by
  iterate 11 refine St.keep ?_ (by decide)
  exact st1 c i harg2 harg3 harg4 harg6 arg11 B

theorem st2 : St I (i 0).val 0 arg11.view arg11.view.junk U2 U1 (kernelRun0_A.sl.HS0_59 c i arg2 harg2 arg3 harg3 arg4 harg4 arg6 harg6 arg11 x0 x1 x2 x4) := by
  iterate 10 refine St.put ?_ ?_
  · refine St.keep ?_ (by decide)
    exact kept1 c i harg2 harg3 harg4 harg6 arg11 B

  all_goals exact putB 1536 (up2 c i harg2 harg3 harg4 harg6 B) (by decide) (by decide)

theorem u1_2 : ∀ (r : Fin 512) (n : Fin 1280), (kernelRun0_A.sl.r_59 c i arg2 harg2 arg3 harg3 arg4 harg4 arg6 harg6 arg11 x0 x1 x2 x4) (ix2 r n) = (I.back 1 (i 0).val (0 + r.val) (1536 + n.val) : EReal) := by
  refine cat10 (g := fun r f => I.back 1 (i 0).val (0 + r) f) (h := concatenates_S512x128_S512x128_S512x128_S512x128_S512x128_S512x128_S512x128_S512x128_S512x128_S512x128_S512x1280_d1) 12 ?_ ?_ ?_ ?_ ?_ ?_ ?_ ?_ ?_ ?_
  all_goals exact fun r l => (sq r l).trans ((st2 c i harg2 harg3 harg4 harg6 arg11 B).load 1 (by decide) (by decide) rfl r l)

theorem u2_2 : ∀ (r : Fin 512) (n : Fin 1280), (kernelRun0_A.sl.r_66 c i arg2 harg2 arg3 harg3 arg4 harg4 arg6 harg6 arg11 x0 x1 x2 x4) (ix2 r n) = (I.back 2 (i 0).val (0 + r.val) (1536 + n.val) : EReal) := by
  refine cat10 (g := fun r f => I.back 2 (i 0).val (0 + r) f) (h := concatenates_S512x128_S512x128_S512x128_S512x128_S512x128_S512x128_S512x128_S512x128_S512x128_S512x128_S512x1280_d1) 12 ?_ ?_ ?_ ?_ ?_ ?_ ?_ ?_ ?_ ?_
  all_goals exact fun r l => (sq r l).trans ((st2 c i harg2 harg3 harg4 harg6 arg11 B).load 2 (by decide) (by decide) rfl r l)

theorem kept2 : St I (i 0).val 0 arg11.view arg11.view.junk U2 T2 (kernelRun0_A.sl.HS0_68 c i arg2 harg2 arg3 harg3 arg4 harg4 arg6 harg6 arg11 x0 x1 x2 x4) := by
  iterate 9 refine St.keep ?_ (by decide)
  exact st2 c i harg2 harg3 harg4 harg6 arg11 B

theorem st3 : St I (i 0).val 0 arg11.view arg11.view.junk U3 U2 (kernelRun0_A.sl.HS0_79 c i arg2 harg2 arg3 harg3 arg4 harg4 arg6 harg6 arg11 x0 x1 x2 x4) := by
  iterate 10 refine St.put ?_ ?_
  · refine St.keep ?_ (by decide)
    exact kept2 c i harg2 harg3 harg4 harg6 arg11 B

  all_goals exact putB 4352 (up3 c i harg2 harg3 harg4 harg6 B) (by decide) (by decide)

theorem u1_3 : ∀ (r : Fin 512) (n : Fin 1280), (kernelRun0_A.sl.r_71 c i arg2 harg2 arg3 harg3 arg4 harg4 arg6 harg6 arg11 x0 x1 x2 x4) (ix2 r n) = (I.back 1 (i 0).val (0 + r.val) (4352 + n.val) : EReal) := by
  refine cat10 (g := fun r f => I.back 1 (i 0).val (0 + r) f) (h := concatenates_S512x128_S512x128_S512x128_S512x128_S512x128_S512x128_S512x128_S512x128_S512x128_S512x128_S512x1280_d1) 34 ?_ ?_ ?_ ?_ ?_ ?_ ?_ ?_ ?_ ?_
  all_goals exact fun r l => (sq r l).trans ((st3 c i harg2 harg3 harg4 harg6 arg11 B).load 1 (by decide) (by decide) rfl r l)

theorem u2_3 : ∀ (r : Fin 512) (n : Fin 1280), (kernelRun0_A.sl.r_72 c i arg2 harg2 arg3 harg3 arg4 harg4 arg6 harg6 arg11 x0 x1 x2 x4) (ix2 r n) = (I.back 2 (i 0).val (0 + r.val) (4352 + n.val) : EReal) := by
  refine cat10 (g := fun r f => I.back 2 (i 0).val (0 + r) f) (h := concatenates_S512x128_S512x128_S512x128_S512x128_S512x128_S512x128_S512x128_S512x128_S512x128_S512x128_S512x1280_d1) 34 ?_ ?_ ?_ ?_ ?_ ?_ ?_ ?_ ?_ ?_
  all_goals exact fun r l => (sq r l).trans ((st3 c i harg2 harg3 harg4 harg6 arg11 B).load 2 (by decide) (by decide) rfl r l)

theorem kept3 : St I (i 0).val 0 arg11.view arg11.view.junk U3 T3 (kernelRun0_A.sl.HS0_88 c i arg2 harg2 arg3 harg3 arg4 harg4 arg6 harg6 arg11 x0 x1 x2 x4) := by
  iterate 9 refine St.keep ?_ (by decide)
  exact st3 c i harg2 harg3 harg4 harg6 arg11 B

theorem gate0 : ∀ (r : Fin 512) (n : Fin 1536), (kernelRun0_A.sl.r_20 c i arg2 harg2 arg3 harg3 arg4 harg4 arg6 harg6 arg7 harg7 arg8 harg8 arg11 x0 x1 x2 x4 x5 x6) (ix2 r n) = (I.cv (i 0).val (0 + r.val) n.val : EReal) :=
  pay_gateA (up0 c i harg2 harg3 harg4 harg6 B) (u1_0 c i harg2 harg3 harg4 harg6 arg11 B) (u2_0 c i harg2 harg3 harg4 harg6 arg11 B) (B.cw harg7) (B.cb harg8)

theorem pair0 : ∀ (r : Fin 512) (n : Fin 1536), (kernelRun0_A.sl.r_50 c i arg2 harg2 arg3 harg3 arg4 harg4 arg6 harg6 arg7 harg7 arg8 harg8 arg11 x0 x1 x2 x4 x5 x6) (ix2 r n) = (I.cv (i 0).val (0 + r.val) n.val * (1 / 2 * I.cv (i 0).val (0 + r.val) (2816 + n.val)) : ℝ) :=
  pay_pairA (gate0 c i harg2 harg3 harg4 harg6 harg7 harg8 arg11 B) (up1 c i harg2 harg3 harg4 harg6 B) (u1_1 c i harg2 harg3 harg4 harg6 arg11 B) (u2_1 c i harg2 harg3 harg4 harg6 arg11 B) (B.cw harg7) (B.cb harg8)

theorem down0 : ∀ (r : Fin 512) (d : Fin 1024), (kernelRun0_A.sl.r_52 c i arg2 harg2 arg3 harg3 arg4 harg4 arg6 harg6 arg7 harg7 arg8 harg8 arg9 harg9 arg11 x0 x1 x2 x4 x5 x6 x7) (ix2 r d) = ((∑ j : Fin 1536, I.act (i 0).val (0 + r.val) j.val * I.wd j.val d.val : ℝ) : EReal) :=
  pay_downA (gate0 c i harg2 harg3 harg4 harg6 harg7 harg8 arg11 B) (pair0 c i harg2 harg3 harg4 harg6 harg7 harg8 arg11 B) (B.wd harg9)

theorem gate1 : ∀ (r : Fin 512) (n : Fin 1280), (kernelRun0_A.sl.r_67 c i arg2 harg2 arg3 harg3 arg4 harg4 arg6 harg6 arg7 harg7 arg8 harg8 arg11 x0 x1 x2 x4 x5 x6) (ix2 r n) = (I.cv (i 0).val (0 + r.val) (1536 + n.val) : EReal) :=
  pay_gateB (up2 c i harg2 harg3 harg4 harg6 B) (u1_2 c i harg2 harg3 harg4 harg6 arg11 B) (u2_2 c i harg2 harg3 harg4 harg6 arg11 B) (B.cw harg7) (B.cb harg8)

theorem out : ∀ (r : Fin 512) (d : Fin 1024), k0_pay1 (kernelRun0_A.sl.r_77 c i arg2 harg2 arg3 harg3 arg4 harg4 arg5 harg5 arg6 harg6 arg7 harg7 arg8 harg8 arg9 harg9 arg11 x0 x1 x2 x3 x4 x5 x6 x7) (ix3 0 r d) = (I.out (i 0).val (0 + r.val) d.val : EReal) :=
  pay_out (fun r d => (sq1024 r d).trans (B.x harg2 r d)) (B.md harg3 5120 (off3 i) rfl) (down0 c i harg2 harg3 harg4 harg6 harg7 harg8 harg9 arg11 B) (gate1 c i harg2 harg3 harg4 harg6 harg7 harg8 arg11 B) (up3 c i harg2 harg3 harg4 harg6 B) (u1_3 c i harg2 harg3 harg4 harg6 arg11 B) (u2_3 c i harg2 harg3 harg4 harg6 arg11 B) (B.cw harg7) (B.cb harg8)
    (B.wd harg9) (B.gpost harg5)

end Cert.Ffn.RunA
-- ==== Proof.FfnRunB.lean ====
/- The feed-forward kernel's run on a tile after the first, whose history the tile before it left. -/
module

public import proofs.«01_k».proof.Proof.FfnTile
import all proofs.«01_k».proof.Proof.Gen.Kernel2Ideal.Frame.RunA
import all proofs.«01_k».proof.Proof.Gen.Kernel2Ideal.Frame.RunB

public section

set_option maxRecDepth 16384
set_option maxHeartbeats 2000000

noncomputable section

namespace Cert.Ffn.RunB

open Idealize.ShloMosaic Cert.RealKit Cert.Kernel2Ideal Cert.Kernel2Ideal.Gen

variable {I : In} {s : ℕ} {x0 : Vec Ideal S1x512x1024 .f32} {x1 : Vec Ideal S2x6144 .f32}
  {x2 x3 : Vec Ideal S1x1024 .f32} {x4 : Vec Ideal S1024x5632 .bf16} {x5 : Vec Ideal S1x3x5632 .f32} {x6 : Vec Ideal S1x5632 .f32}
  {x7 : Vec Ideal S2816x1024 .bf16} {xs0 : Vec Ideal S44x520x128 .f32}
  (c : Dev nD) (i : grid0.Coords) {arg2 : Memref sig .tc .vmem S1x512x1024 .f32} (harg2 : arg2.IsWhole) {arg3 : Memref sig .tc .vmem S2x6144 .f32} (harg3 : arg3.IsWhole)
  {arg4 : Memref sig .tc .vmem S1x1024 .f32} (harg4 : arg4.IsWhole) {arg5 : Memref sig .tc .vmem S1x1024 .f32} (harg5 : arg5.IsWhole) {arg6 : Memref sig .tc .vmem S1024x5632 .bf16} (harg6 : arg6.IsWhole)
  {arg7 : Memref sig .tc .vmem S1x3x5632 .f32} (harg7 : arg7.IsWhole) {arg8 : Memref sig .tc .vmem S1x5632 .f32} (harg8 : arg8.IsWhole) {arg9 : Memref sig .tc .vmem S2816x1024 .bf16} (harg9 : arg9.IsWhole)
  {arg11 : Memref sig .tc .vmem S44x520x128 .f32} (harg11 : arg11.IsWhole)
  (B : Blk I i s x0 x1 x2 x3 x4 x5 x6 x7) (hxs : Old (fun r f => I.back 8 (i 0).val (s + r) f) [] xs0)
include B

theorem hid : ∀ (r : Fin 512) (d : Fin 1024), (kernelRun0_B.sl.r_2 c i arg2 harg2 arg3 harg3 arg4 harg4 x0 x1 x2) (ix2 r d) = (I.hid (i 0).val (s + r.val) d.val : EReal) :=
  pay_hid I _ _ (B.x harg2) (B.md harg3 3072 (off1 i) rfl) (B.md harg3 4096 (off2 i) rfl) (B.gpre harg4)

theorem up0 : ∀ (r : Fin 512) (n : Fin 1536), (kernelRun0_B.sl.r_3 c i arg2 harg2 arg3 harg3 arg4 harg4 arg6 harg6 x0 x1 x2 x4) (ix2 r n) = (I.up (i 0).val (s + r.val) (0 + n.val) : EReal) :=
  pay_upA 0 (hid c i harg2 harg3 harg4 B) (B.w harg6)

theorem up1 : ∀ (r : Fin 512) (n : Fin 1536), (kernelRun0_B.sl.r_21 c i arg2 harg2 arg3 harg3 arg4 harg4 arg6 harg6 x0 x1 x2 x4) (ix2 r n) = (I.up (i 0).val (s + r.val) (2816 + n.val) : EReal) :=
  pay_upA 2816 (hid c i harg2 harg3 harg4 B) (B.w harg6)

theorem up2 : ∀ (r : Fin 512) (n : Fin 1280), (kernelRun0_B.sl.r_53 c i arg2 harg2 arg3 harg3 arg4 harg4 arg6 harg6 x0 x1 x2 x4) (ix2 r n) = (I.up (i 0).val (s + r.val) (1536 + n.val) : EReal) :=
  pay_upB 1536 (hid c i harg2 harg3 harg4 B) (B.w harg6)

theorem up3 : ∀ (r : Fin 512) (n : Fin 1280), (kernelRun0_B.sl.r_68 c i arg2 harg2 arg3 harg3 arg4 harg4 arg6 harg6 x0 x1 x2 x4) (ix2 r n) = (I.up (i 0).val (s + r.val) (4352 + n.val) : EReal) :=
  pay_upB 4352 (hid c i harg2 harg3 harg4 B) (B.w harg6)

include hxs in
theorem st0 : St I (i 0).val s arg11.view (harg11.unread xs0) U0 [] (kernelRun0_B.sl.HS0_12 c i arg2 harg2 arg3 harg3 arg4 harg4 arg6 harg6 x0 x1 x2 x4) := by
  iterate 12 refine St.put ?_ ?_
  · exact St.base (harg11.read_unread _) hxs
  all_goals exact putA 0 (up0 c i harg2 harg3 harg4 harg6 B) (by decide) (by decide)

include hxs in
theorem u1_0 : ∀ (r : Fin 512) (n : Fin 1536), (kernelRun0_B.sl.r_12 c i arg2 harg2 arg3 harg3 arg4 harg4 arg6 harg6 arg11 harg11 x0 x1 x2 x4 xs0) (ix2 r n) = (I.back 1 (i 0).val (s + r.val) (0 + n.val) : EReal) := by
  refine cat12 (g := fun r f => I.back 1 (i 0).val (s + r) f) (h := concatenates_S512x128_S512x128_S512x128_S512x128_S512x128_S512x128_S512x128_S512x128_S512x128_S512x128_S512x128_S512x128_S512x1536_d1) 0 ?_ ?_ ?_ ?_ ?_ ?_ ?_ ?_ ?_ ?_ ?_ ?_
  all_goals exact fun r l => (sq r l).trans ((st0 c i harg2 harg3 harg4 harg6 harg11 B hxs).load 1 (by decide) (by decide) rfl r l)

include hxs in
theorem u2_0 : ∀ (r : Fin 512) (n : Fin 1536), (kernelRun0_B.sl.r_18 c i arg2 harg2 arg3 harg3 arg4 harg4 arg6 harg6 arg11 harg11 x0 x1 x2 x4 xs0) (ix2 r n) = (I.back 2 (i 0).val (s + r.val) (0 + n.val) : EReal) := by
  refine cat12 (g := fun r f => I.back 2 (i 0).val (s + r) f) (h := concatenates_S512x128_S512x128_S512x128_S512x128_S512x128_S512x128_S512x128_S512x128_S512x128_S512x128_S512x128_S512x128_S512x1536_d1) 0 ?_ ?_ ?_ ?_ ?_ ?_ ?_ ?_ ?_ ?_ ?_ ?_
  all_goals exact fun r l => (sq r l).trans ((st0 c i harg2 harg3 harg4 harg6 harg11 B hxs).load 2 (by decide) (by decide) rfl r l)

include hxs in
theorem kept0 : St I (i 0).val s arg11.view (harg11.unread xs0) U0 T0 (kernelRun0_B.sl.HS0_23 c i arg2 harg2 arg3 harg3 arg4 harg4 arg6 harg6 arg11 x0 x1 x2 x4) := by
  iterate 11 refine St.keep ?_ (by decide)
  exact st0 c i harg2 harg3 harg4 harg6 harg11 B hxs

include hxs in
theorem st1 : St I (i 0).val s arg11.view (harg11.unread xs0) U1 U0 (kernelRun0_B.sl.HS0_36 c i arg2 harg2 arg3 harg3 arg4 harg4 arg6 harg6 arg11 x0 x1 x2 x4) := by
  iterate 12 refine St.put ?_ ?_
  · refine St.keep ?_ (by decide)
    exact kept0 c i harg2 harg3 harg4 harg6 harg11 B hxs

  all_goals exact putA 2816 (up1 c i harg2 harg3 harg4 harg6 B) (by decide) (by decide)

include hxs in
theorem u1_1 : ∀ (r : Fin 512) (n : Fin 1536), (kernelRun0_B.sl.r_35 c i arg2 harg2 arg3 harg3 arg4 harg4 arg6 harg6 arg11 harg11 x0 x1 x2 x4 xs0) (ix2 r n) = (I.back 1 (i 0).val (s + r.val) (2816 + n.val) : EReal) := by
  refine cat12 (g := fun r f => I.back 1 (i 0).val (s + r) f) (h := concatenates_S512x128_S512x128_S512x128_S512x128_S512x128_S512x128_S512x128_S512x128_S512x128_S512x128_S512x128_S512x128_S512x1536_d1) 22 ?_ ?_ ?_ ?_ ?_ ?_ ?_ ?_ ?_ ?_ ?_ ?_
  all_goals exact fun r l => (sq r l).trans ((st1 c i harg2 harg3 harg4 harg6 harg11 B hxs).load 1 (by decide) (by decide) rfl r l)

include hxs in
theorem u2_1 : ∀ (r : Fin 512) (n : Fin 1536), (kernelRun0_B.sl.r_47 c i arg2 harg2 arg3 harg3 arg4 harg4 arg6 harg6 arg11 harg11 x0 x1 x2 x4 xs0) (ix2 r n) = (I.back 2 (i 0).val (s + r.val) (2816 + n.val) : EReal) := by
  refine cat12 (g := fun r f => I.back 2 (i 0).val (s + r) f) (h := concatenates_S512x128_S512x128_S512x128_S512x128_S512x128_S512x128_S512x128_S512x128_S512x128_S512x128_S512x128_S512x128_S512x1536_d1) 22 ?_ ?_ ?_ ?_ ?_ ?_ ?_ ?_ ?_ ?_ ?_ ?_
  all_goals exact fun r l => (sq r l).trans ((st1 c i harg2 harg3 harg4 harg6 harg11 B hxs).load 2 (by decide) (by decide) rfl r l)

include hxs in
theorem kept1 : St I (i 0).val s arg11.view (harg11.unread xs0) U1 T1 (kernelRun0_B.sl.HS0_47 c i arg2 harg2 arg3 harg3 arg4 harg4 arg6 harg6 arg11 x0 x1 x2 x4) := by
  iterate 11 refine St.keep ?_ (by decide)
  exact st1 c i harg2 harg3 harg4 harg6 harg11 B hxs

include hxs in
theorem st2 : St I (i 0).val s arg11.view (harg11.unread xs0) U2 U1 (kernelRun0_B.sl.HS0_58 c i arg2 harg2 arg3 harg3 arg4 harg4 arg6 harg6 arg11 x0 x1 x2 x4) := by
  iterate 10 refine St.put ?_ ?_
  · refine St.keep ?_ (by decide)
    exact kept1 c i harg2 harg3 harg4 harg6 harg11 B hxs

  all_goals exact putB 1536 (up2 c i harg2 harg3 harg4 harg6 B) (by decide) (by decide)

include hxs in
theorem u1_2 : ∀ (r : Fin 512) (n : Fin 1280), (kernelRun0_B.sl.r_59 c i arg2 harg2 arg3 harg3 arg4 harg4 arg6 harg6 arg11 harg11 x0 x1 x2 x4 xs0) (ix2 r n) = (I.back 1 (i 0).val (s + r.val) (1536 + n.val) : EReal) := by
  refine cat10 (g := fun r f => I.back 1 (i 0).val (s + r) f) (h := concatenates_S512x128_S512x128_S512x128_S512x128_S512x128_S512x128_S512x128_S512x128_S512x128_S512x128_S512x1280_d1) 12 ?_ ?_ ?_ ?_ ?_ ?_ ?_ ?_ ?_ ?_
  all_goals exact fun r l => (sq r l).trans ((st2 c i harg2 harg3 harg4 harg6 harg11 B hxs).load 1 (by decide) (by decide) rfl r l)

include hxs in
theorem u2_2 : ∀ (r : Fin 512) (n : Fin 1280), (kernelRun0_B.sl.r_66 c i arg2 harg2 arg3 harg3 arg4 harg4 arg6 harg6 arg11 harg11 x0 x1 x2 x4 xs0) (ix2 r n) = (I.back 2 (i 0).val (s + r.val) (1536 + n.val) : EReal) := by
  refine cat10 (g := fun r f => I.back 2 (i 0).val (s + r) f) (h := concatenates_S512x128_S512x128_S512x128_S512x128_S512x128_S512x128_S512x128_S512x128_S512x128_S512x128_S512x1280_d1) 12 ?_ ?_ ?_ ?_ ?_ ?_ ?_ ?_ ?_ ?_
  all_goals exact fun r l => (sq r l).trans ((st2 c i harg2 harg3 harg4 harg6 harg11 B hxs).load 2 (by decide) (by decide) rfl r l)

include hxs in
theorem kept2 : St I (i 0).val s arg11.view (harg11.unread xs0) U2 T2 (kernelRun0_B.sl.HS0_67 c i arg2 harg2 arg3 harg3 arg4 harg4 arg6 harg6 arg11 x0 x1 x2 x4) := by
  iterate 9 refine St.keep ?_ (by decide)
  exact st2 c i harg2 harg3 harg4 harg6 harg11 B hxs

include hxs in
theorem st3 : St I (i 0).val s arg11.view (harg11.unread xs0) U3 U2 (kernelRun0_B.sl.HS0_78 c i arg2 harg2 arg3 harg3 arg4 harg4 arg6 harg6 arg11 x0 x1 x2 x4) := by
  iterate 10 refine St.put ?_ ?_
  · refine St.keep ?_ (by decide)
    exact kept2 c i harg2 harg3 harg4 harg6 harg11 B hxs

  all_goals exact putB 4352 (up3 c i harg2 harg3 harg4 harg6 B) (by decide) (by decide)

include hxs in
theorem u1_3 : ∀ (r : Fin 512) (n : Fin 1280), (kernelRun0_B.sl.r_71 c i arg2 harg2 arg3 harg3 arg4 harg4 arg6 harg6 arg11 harg11 x0 x1 x2 x4 xs0) (ix2 r n) = (I.back 1 (i 0).val (s + r.val) (4352 + n.val) : EReal) := by
  refine cat10 (g := fun r f => I.back 1 (i 0).val (s + r) f) (h := concatenates_S512x128_S512x128_S512x128_S512x128_S512x128_S512x128_S512x128_S512x128_S512x128_S512x128_S512x1280_d1) 34 ?_ ?_ ?_ ?_ ?_ ?_ ?_ ?_ ?_ ?_
  all_goals exact fun r l => (sq r l).trans ((st3 c i harg2 harg3 harg4 harg6 harg11 B hxs).load 1 (by decide) (by decide) rfl r l)

include hxs in
theorem u2_3 : ∀ (r : Fin 512) (n : Fin 1280), (kernelRun0_B.sl.r_72 c i arg2 harg2 arg3 harg3 arg4 harg4 arg6 harg6 arg11 harg11 x0 x1 x2 x4 xs0) (ix2 r n) = (I.back 2 (i 0).val (s + r.val) (4352 + n.val) : EReal) := by
  refine cat10 (g := fun r f => I.back 2 (i 0).val (s + r) f) (h := concatenates_S512x128_S512x128_S512x128_S512x128_S512x128_S512x128_S512x128_S512x128_S512x128_S512x128_S512x1280_d1) 34 ?_ ?_ ?_ ?_ ?_ ?_ ?_ ?_ ?_ ?_
  all_goals exact fun r l => (sq r l).trans ((st3 c i harg2 harg3 harg4 harg6 harg11 B hxs).load 2 (by decide) (by decide) rfl r l)

include hxs in
theorem kept3 : St I (i 0).val s arg11.view (harg11.unread xs0) U3 T3 (kernelRun0_B.sl.HS0_87 c i arg2 harg2 arg3 harg3 arg4 harg4 arg6 harg6 arg11 x0 x1 x2 x4) := by
  iterate 9 refine St.keep ?_ (by decide)
  exact st3 c i harg2 harg3 harg4 harg6 harg11 B hxs

include hxs in
theorem gate0 : ∀ (r : Fin 512) (n : Fin 1536), (kernelRun0_B.sl.r_20 c i arg2 harg2 arg3 harg3 arg4 harg4 arg6 harg6 arg7 harg7 arg8 harg8 arg11 harg11 x0 x1 x2 x4 x5 x6 xs0) (ix2 r n) = (I.cv (i 0).val (s + r.val) n.val : EReal) :=
  pay_gateA (up0 c i harg2 harg3 harg4 harg6 B) (u1_0 c i harg2 harg3 harg4 harg6 harg11 B hxs) (u2_0 c i harg2 harg3 harg4 harg6 harg11 B hxs) (B.cw harg7) (B.cb harg8)

include hxs in
theorem pair0 : ∀ (r : Fin 512) (n : Fin 1536), (kernelRun0_B.sl.r_50 c i arg2 harg2 arg3 harg3 arg4 harg4 arg6 harg6 arg7 harg7 arg8 harg8 arg11 harg11 x0 x1 x2 x4 x5 x6 xs0) (ix2 r n) = (I.cv (i 0).val (s + r.val) n.val * (1 / 2 * I.cv (i 0).val (s + r.val) (2816 + n.val)) : ℝ) :=
  pay_pairA (gate0 c i harg2 harg3 harg4 harg6 harg7 harg8 harg11 B hxs) (up1 c i harg2 harg3 harg4 harg6 B) (u1_1 c i harg2 harg3 harg4 harg6 harg11 B hxs) (u2_1 c i harg2 harg3 harg4 harg6 harg11 B hxs) (B.cw harg7) (B.cb harg8)

include hxs in
theorem down0 : ∀ (r : Fin 512) (d : Fin 1024), (kernelRun0_B.sl.r_52 c i arg2 harg2 arg3 harg3 arg4 harg4 arg6 harg6 arg7 harg7 arg8 harg8 arg9 harg9 arg11 harg11 x0 x1 x2 x4 x5 x6 x7 xs0) (ix2 r d) = ((∑ j : Fin 1536, I.act (i 0).val (s + r.val) j.val * I.wd j.val d.val : ℝ) : EReal) :=
  pay_downA (gate0 c i harg2 harg3 harg4 harg6 harg7 harg8 harg11 B hxs) (pair0 c i harg2 harg3 harg4 harg6 harg7 harg8 harg11 B hxs) (B.wd harg9)

include hxs in
theorem gate1 : ∀ (r : Fin 512) (n : Fin 1280), (kernelRun0_B.sl.r_67 c i arg2 harg2 arg3 harg3 arg4 harg4 arg6 harg6 arg7 harg7 arg8 harg8 arg11 harg11 x0 x1 x2 x4 x5 x6 xs0) (ix2 r n) = (I.cv (i 0).val (s + r.val) (1536 + n.val) : EReal) :=
  pay_gateB (up2 c i harg2 harg3 harg4 harg6 B) (u1_2 c i harg2 harg3 harg4 harg6 harg11 B hxs) (u2_2 c i harg2 harg3 harg4 harg6 harg11 B hxs) (B.cw harg7) (B.cb harg8)

include hxs in
theorem out : ∀ (r : Fin 512) (d : Fin 1024), k0_pay1 (kernelRun0_B.sl.r_77 c i arg2 harg2 arg3 harg3 arg4 harg4 arg5 harg5 arg6 harg6 arg7 harg7 arg8 harg8 arg9 harg9 arg11 harg11 x0 x1 x2 x3 x4 x5 x6 x7 xs0) (ix3 0 r d) = (I.out (i 0).val (s + r.val) d.val : EReal) :=
  pay_out (fun r d => (sq1024 r d).trans (B.x harg2 r d)) (B.md harg3 5120 (off3 i) rfl) (down0 c i harg2 harg3 harg4 harg6 harg7 harg8 harg9 harg11 B hxs) (gate1 c i harg2 harg3 harg4 harg6 harg7 harg8 harg11 B hxs) (up3 c i harg2 harg3 harg4 harg6 B) (u1_3 c i harg2 harg3 harg4 harg6 harg11 B hxs) (u2_3 c i harg2 harg3 harg4 harg6 harg11 B hxs) (B.cw harg7) (B.cb harg8)
    (B.wd harg9) (B.gpost harg5)

end Cert.Ffn.RunB
-- ==== Proof.FfnCase.lean ====
/- What a tile of the feed-forward kernel leaves in its output block and in the last rows of its column buffer. -/
module

public import proofs.«01_k».proof.Proof.FfnRunA
public import proofs.«01_k».proof.Proof.FfnRunB
import all proofs.«01_k».proof.Proof.Gen.Kernel2Ideal.Frame.RunA
import all proofs.«01_k».proof.Proof.Gen.Kernel2Ideal.Frame.RunB

public section

set_option maxRecDepth 16384
set_option maxHeartbeats 2000000

noncomputable section

namespace Cert.Ffn

open Idealize.ShloMosaic Cert.RealKit Cert.Kernel2Ideal Cert.Kernel2Ideal.Gen

variable {I : In} {s : ℕ} {x0 : Vec Ideal S1x512x1024 .f32} {x1 : Vec Ideal S2x6144 .f32}
  {x2 x3 : Vec Ideal S1x1024 .f32} {x4 : Vec Ideal S1024x5632 .bf16} {x5 : Vec Ideal S1x3x5632 .f32} {x6 : Vec Ideal S1x5632 .f32}
  {x7 : Vec Ideal S2816x1024 .bf16} {xs0 : Vec Ideal S44x520x128 .f32}
  (c : Dev nD) (i : grid0.Coords) {arg2 : Memref sig .tc .vmem S1x512x1024 .f32} (harg2 : arg2.IsWhole) {arg3 : Memref sig .tc .vmem S2x6144 .f32} (harg3 : arg3.IsWhole)
  {arg4 : Memref sig .tc .vmem S1x1024 .f32} (harg4 : arg4.IsWhole) {arg5 : Memref sig .tc .vmem S1x1024 .f32} (harg5 : arg5.IsWhole) {arg6 : Memref sig .tc .vmem S1024x5632 .bf16} (harg6 : arg6.IsWhole)
  {arg7 : Memref sig .tc .vmem S1x3x5632 .f32} (harg7 : arg7.IsWhole) {arg8 : Memref sig .tc .vmem S1x5632 .f32} (harg8 : arg8.IsWhole) {arg9 : Memref sig .tc .vmem S2816x1024 .bf16} (harg9 : arg9.IsWhole)
  {arg10 : Memref sig .tc .vmem S1x512x1024 .f32} (harg10 : arg10.IsWhole)

section
variable (hc0 : cond0_0 i) (B : Blk I i 0 x0 x1 x2 x3 x4 x5 x6 x7)
include B

theorem blockA (r : Fin 512) (d : Fin 1024) : out0_A_8 (F := Ideal) c i arg2 harg2 arg3 harg3 arg4 harg4 arg5 harg5 arg6 harg6 arg7 harg7 arg8 harg8 arg9 harg9 arg10 harg10 scM0_0 (Memref.isWhole_whole _) hc0 x0 x1 x2 x3 x4 x5 x6 x7 (ix3 0 r d) = (I.out (i 0).val (0 + r.val) d.val : EReal) :=
  (View.read_writes_cons_unit_of_mem (off' := ![0, 0, 0]) VO0_8 _ _ _ _ (ix3 0 r d) (ix3 0 r d) rfl (fun a => by fin_cases a <;> exact (Nat.zero_add _).symm)).trans
    (RunA.out c i harg2 harg3 harg4 harg5 harg6 harg7 harg8 harg9 scM0_0 B r d)

theorem rowsA : Kept (fun r f => I.up (i 0).val (0 + r) f) U3 (sout0_A_0 (F := Ideal) c i arg2 harg2 arg3 harg3 arg4 harg4 arg5 harg5 arg6 harg6 arg7 harg7 arg8 harg8 arg9 harg9 arg10 harg10 scM0_0 (Memref.isWhole_whole _) hc0 x0 x1 x2 x3 x4 x5 x6 x7) := by
  have h : St I (i 0).val 0 scM0_0.view scM0_0.view.junk U3 U3 (kernelRun0_A (F := Ideal) c i arg2 harg2 arg3 harg3 arg4 harg4 arg5 harg5 arg6 harg6 arg7 harg7 arg8 harg8 arg9 harg9 arg10 harg10 scM0_0 (Memref.isWhole_whole _) hc0 x0 x1 x2 x3 x4 x5 x6 x7).2.1 := by
    refine St.keep ?_ (by decide)
    exact RunA.kept3 c i harg2 harg3 harg4 harg6 scM0_0 B
  exact h.kept _
end

section
variable (hc0 : ¬cond0_0 i) (B : Blk I i s x0 x1 x2 x3 x4 x5 x6 x7) (hxs : Old (fun r f => I.back 8 (i 0).val (s + r) f) [] xs0)
include B hxs

theorem blockB (r : Fin 512) (d : Fin 1024) : out0_B_8 (F := Ideal) c i arg2 harg2 arg3 harg3 arg4 harg4 arg5 harg5 arg6 harg6 arg7 harg7 arg8 harg8 arg9 harg9 arg10 harg10 scM0_0 (Memref.isWhole_whole _) hc0 x0 x1 x2 x3 x4 x5 x6 x7 xs0 (ix3 0 r d) = (I.out (i 0).val (s + r.val) d.val : EReal) :=
  (View.read_writes_cons_unit_of_mem (off' := ![0, 0, 0]) VO0_8 _ _ _ _ (ix3 0 r d) (ix3 0 r d) rfl (fun a => by fin_cases a <;> exact (Nat.zero_add _).symm)).trans
    (RunB.out c i harg2 harg3 harg4 harg5 harg6 harg7 harg8 harg9 (Memref.isWhole_whole _) B hxs r d)

theorem rowsB : Kept (fun r f => I.up (i 0).val (s + r) f) U3 (sout0_B_0 (F := Ideal) c i arg2 harg2 arg3 harg3 arg4 harg4 arg5 harg5 arg6 harg6 arg7 harg7 arg8 harg8 arg9 harg9 arg10 harg10 scM0_0 (Memref.isWhole_whole _) hc0 x0 x1 x2 x3 x4 x5 x6 x7 xs0) := by
  have h : St I (i 0).val s scM0_0.view ((Memref.isWhole_whole _ : scM0_0.IsWhole).unread xs0) U3 U3 (kernelRun0_B (F := Ideal) c i arg2 harg2 arg3 harg3 arg4 harg4 arg5 harg5 arg6 harg6 arg7 harg7 arg8 harg8 arg9 harg9 arg10 harg10 scM0_0 (Memref.isWhole_whole _) hc0 x0 x1 x2 x3 x4 x5 x6 x7 xs0).2.1 := by
    refine St.keep ?_ (by decide)
    exact RunB.kept3 c i harg2 harg3 harg4 harg6 (Memref.isWhole_whole _) B hxs
  exact h.kept _
end

end Cert.Ffn
-- ==== Proof.FfnRef.lean ====
/- The reference of the feed-forward half computes `In.out`. -/
module

public import proofs.«01_k».proof.Proof.FfnSpec
public import proofs.«01_k».proof.Proof.Gen.Reference2Ideal.Read
public import Idealize.ShloMosaic.Lib.Pipeline.ValueKit
public import Idealize.ShloMosaic.Lib.KernelVsHost

@[expose] public section

set_option maxRecDepth 16384

noncomputable section

namespace Cert.Ffn

open Idealize.ShloMosaic Cert.RealKit Cert.Reference2Ideal Cert.Reference2Ideal.Gen Cert.Reference2Ideal.Read

section
variable (I : In) {x0 : FVec Ideal S2x8192x1024 .f32} {x1 : FVec Ideal S2x6144 .f32} {x2 x3 : FVec Ideal S1x1024 .f32}
  {x4 : FVec Ideal S1x1024x5632 .f32} {x5 : FVec Ideal S1x3x5632 .f32} {x6 : FVec Ideal S1x5632 .f32} {x7 : FVec Ideal S1x2816x1024 .f32}

/-- The reference's arguments hold `I`'s arrays. -/
structure Holds (I : In) (x0 : FVec Ideal S2x8192x1024 .f32) (x1 : FVec Ideal S2x6144 .f32) (x2 x3 : FVec Ideal S1x1024 .f32)
    (x4 : FVec Ideal S1x1024x5632 .f32) (x5 : FVec Ideal S1x3x5632 .f32) (x6 : FVec Ideal S1x5632 .f32) (x7 : FVec Ideal S1x2816x1024 .f32) : Prop where
  h0 : ∀ (b : Fin 2) (s : Fin 8192) (d : Fin 1024), x0 (ix3 b s d) = (I.x b.val s.val d.val : EReal)
  h1 : ∀ (b : Fin 2) (j : Fin 6144), x1 (ix2 b j) = (I.md b.val j.val : EReal)
  h2 : ∀ (d : Fin 1024), x2 (ix2 0 d) = (I.gpre d.val : EReal)
  h3 : ∀ (d : Fin 1024), x3 (ix2 0 d) = (I.gpost d.val : EReal)
  h4 : ∀ (d : Fin 1024) (f : Fin 5632), x4 (ix3 0 d f) = (I.w d.val f.val : EReal)
  h5 : ∀ (k : Fin 3) (f : Fin 5632), x5 (ix3 0 k f) = (I.cw k.val f.val : EReal)
  h6 : ∀ (f : Fin 5632), x6 (ix2 0 f) = (I.cb f.val : EReal)
  h7 : ∀ (j : Fin 2816) (d : Fin 1024), x7 (ix3 0 j d) = (I.wd j.val d.val : EReal)

variable (H : Holds I x0 x1 x2 x3 x4 x5 x6 x7)
include H

theorem ref_hid (b : Fin 2) (s : Fin 8192) (d : Fin 1024) :
    val_main_v31 (F := Ideal) x0 x1 x2 (ix3 b s d) = (I.hid b.val s.val d.val : EReal) := by
  pointwise [val_main_v31, val_main_v30, val_main_v29, val_main_v28, val_main_v27, val_main_v26, val_main_cst_2, val_main_v25, val_main_v24, val_main_v23, val_main_v22, val_main_v21, val_main_v20, val_main_v19, val_main_v18, val_main_cst_1, val_main_v17, val_main_v16, val_main_cst_0, val_main_v15, val_main_v14, val_main_cst, val_main_v13, val_main_v12, val_main_v10, val_main_v9, val_main_v4, val_main_v3]
  simp only [H.h0, H.h1, H.h2, ← EReal.coe_mul, ← coe_sum]
  rw [word_1024, word_eps, rsqrt_rs (I.x b.val s.val), ← EReal.coe_one]
  simp only [← EReal.coe_mul, ← EReal.coe_add]
  rfl

theorem ref_up (b : Fin 2) (s : Fin 8192) (f : Fin 5632) :
    val_main_v33 (F := Ideal) x0 x1 x2 x4 (ix3 b s f) = (I.up b.val s.val f.val : EReal) := by
  pointwise [val_main_v33, val_main_v32]
  simp only [ref_hid I H, H.h4, ← EReal.coe_mul, ← coe_sum]
  rfl

theorem ref_pad (b : Fin 2) (s : Fin 8194) (f : Fin 5632) :
    val_main_v36 (F := Ideal) x0 x1 x2 x4 (ix3 b s f) = ((if s.val < 2 then 0 else I.up b.val (s.val - 2) f.val : ℝ) : EReal) := by
  pointwise [val_main_v36, val_main_call0_v0, val_main_c]
  split
  · next h => rw [ref_up I H, if_neg (by omega)]
  · next h =>
    rw [if_pos (by have := s.isLt; have := f.isLt; omega)]
    show (((0#32).toInt : ℝ) : EReal) = 0
    simp

theorem ref_cv (b : Fin 2) (s : Fin 8192) (f : Fin 5632) :
    val_main_v59 (F := Ideal) x0 x1 x2 x4 x5 x6 (ix3 b s f) = (I.cv b.val s.val f.val : EReal) := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v35, val_main_v34]
  simp only [ref_pad I H, H.h5, H.h6]
  simp only [← EReal.coe_mul, ← EReal.coe_add]
  congr 1
  unfold In.cv In.back
  have e1 : (if 1 + s.val < 2 then (0:ℝ) else I.up b.val (1 + s.val - 2) f.val) = if s.val < 1 then (0:ℝ) else I.up b.val (s.val - 1) f.val := by
    by_cases h : s.val < 1
    · rw [if_pos h, if_pos (by omega)]
    · rw [if_neg h, if_neg (by omega)]; congr 1; omega
  have e2 : (if 2 + s.val < 2 then (0:ℝ) else I.up b.val (2 + s.val - 2) f.val) = if s.val < 0 then (0:ℝ) else I.up b.val (s.val - 0) f.val := by
    rw [if_neg (by omega), if_neg (by omega)]; congr 1; omega
  simp only [e1, e2]
  rfl

theorem ref_act (b : Fin 2) (s : Fin 8192) (j : Fin 2816) :
    val_main_v75 (F := Ideal) x0 x1 x2 x4 x5 x6 (ix3 b s j) = (I.act b.val s.val j.val : EReal) := by
  pointwise [val_main_v75, val_main_v74, val_main_v73, val_main_v72, val_main_v71, val_main_v70, val_main_v69, val_main_v68, val_main_v67, val_main_v66, val_main_v65, val_main_v64, val_main_v63, val_main_v62, val_main_v61, val_main_v60, val_main_cst_3, val_main_cst_4, val_main_cst_5, val_main_cst_6]
  simp only [ref_cv I H, word_gk, word_ga, word_half]
  rw [← EReal.coe_one]
  simp only [← EReal.coe_mul, ← EReal.coe_add, Ideal.tanh_coe]
  rfl

theorem ref_ff (b : Fin 2) (s : Fin 8192) (d : Fin 1024) :
    val_main_v77 (F := Ideal) x0 x1 x2 x4 x5 x6 x7 (ix3 b s d) = (I.ff b.val s.val d.val : EReal) := by
  pointwise [val_main_v77, val_main_v76]
  simp only [ref_act I H, H.h7, ← EReal.coe_mul, ← coe_sum]
  rfl

/-- The reference's result. -/
theorem ref_out (b : Fin 2) (s : Fin 8192) (d : Fin 1024) :
    val_main_v94 (F := Ideal) x0 x1 x2 x3 x4 x5 x6 x7 (ix3 b s d) = (I.out b.val s.val d.val : EReal) := by
  pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_cst_7, val_main_cst_8, val_main_cst_9, val_main_v11, val_main_v5]
  simp only [ref_ff I H, H.h0, H.h1, H.h3, ← EReal.coe_mul, ← coe_sum]
  rw [word_1024, word_eps, rsqrt_rs (I.ff b.val s.val)]
  simp only [← EReal.coe_mul, ← EReal.coe_add]
  rfl

end

end Cert.Ffn
-- ==== Proof.FfnValue.lean ====
/- The feed-forward kernel's result array, tile by tile. -/
module

public import proofs.«01_k».proof.Proof.FfnCase
public import proofs.«01_k».proof.Proof.FfnRef
public import proofs.«01_k».proof.Proof.Gen.Kernel2Ideal.Value

@[expose] public section

set_option maxRecDepth 16384
set_option maxHeartbeats 2000000

noncomputable section

namespace Cert.Ffn

open Idealize.ShloMosaic Idealize.ShloMosaic.TcCoe Idealize.SL.Sem Cert.RealKit Cert.Kernel2Ideal Cert.Kernel2Ideal.Gen Cert.Kernel2Ideal.Value

theorem fst_of {α β : Type} {p : α × β} {a : α} {b : β} (e : p = (a, b)) : p.1 = a := by subst e; rfl
theorem snd_of {α β : Type} {p : α × β} {a : α} {b : β} (e : p = (a, b)) : p.2 = b := by subst e; rfl

variable (m : (ℓ : Loc nD τ sig) → Buf (Elt Ideal) ℓ) (c : Dev nD)

/-- The kernel's arguments on a device hold `I`'s arrays. -/
abbrev HoldsAt (I : In) : Prop :=
  Holds I (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem coord0 : ∀ t : Fin cfg0.N, (grid0.coords t 0).val = t.val / 16 := (by decide +kernel : ∀ t : Fin grid0.N, _)

/-- The windows' block indices: the row tile's, and zero for the arrays held whole. -/
theorem index0 : ∀ t : Fin cfg0.N, win0_0.index t 0 = t.val / 16 ∧ win0_0.index t 1 = t.val % 16 ∧ win0_0.index t 2 = 0 :=
  (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = 0 ∧ win0_3.index t 1 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 ∧ win0_5.index t 2 = 0 := (by decide +kernel : ∀ t : Fin grid0.N, _)
theorem index6 : ∀ t : Fin cfg0.N, win0_6.index t 0 = 0 ∧ win0_6.index t 1 = 0 := (by decide +kernel : ∀ t : Fin grid0.N, _)
theorem index7 : ∀ t : Fin cfg0.N, win0_7.index t 0 = 0 ∧ win0_7.index t 1 = 0 := (by decide +kernel : ∀ t : Fin grid0.N, _)

theorem point_lt (t : Fin cfg0.N) : t.val < 32 := t.isLt.trans_eq N_0

theorem blk0 (t : Fin cfg0.N) (r : Fin 512) (d : Fin 1024) :
    iblk m c 0 t (ix3 0 r d) = m ((c : Thread nD τ).loc main_arg0)
      (ix3 ⟨t.val / 16, by have := point_lt t; omega⟩ ⟨512 * (t.val % 16) + r.val, by omega⟩ d) := by
  blk_ext! [iblk, V, index0 t]

theorem blk1 (t : Fin cfg0.N) (b : Fin 2) (j : Fin 6144) : iblk m c 1 t (ix2 b j) = m ((c : Thread nD τ).loc main_arg1) (ix2 b j) := by
  blk_ext! [iblk, V, index1 t]

theorem blk2 (t : Fin cfg0.N) (d : Fin 1024) : iblk m c 2 t (ix2 0 d) = m ((c : Thread nD τ).loc main_arg2) (ix2 0 d) := by
  blk_ext! [iblk, V, index2 t]

theorem blk3 (t : Fin cfg0.N) (d : Fin 1024) : iblk m c 3 t (ix2 0 d) = m ((c : Thread nD τ).loc main_arg3) (ix2 0 d) := by
  blk_ext! [iblk, V, index3 t]

theorem blk4 (t : Fin cfg0.N) (d : Fin 1024) (f : Fin 5632) : iblk m c 4 t (ix2 d f) = m ((c : Thread nD τ).loc main_arg4) (ix3 0 d f) := by
  blk_ext! [iblk, V, index4 t]

theorem blk5 (t : Fin cfg0.N) (k : Fin 3) (f : Fin 5632) : iblk m c 5 t (ix3 0 k f) = m ((c : Thread nD τ).loc main_arg5) (ix3 0 k f) := by
  blk_ext! [iblk, V, index5 t]

theorem blk6 (t : Fin cfg0.N) (f : Fin 5632) : iblk m c 6 t (ix2 0 f) = m ((c : Thread nD τ).loc main_arg6) (ix2 0 f) := by
  blk_ext! [iblk, V, index6 t]

theorem blk7 (t : Fin cfg0.N) (j : Fin 2816) (d : Fin 1024) : iblk m c 7 t (ix2 j d) = m ((c : Thread nD τ).loc main_arg7) (ix3 0 j d) := by
  blk_ext! [iblk, V, index7 t]

variable {m c} {I : In} (H : HoldsAt m c I)
include H

/-- The blocks a point reads hold `I`'s arrays. -/
theorem blk (t : Fin cfg0.N) : Blk I (grid0.coords t) (512 * (t.val % 16)) (iblk m c 0 t) (iblk m c 1 t) (iblk m c 2 t) (iblk m c 3 t)
    (iblk m c 4 t) (iblk m c 5 t) (iblk m c 6 t) (iblk m c 7 t) where
  h0 r d := by rw [coord0]; exact (blk0 m c t r d).trans (H.h0 _ _ _)
  h1 b j := (blk1 m c t b j).trans (H.h1 _ _)
  h2 d := (blk2 m c t d).trans (H.h2 _)
  h3 d := (blk3 m c t d).trans (H.h3 _)
  h4 d f := (blk4 m c t d f).trans (H.h4 _ _)
  h5 k f := (blk5 m c t k f).trans (H.h5 _ _)
  h6 f := (blk6 m c t f).trans (H.h6 _)
  h7 j d := (blk7 m c t j d).trans (H.h7 _ _)

/-- What point `t` leaves: its rows of the result, and its last eight rows of columns for the point after it. -/
def Left (m : (ℓ : Loc nD τ sig) → Buf (Elt Ideal) ℓ) (c : Dev nD) (I : In) (n : ℕ) (h : n < cfg0.N) : Prop :=
  (∀ (r : Fin 512) (d : Fin 1024), (outsAt0 m c n h).1 (ix3 0 r d) = (I.out (n / 16) (512 * (n % 16) + r.val) d.val : EReal))
    ∧ Kept (fun r f => I.up (n / 16) (512 * (n % 16) + r) f) U3 (outsAt0 m c n h).2

/-- The first tile of a batch. -/
theorem leftA (t : Fin cfg0.N) (h0 : t.val % 16 = 0) : Left m c I t.val t.isLt := by
  have B := blk H t
  have e1 := fst_of (outsAt0_A m c t h0)
  have e2 := snd_of (outsAt0_A m c t h0)
  unfold Left
  rw [h0, Nat.mul_zero] at B ⊢
  rw [← coord0 t]
  exact ⟨fun r d => (congrFun e1 (ix3 0 r d)).trans (blockA c _ (hs0_0 t) (hs0_1 t) (hs0_2 t) (hs0_3 t) (hs0_4 t) (hs0_5 t)
      (hs0_6 t) (hs0_7 t) (hs0_8 t) ((hcond0_0 t).mpr h0) B r d),
    e2.symm ▸ rowsA c _ (hs0_0 t) (hs0_1 t) (hs0_2 t) (hs0_3 t) (hs0_4 t) (hs0_5 t) (hs0_6 t) (hs0_7 t) (hs0_8 t)
      ((hcond0_0 t).mpr h0) B⟩

omit H in
/-- The last eight rows of columns a tile leaves are the history of the one after it. -/
theorem old {n : ℕ} (h0 : ¬n % 16 = 0) {g : Slabs} (h : Kept (fun r f => I.up ((n - 1) / 16) (512 * ((n - 1) % 16) + r) f) U3 g) :
    Old (fun r f => I.back 8 (n / 16) (512 * (n % 16) + r) f) [] g := by
  intro a r l hr _
  rw [h a r l hr ((by decide : ∀ a : Fin 44, a.val ∈ U3) a)]
  have e1 : (n - 1) / 16 = n / 16 := by omega
  have e2 : 512 * ((n - 1) % 16) + (504 + r.val) = 512 * (n % 16) + r.val - 8 := by omega
  simp only [In.back]
  rw [if_neg (by omega), e1, e2]

/-- A later tile, after the one before it. -/
theorem leftB (t : Fin cfg0.N) (h0 : ¬t.val % 16 = 0) (h : Left m c I (t.val - 1) (Nat.lt_of_le_of_lt (Nat.sub_le _ _) t.isLt)) :
    Left m c I t.val t.isLt := by
  have B := blk H t
  have e1 := fst_of (outsAt0_B m c t h0)
  have e2 := snd_of (outsAt0_B m c t h0)
  have hx := old h0 h.2
  unfold Left
  rw [← coord0 t] at hx ⊢
  exact ⟨fun r d => (congrFun e1 (ix3 0 r d)).trans (blockB c _ (hs0_0 t) (hs0_1 t) (hs0_2 t) (hs0_3 t) (hs0_4 t) (hs0_5 t)
      (hs0_6 t) (hs0_7 t) (hs0_8 t) (fun h => h0 ((hcond0_0 t).mp h)) B hx r d),
    e2.symm ▸ rowsB c _ (hs0_0 t) (hs0_1 t) (hs0_2 t) (hs0_3 t) (hs0_4 t) (hs0_5 t) (hs0_6 t) (hs0_7 t) (hs0_8 t)
      (fun h => h0 ((hcond0_0 t).mp h)) B hx⟩

theorem left (n : ℕ) : ∀ h : n < cfg0.N, Left m c I n h := by
  induction n with
  | zero => exact fun h => leftA H ⟨0, h⟩ rfl
  | succ n ih =>
    intro h
    by_cases h0 : (n + 1) % 16 = 0
    · exact leftA H ⟨n + 1, h⟩ h0
    · exact leftB H ⟨n + 1, h⟩ h0 (ih _)

/-- The kernel's result array. -/
theorem result (b : Fin 2) (s : Fin 8192) (d : Fin 1024) : G8 m c (ix3 b s d) = (I.out b.val s.val d.val : EReal) := by
  have hN : cfg0.N = 32 := N_0
  have e : pt8Of (ix3 b s d) = 16 * b.val + s.val / 512 := by
    show 16 * (b.val / 1 - 0) + 1 * (s.val / 512 - 0) + 1 * (d.val / 1024 - 0) = _
    have := d.isLt; omega
  have hlt : 16 * b.val + s.val / 512 < cfg0.N := by omega
  have h := (left H _ hlt).1 ⟨s.val % 512, by omega⟩ d
  have hl : loc8Of (ix3 b s d) = ix3 0 ⟨s.val % 512, by omega⟩ d := by
    funext a; apply Fin.ext
    match a with
    | ⟨0, _⟩ => show b.val % 1 = 0; omega
    | ⟨1, _⟩ => rfl
    | ⟨2, _⟩ => show d.val % 1024 = d.val; omega
  unfold G8
  rw [dif_pos (by rw [e]; exact hlt), hl, fold0_congr m c _ _ _ (by omega) e, ← outsAt0_sweep m c _ hlt]
  refine h.trans ?_
  rw [show (16 * b.val + s.val / 512) / 16 = b.val by omega,
    show 512 * ((16 * b.val + s.val / 512) % 16) + s.val % 512 = s.val by omega]

end Cert.Ffn
-- ==== Proof.FfnMain.lean ====
/- The feed-forward kernel and the feed-forward reference leave the same array, on real arguments. -/
module

public import proofs.«01_k».proof.Defs
public import proofs.«01_k».proof.Proof.Finite
public import proofs.«01_k».proof.Proof.FfnValue
public import proofs.«01_k».proof.Proof.Gen.Pre_all_real2

@[expose] public section

set_option maxRecDepth 16384

noncomputable section

namespace Cert.Ffn

open Idealize.ShloMosaic Idealize.ShloMosaic.TcCoe Idealize.SL.Sem Cert.RealKit

/-- The real arrays that the arguments hold. -/
def ofArrays (x0 : FVec Ideal Kernel2Ideal.S2x8192x1024 .f32) (x1 : FVec Ideal Kernel2Ideal.S2x6144 .f32) (x2 x3 : FVec Ideal Kernel2Ideal.S1x1024 .f32)
    (x4 : FVec Ideal Kernel2Ideal.S1x1024x5632 .f32) (x5 : FVec Ideal Kernel2Ideal.S1x3x5632 .f32) (x6 : FVec Ideal Kernel2Ideal.S1x5632 .f32)
    (x7 : FVec Ideal Kernel2Ideal.S1x2816x1024 .f32) : In where
  x := nat3 x0
  md := nat2 x1
  gpre d := nat2 x2 0 d
  gpost d := nat2 x3 0 d
  w d f := nat3 x4 0 d f
  cw k f := nat3 x5 0 k f
  cb f := nat2 x6 0 f
  wd j d := nat3 x7 0 j d

/-- Arguments the test accepts hold real arrays. -/
theorem holds_of_pre {x0 x1 x2 x3 x4 x5 x6 x7} (h : Cert.Pre_all_real2.fn (F := Ideal) x0 x1 x2 x3 x4 x5 x6 x7 = fun _ => 1#1) :
    Holds (ofArrays x0 x1 x2 x3 x4 x5 x6 x7) x0 x1 x2 x3 x4 x5 x6 x7 := by
  haveI : Subsingleton Cert.Pre_all_real2.S_.Idx := ⟨fun a b => funext fun k => k.elim0⟩
  have e := congrFun h (fun k => k.elim0)
  dsimp only [Cert.Pre_all_real2.fn, Cert.Pre_all_real2.fn_part1, Cert.Pre_all_real2.fn_part2] at e
  obtain ⟨e, r7⟩ := IntOp.andi_eq_one.1 e
  obtain ⟨e, r6⟩ := IntOp.andi_eq_one.1 e
  obtain ⟨e, r5⟩ := IntOp.andi_eq_one.1 e
  obtain ⟨e, r4⟩ := IntOp.andi_eq_one.1 e
  obtain ⟨e, r3⟩ := IntOp.andi_eq_one.1 e
  obtain ⟨e, r2⟩ := IntOp.andi_eq_one.1 e
  obtain ⟨r0, r1⟩ := IntOp.andi_eq_one.1 e
  exact ⟨nat3_eq (real_of_all _ _ _ _ _ _ _ r0), nat2_eq (real_of_all _ _ _ _ _ _ _ r1), nat2_eq (real_of_all _ _ _ _ _ _ _ r2) 0,
    nat2_eq (real_of_all _ _ _ _ _ _ _ r3) 0, nat3_eq (real_of_all _ _ _ _ _ _ _ r4) 0, nat3_eq (real_of_all _ _ _ _ _ _ _ r5) 0,
    nat2_eq (real_of_all _ _ _ _ _ _ _ r6) 0, nat3_eq (real_of_all _ _ _ _ _ _ _ r7) 0⟩

/-- Arguments equal to ones that hold `I`'s arrays hold them. -/
theorem Holds.of_eq {I : In} {x0 y0 x1 y1 x2 y2 x3 y3 x4 y4 x5 y5 x6 y6 x7 y7} (H : Holds I x0 x1 x2 x3 x4 x5 x6 x7) (a0 : y0 = x0) (a1 : y1 = x1)
    (a2 : y2 = x2) (a3 : y3 = x3) (a4 : y4 = x4) (a5 : y5 = x5) (a6 : y6 = x6) (a7 : y7 = x7) : Holds I y0 y1 y2 y3 y4 y5 y6 y7 := by
  subst a0 a1 a2 a3 a4 a5 a6 a7; exact H

/-- The kernel's result array is the reference's value. -/
theorem same {I : In} {m : (ℓ : Loc Kernel2Ideal.nD Kernel2Ideal.τ Kernel2Ideal.sig) → Buf (Elt Ideal) ℓ} {c : Dev Kernel2Ideal.nD} {x0 x1 x2 x3 x4 x5 x6 x7}
    (H' : Holds I x0 x1 x2 x3 x4 x5 x6 x7) (H : HoldsAt m c I) :
    Cert.Reference2Ideal.Read.val_main_v94 (F := Ideal) x0 x1 x2 x3 x4 x5 x6 x7 = Cert.Kernel2Ideal.Value.G8 m c := by
  funext i
  rw [← ix3_eta i]
  exact (ref_out _ H' (i 0) (i 1) (i 2)).trans (result H (i 0) (i 1) (i 2)).symm

/-- Equal results on real arguments. -/
theorem algebraic : Cert.algebraic_Kernel2Ideal_Reference2Ideal_pre_all_real2 (hKernel2Ideal := Cert.Kernel2Ideal.Gen.facts)
    (hReference2Ideal := Cert.Reference2Ideal.Gen.facts) (hPre_all_real2 := Cert.Pre_all_real2.Gen.facts) := by
  intro m g m' g' hpre hargs
  refine ⟨fun c => Cert.Kernel2Ideal.Value.G8 m c, Cert.Kernel2Ideal.Value.run m g, ?_⟩
  refine (θ_run Cert.Reference2Ideal.defs _ _).mono (fun r h c => ⟨?_, (h c).2⟩) (Cert.Reference2Ideal.Value.run m' g')
  obtain ⟨a0, a1, a2, a3, a4, a5, a6, a7⟩ := hargs c
  have H := holds_of_pre (hpre c)
  exact (h c).1.trans ((Cert.Reference2Ideal.Read.val_main_v94_eq (StableHlo.launchContents m' c)).trans
    (same (H.of_eq a0 a1 a2 a3 a4 a5 a6 a7) H))

end Cert.Ffn
-- ==== Proof.MixSpec.lean ====
/- The mixer half of the block over the reals: what its result is, entry by entry. -/
module

public import proofs.«01_k».proof.Proof.RealKit

@[expose] public section

noncomputable section

namespace Cert.Mix

open Idealize.ShloMosaic Cert.RealKit

/-- The arrays the mixer reads, at any indices. -/
structure In where
  x : ℕ → ℕ → ℕ → ℝ
  c : ℕ → ℕ → ℝ
  gpre : ℕ → ℝ
  gpost : ℕ → ℝ
  wada : ℕ → ℕ → ℝ
  bada : ℕ → ℝ
  w : ℕ → ℕ → ℝ
  wp : ℕ → ℕ → ℕ → ℝ
  psc : ℕ → ℝ
  cw : ℕ → ℕ → ℝ
  cb : ℕ → ℝ
  wb : ℕ → ℕ → ℝ
  wo : ℕ → ℕ → ℝ

/-- A row read `k` rows earlier, zero before the sequence. -/
def back (k : ℕ) (f : ℕ → ℝ) (s : ℕ) : ℝ := if s < k then 0 else f (s - k)
/-- The last `W` rows added up. -/
def win (W : ℕ) (f : ℕ → ℝ) (s : ℕ) : ℝ := ∑ j ∈ Finset.range W, back j f s
/-- The logistic curve. -/
def sg (z : ℝ) : ℝ := 1 / (1 + Real.exp (-z))
/-- How many rows a window of width `W` ending at row `s` holds. -/
def cnt (W s : ℕ) : ℝ := min ((s : ℝ) + 1) (W : ℝ)

theorem win_range (W : ℕ) (f : ℕ → ℝ) (s : ℕ) :
    ∑ i ∈ Finset.range (s + 1), f i - ∑ i ∈ Finset.range (s + 1 - W), f i = win W f s := by
  induction W with
  | zero => simp [win]
  | succ W ih =>
    unfold win at ih ⊢
    rw [Finset.sum_range_succ (n := W), ← ih]
    unfold back
    by_cases h : s < W
    · rw [if_pos h, show s + 1 - (W + 1) = 0 by omega, show s + 1 - W = 0 by omega]; ring
    · rw [if_neg h, show s + 1 - (W + 1) = s - W by omega, show s + 1 - W = (s - W) + 1 by omega, Finset.sum_range_succ (n := s - W)]; ring

theorem cnt_pos {W : ℕ} (hW : 0 < W) (s : ℕ) : 0 < cnt W s := by
  unfold cnt; have : (0 : ℝ) < W := by exact_mod_cast hW
  exact lt_min (by positivity) this

theorem sg_tanh (z : ℝ) : 1 / 2 * (1 + Real.tanh (1 / 2 * z)) = sg z := by
  unfold sg
  rw [Real.tanh_eq_sinh_div_cosh, Real.sinh_eq, Real.cosh_eq]
  have h1 : Real.exp (-z) = Real.exp (-(1 / 2 * z)) * Real.exp (-(1 / 2 * z)) := by rw [← Real.exp_add]; congr 1; ring
  have h2 : Real.exp (1 / 2 * z) * Real.exp (-(1 / 2 * z)) = 1 := by rw [← Real.exp_add]; simp
  rw [h1]
  have p1 := Real.exp_pos (1 / 2 * z)
  have p2 := Real.exp_pos (-(1 / 2 * z))
  generalize Real.exp (1 / 2 * z) = a at *
  generalize Real.exp (-(1 / 2 * z)) = b at *
  have hb : a = 1 / b := by field_simp; linarith
  subst hb
  field_simp
  ring

/-! The window widths as constants. -/

theorem word_2 : Ideal.ofBits .f32 0x40000000#32 = (((2 : ℕ) : ℝ) : EReal) := by
  simp [Ideal.ofBits, Ideal.ieee, -EReal.coe_mul]; norm_num
theorem word_4 : Ideal.ofBits .f32 0x40800000#32 = (((4 : ℕ) : ℝ) : EReal) := by
  simp [Ideal.ofBits, Ideal.ieee, -EReal.coe_mul]; norm_num
theorem word_8 : Ideal.ofBits .f32 0x41000000#32 = (((8 : ℕ) : ℝ) : EReal) := by
  simp [Ideal.ofBits, Ideal.ieee, -EReal.coe_mul]; norm_num
theorem word_16 : Ideal.ofBits .f32 0x41800000#32 = (((16 : ℕ) : ℝ) : EReal) := by
  simp [Ideal.ofBits, Ideal.ieee, -EReal.coe_mul]; norm_num

namespace In
variable (I : In)

/-- The modulation. -/
def md (b j : ℕ) : ℝ := (∑ k : Fin 1024, I.c b k.val * I.wada k.val j) + I.bada j
/-- The normalised, modulated row. -/
def hid (b s d : ℕ) : ℝ := I.x b s d * rs (I.x b s) * I.gpre d * (1 + I.md b (1024 + d)) + I.md b d
/-- The input projection. -/
def pr (b s f : ℕ) : ℝ := ∑ d : Fin 1024, I.hid b s d.val * I.w d.val f
/-- The width of the window a column belongs to. -/
def wid (e : ℕ) : ℕ := 2 ^ (e / 256 + 1)
/-- The pooled row: the mean over the window less the row. -/
def pl (b s e : ℕ) : ℝ := win (wid e) (fun s => I.pr b s e) s / cnt (wid e) s - I.pr b s e
/-- The first branch. -/
def ya (b s e : ℕ) : ℝ := (∑ k : Fin 256, I.wp (e / 256) k.val (e % 256) * I.pl b s (256 * (e / 256) + k.val)) * I.psc e
/-- The gated row the convolution reads. -/
def tt (b s d : ℕ) : ℝ := I.pr b s (3072 + d) * I.pr b s (1024 + d)
/-- The causal convolution of width three. -/
def cv (b s d : ℕ) : ℝ := I.cb d + I.cw 0 d * back 2 (fun s => I.tt b s d) s + I.cw 1 d * back 1 (fun s => I.tt b s d) s + I.cw 2 d * back 0 (fun s => I.tt b s d) s
/-- The second branch. -/
def yb (b s e : ℕ) : ℝ := ∑ d : Fin 1024, I.pr b s (2048 + d.val) * I.cv b s d.val * I.wb d.val e
/-- The merged row. -/
def mg (b s e : ℕ) : ℝ := sg (I.pr b s (4096 + e)) * I.ya b s e + sg (I.pr b s (5120 + e)) * I.yb b s e
/-- The output projection. -/
def ff (b s d : ℕ) : ℝ := ∑ e : Fin 1024, I.mg b s e.val * I.wo e.val d
/-- The result. -/
def out (b s d : ℕ) : ℝ := I.x b s d + I.md b (2048 + d) * (I.ff b s d * rs (I.ff b s) * I.gpost d)

/-- The first projection's weights with the pooling projection, and half its scale, folded in. -/
def wf (d e : ℕ) : ℝ := ∑ k : Fin 256, I.w d (256 * (e / 256) + k.val) * (I.wp (e / 256) k.val (e % 256) * (1 / 2 * I.psc e))
/-- The row through the folded weights. -/
def uu (b s e : ℕ) : ℝ := ∑ d : Fin 1024, I.hid b s d.val * I.wf d.val e

theorem uu_eq (b s e : ℕ) :
    I.uu b s e = ∑ k : Fin 256, I.pr b s (256 * (e / 256) + k.val) * (I.wp (e / 256) k.val (e % 256) * (1 / 2 * I.psc e)) := by
  unfold uu wf pr
  simp only [Finset.mul_sum, Finset.sum_mul]
  rw [Finset.sum_comm]
  refine Finset.sum_congr rfl fun k _ => Finset.sum_congr rfl fun d _ => by ring

theorem wid_add (e : ℕ) (k : Fin 256) : wid (256 * (e / 256) + k.val) = wid e := by
  unfold wid; have := k.isLt; congr 2; omega

/-- Pooling the row already projected gives half the first branch. -/
theorem half_ya (b s e : ℕ) :
    win (wid e) (fun s => I.uu b s e) s * (1 / cnt (wid e) s) - I.uu b s e = 1 / 2 * I.ya b s e := by
  unfold ya pl
  simp only [wid_add]
  simp only [uu_eq]
  unfold win
  have hb : ∀ j, back j (fun s => ∑ k : Fin 256, I.pr b s (256 * (e / 256) + k.val) * (I.wp (e / 256) k.val (e % 256) * (1 / 2 * I.psc e))) s
      = ∑ k : Fin 256, back j (fun s => I.pr b s (256 * (e / 256) + k.val)) s * (I.wp (e / 256) k.val (e % 256) * (1 / 2 * I.psc e)) := by
    intro j; unfold back; by_cases h : s < j
    · simp [h]
    · simp [h]
  simp only [hb]
  rw [Finset.sum_comm]
  simp only [Finset.sum_mul, Finset.mul_sum, ← Finset.sum_sub_distrib]
  refine Finset.sum_congr rfl fun k _ => ?_
  rw [← Finset.sum_mul, ← Finset.sum_mul]
  ring
end In

end Cert.Mix
-- ==== Proof.MixBuf.lean ====
/- The mixer's two column buffers, slab by slab: what a read finds after the tile's rows and the kept history have been
   stored. -/
module

public import proofs.«01_k».proof.Proof.MixSpec
public import Idealize.ShloMosaic.Lib.Pipeline.ValueKit
public import Idealize.ShloMosaic.Lib.WritesUnit

@[expose] public section

set_option maxRecDepth 16384

noncomputable section

namespace Cert.Mix

open Idealize.ShloMosaic

/-- The shape of a buffer of eight slabs of `N` rows by 128 columns. -/
abbrev Slab (N : ℕ) : Shape := ⟨3, ![8, N, 128]⟩

/-- A row earlier than the sequence's first is zero, however it is reached. -/
theorem back_shift {h o k : ℕ} (f : ℕ → ℝ) (s r : ℕ) (e : o + k = h) : back h f (s + (o + r)) = back k f (s + r) := by
  unfold back
  by_cases hs : s + r < k
  · rw [if_pos hs, if_pos (by omega)]
  · rw [if_neg hs, if_neg (by omega)]; congr 1; omega

section
variable (N h : ℕ) (f : ℕ → ℕ → ℝ) (s : ℕ)

/-- The tile's rows stand in the slabs of `U` from row `h` on. -/
def Rows (U : List ℕ) (g : (Slab N).Idx → EReal) : Prop :=
  ∀ (a : Fin 8) (r : Fin N) (l : Fin 128), h ≤ r.val → a.val ∈ U →
    g (ix3 a r l) = (f (s + r.val - h) (128 * a.val + l.val) : EReal)

/-- The first `h` rows outside the slabs of `H` are the rows before the tile. -/
def Old (H : List ℕ) (g : (Slab N).Idx → EReal) : Prop :=
  ∀ (a : Fin 8) (r : Fin N) (l : Fin 128), r.val < h → a.val ∉ H →
    g (ix3 a r l) = (back h (fun s => f s (128 * a.val + l.val)) (s + r.val) : EReal)

/-- The first `h` rows in the slabs of `H` are the tile's last. -/
def Kept (H : List ℕ) (g : (Slab N).Idx → EReal) : Prop :=
  ∀ (a : Fin 8) (r : Fin N) (l : Fin 128), r.val < h → a.val ∈ H →
    g (ix3 a r l) = (back h (fun s => f s (128 * a.val + l.val)) (s + 512 + r.val) : EReal)
end

section
variable {sig : RefSig} {sp : Space} {N : ℕ}

/-- What the buffer reads after the pieces `L` over contents `b`. -/
abbrev after (v : View sig .tc sp (Slab N) .f32) (b : v.ty.Contents (Elt Ideal))
    (L : List (View.Piece (Elt Ideal) (Slab N) .f32)) : (Slab N).Idx → EReal := v.read (Elt Ideal) (v.writes (Elt Ideal) b L)

/-- The buffer between the tile's first row stored and its history kept. -/
structure St (h : ℕ) (f : ℕ → ℕ → ℝ) (s : ℕ) (v : View sig .tc sp (Slab N) .f32) (b : v.ty.Contents (Elt Ideal)) (U H : List ℕ)
    (L : List (View.Piece (Elt Ideal) (Slab N) .f32)) : Prop where
  rows : ∀ b', Rows N h f s U (after v b' L)
  old : Old N h f s H (after v b L)
  kept : ∀ b', Kept N h f s H (after v b' L)

variable {h : ℕ} {f : ℕ → ℕ → ℝ} {s : ℕ} {v : View sig .tc sp (Slab N) .f32} {b : v.ty.Contents (Elt Ideal)} {U H : List ℕ}
  {L : List (View.Piece (Elt Ideal) (Slab N) .f32)}

theorem St.base {xs : (Slab N).Idx → EReal} (hb : v.read (Elt Ideal) b = xs) (ho : Old N h f s [] xs) : St h f s v b [] [] [] where
  rows := fun _ _ _ _ _ h => absurd h List.not_mem_nil
  old := fun a r l hr ha => (congrFun hb _).trans (ho a r l hr ha)
  kept := fun _ _ _ _ _ h => absurd h List.not_mem_nil

/-- The first `h` rows zeroed, at the sequence's start. -/
theorem St.zero {inb} {w : (Rect.unit (s := Slab N) ![0, 0, 0] ![8, h, 128] inb).shape.Idx → EReal}
    (hw : ∀ (a : Fin 8) (r : Fin h) (l : Fin 128), w (ix3 a r l) = (0 : EReal)) (h0 : s = 0) :
    St h f s v b [] [] (⟨Rect.unit ![0, 0, 0] ![8, h, 128] inb, w⟩ :: L) where
  rows := fun _ _ _ _ _ h => absurd h List.not_mem_nil
  kept := fun _ _ _ _ _ h => absurd h List.not_mem_nil
  old := by
    intro a r l hr _
    refine (View.read_writes_cons_unit_of_mem v b inb w L (ix3 a r l) (ix3 a ⟨r.val, hr⟩ l) rfl ?_).trans ?_
    · intro x
      fin_cases x
      · show a.val = 0 + a.val; omega
      · show r.val = 0 + r.val; omega
      · show l.val = 0 + l.val; omega
    · rw [hw]; unfold back; rw [if_pos (by omega), EReal.coe_zero]

theorem St.put {j : ℕ} {inb} {w : (Rect.unit (s := Slab N) ![j, h, 0] ![1, 512, 128] inb).shape.Idx → EReal} (hN : N = h + 512)
    (S : St h f s v b U H L) (hw : ∀ (r : Fin 512) (l : Fin 128), w (ix3 0 r l) = (f (s + r.val) (128 * j + l.val) : EReal)) :
    St h f s v b (j :: U) H (⟨Rect.unit ![j, h, 0] ![1, 512, 128] inb, w⟩ :: L) where
  rows := by
    intro b' a r l hr ha
    have hrN := r.isLt
    by_cases e : a.val = j
    · refine (View.read_writes_cons_unit_of_mem v b' inb w L (ix3 a r l) (ix3 0 ⟨r.val - h, by omega⟩ l) rfl ?_).trans ?_
      · intro x
        fin_cases x
        · simpa using e
        · show r.val = h + (r.val - h); omega
        · show l.val = 0 + l.val; omega
      · rw [hw, e]; show ((f (s + (r.val - h)) _ : ℝ) : EReal) = _
        rw [show s + (r.val - h) = s + r.val - h by omega]
    · refine (View.read_writes_cons_unit_of_not_mem v b' inb w L (ix3 a r l) rfl 0 ?_).trans
        (S.rows b' a r l hr ((List.mem_cons.mp ha).resolve_left e))
      show a.val < j ∨ j + 1 ≤ a.val
      omega
  old := by
    intro a r l hr ha
    refine (View.read_writes_cons_unit_of_not_mem v b inb w L (ix3 a r l) rfl 1 ?_).trans (S.old a r l hr ha)
    show r.val < h ∨ h + 512 ≤ r.val
    omega
  kept := by
    intro b' a r l hr ha
    refine (View.read_writes_cons_unit_of_not_mem v b' inb w L (ix3 a r l) rfl 1 ?_).trans (S.kept b' a r l hr ha)
    show r.val < h ∨ h + 512 ≤ r.val
    omega

theorem St.keep {j : ℕ} {inb} {w : (Rect.unit (s := Slab N) ![j, 0, 0] ![1, h, 128] inb).shape.Idx → EReal}
    (S : St h f s v b U H L)
    (hw : ∀ (r : Fin h) (l : Fin 128), w (ix3 0 r l) = (back h (fun s => f s (128 * j + l.val)) (s + 512 + r.val) : EReal)) :
    St h f s v b U (j :: H) (⟨Rect.unit ![j, 0, 0] ![1, h, 128] inb, w⟩ :: L) where
  rows := by
    intro b' a r l hr ha
    refine (View.read_writes_cons_unit_of_not_mem v b' inb w L (ix3 a r l) rfl 1 ?_).trans (S.rows b' a r l hr ha)
    show r.val < 0 ∨ 0 + h ≤ r.val
    omega
  old := by
    intro a r l hr ha
    have e : a.val ≠ j := fun e => ha (e ▸ List.mem_cons_self)
    refine (View.read_writes_cons_unit_of_not_mem v b inb w L (ix3 a r l) rfl 0 ?_).trans
      (S.old a r l hr fun h' => ha (List.mem_cons_of_mem _ h'))
    show a.val < j ∨ j + 1 ≤ a.val
    omega
  kept := by
    intro b' a r l hr ha
    by_cases e : a.val = j
    · refine (View.read_writes_cons_unit_of_mem v b' inb w L (ix3 a r l) (ix3 0 ⟨r.val, hr⟩ l) rfl ?_).trans ?_
      · intro x
        fin_cases x
        · simpa using e
        · show r.val = 0 + r.val; omega
        · show l.val = 0 + l.val; omega
      · rw [hw, e]
    · refine (View.read_writes_cons_unit_of_not_mem v b' inb w L (ix3 a r l) rfl 0 ?_).trans
        (S.kept b' a r l hr ((List.mem_cons.mp ha).resolve_left e))
      show a.val < j ∨ j + 1 ≤ a.val
      omega

/-- Rows `o …` of slab `j` before its history is replaced. -/
theorem St.load {j o M : ℕ} {inb} (S : St h f s v b U H L) (hj : j ∈ U) (hh : j ∉ H) (r : Fin M) (l : Fin 128) :
    v.readAt (Elt Ideal) (Rect.unit (s := Slab N) ![j, o, 0] ![1, M, 128] inb).toLoadRect
      (v.writes (Elt Ideal) b L) (ix3 0 r l) = (back h (fun s => f s (128 * j + l.val)) (s + (o + r.val)) : EReal) := by
  have hj8 : j < 8 := by have := inb 0; simpa using this
  have hoM : o + M ≤ N := inb 1
  have ei : (Rect.unit (s := Slab N) ![j, o, 0] ![1, M, 128] inb).toLoadRect.idx (ix3 0 r l)
      = ix3 (⟨j, hj8⟩ : Fin 8) (⟨o + r.val, by omega⟩ : Fin N) l := by
    funext x
    apply Fin.ext
    fin_cases x
    · show j + 0 * 1 = j; omega
    · show o + 1 * r.val = o + r.val; omega
    · show 0 + 1 * l.val = l.val; omega
  rw [View.readAt_apply, ei]
  by_cases hk : o + r.val < h
  · exact S.old _ _ _ hk hh
  · refine (S.rows b _ _ _ (not_lt.mp hk) hj).trans ?_
    unfold back
    rw [if_neg (by omega)]

/-- The last `h` rows of slab `j`. -/
theorem St.last {j M : ℕ} {inb} (hM : h ≤ 512) (S : St h f s v b U H L) (hj : j ∈ U) (r : Fin M) (l : Fin 128) :
    v.readCov L (Rect.unit (s := Slab N) ![j, 512, 0] ![1, M, 128] inb).toLoadRect (ix3 0 r l)
      = (back h (fun s => f s (128 * j + l.val)) (s + 512 + r.val) : EReal) := by
  have hj8 : j < 8 := by have := inb 0; simpa using this
  have hoM : 512 + M ≤ N := inb 1
  have ei : (Rect.unit (s := Slab N) ![j, 512, 0] ![1, M, 128] inb).toLoadRect.idx (ix3 0 r l)
      = ix3 (⟨j, hj8⟩ : Fin 8) (⟨512 + r.val, by omega⟩ : Fin N) l := by
    funext x
    apply Fin.ext
    fin_cases x
    · show j + 0 * 1 = j; omega
    · show 512 + 1 * r.val = 512 + r.val; omega
    · show 0 + 1 * l.val = l.val; omega
  unfold View.readCov
  rw [View.readAt_apply, ei]
  refine (S.rows _ _ _ _ (by show h ≤ 512 + r.val; omega) hj).trans ?_
  unfold back
  rw [if_neg (by omega)]
  show ((f (s + (512 + r.val) - h) _ : ℝ) : EReal) = _
  rw [Nat.add_assoc]
end

end Cert.Mix
-- ==== Proof.MixPay.lean ====
/- What the mixer's pure parts compute on tiles that hold real arrays. -/
module

public import proofs.«01_k».proof.Proof.MixSpec
public import proofs.«01_k».proof.Proof.Gen.KernelIdeal.Skeleton
public import Idealize.ShloMosaic.Lib.Pipeline.ValueKit

@[expose] public section

set_option maxRecDepth 16384

noncomputable section

namespace Cert.Mix

open Idealize.ShloMosaic Cert.RealKit Cert.KernelIdeal Cert.KernelIdeal.Gen

/-! ## Moves -/

/-- Slab `j` of 128 columns, `N` rows high, cut from a real matrix. -/
theorem cut {Y : FVec Ideal S512x1024 .f32} {g : ℕ → ℕ → ℝ} {N j : ℕ} {h}
    (hY : ∀ (r : Fin 512) (n : Fin 1024), Y (ix2 r n) = (g r.val n.val : EReal)) (e : N = 128 * j) (r : Fin 512) (l : Fin 128) :
    extractStridedSlice S512x128 ![0, N] Y h (ix2 r l) = (g r.val (128 * j + l.val) : EReal) := by
  have hN : N + 128 ≤ 1024 := by have := h.2 1; simpa using this
  have : extractStridedSlice S512x128 ![0, N] Y h (ix2 r l) = Y (ix2 r ⟨N + l.val, by omega⟩) := by
    pointwise
  rw [this, hY]
  show ((g r.val (N + l.val) : ℝ) : EReal) = _
  rw [e]

theorem sq {X : FVec Ideal S1x512x128 .f32} {h} (r : Fin 512) (l : Fin 128) :
    shapeCast S512x128 X h (ix2 r l) = X (ix3 0 r l) := by
  pointwise

theorem unsq {X : FVec Ideal S512x128 .f32} {h} (r : Fin 512) (l : Fin 128) :
    shapeCast S1x512x128 X h (ix3 0 r l) = X (ix2 r l) := by
  pointwise

theorem sq16 {X : FVec Ideal S1x16x128 .f32} {h h'} (r : Fin 16) (l : Fin 128) :
    shapeCast S1x16x128 (shapeCast S16x128 X h) h' (ix3 0 r l) = X (ix3 0 r l) := by
  pointwise

theorem sq8 {X : FVec Ideal S1x8x128 .f32} {h h'} (r : Fin 8) (l : Fin 128) :
    shapeCast S1x8x128 (shapeCast S8x128 X h) h' (ix3 0 r l) = X (ix3 0 r l) := by
  pointwise

/-- Blocks of `m` columns laid side by side. -/
theorem cat_blocks {t : Shape} {m : ℕ} (hm : 0 < m) {g : ℕ → ℕ → ℝ} (a : Fin t.rank) (hr : (⟨2, ![512, m]⟩ : Shape).rank = t.rank)
    (ha1 : (1 : Fin (⟨2, ![512, m]⟩ : Shape).rank).cast hr = a)
    (ps : List (FVec Ideal (⟨2, ![512, m]⟩ : Shape) .f32)) {h} (j : t.Idx) (r : Fin 512) (n : ℕ)
    (hr0 : r.val = (j ((0 : Fin (⟨2, ![512, m]⟩ : Shape).rank).cast hr)).val)
    (hn : n = (j a).val) (hl : n < m * ps.length)
    (H : ∀ k (hk : k < ps.length) (r : Fin 512) (l : Fin m), ps[k] (ix2 r l) = (g r.val (m * k + l.val) : EReal)) :
    concatenate t a (ps.map fun p => ⟨(⟨2, ![512, m]⟩ : Shape), p⟩) h j = (g r.val n : EReal) := by
  have hk : n / m < ps.length := by rw [Nat.div_lt_iff_lt_mul hm, Nat.mul_comm]; exact hl
  have hs : ∀ k ≤ ps.length, ((((ps.map fun p => (⟨(⟨2, ![512, m]⟩ : Shape), p⟩ : (s : Shape) × (s.Idx → EReal))).take k).map (·.1)).map
      fun s => if h : s.rank = t.rank then s.size (a.cast h.symm) else 0).sum = m * k := by
    intro k hk
    rw [← List.map_take, List.map_map, List.map_map]
    rw [List.map_congr_left (g := fun _ => m) fun p _ => ?_]
    · rw [List.map_const', List.sum_replicate, List.length_take, smul_eq_mul, min_eq_left hk, Nat.mul_comm]
    · show (if h : (⟨2, ![512, m]⟩ : Shape).rank = t.rank then (⟨2, ![512, m]⟩ : Shape).size (a.cast h.symm) else 0) = m
      rw [dif_pos hr, ← ha1]; rfl
  rw [concatenate_apply_piece a _ h j (n / m) (by simpa using hk) (⟨2, ![512, m]⟩ : Shape) ps[n / m] (by simp) hr (m * (n / m))
    (hs _ hk.le) (ix2 r ⟨n % m, Nat.mod_lt _ hm⟩) ?_ ?_, H (n / m) hk]
  · show ((g r.val (m * (n / m) + n % m) : ℝ) : EReal) = _
    rw [Nat.div_add_mod]
  · intro c hc
    fin_cases c
    · exact hr0
    · exact absurd ha1 hc
  · subst ha1
    rw [← hn]
    show m * (n / m) + n % m = n
    exact Nat.div_add_mod _ _

theorem cat8 {g : ℕ → ℕ → ℝ} {p0 p1 p2 p3 p4 p5 p6 p7 : FVec Ideal S512x128 .f32} {h}
    (h0 : ∀ (r : Fin 512) (l : Fin 128), p0 (ix2 r l) = (g r.val (128 * 0 + l.val) : EReal))
    (h1 : ∀ (r : Fin 512) (l : Fin 128), p1 (ix2 r l) = (g r.val (128 * 1 + l.val) : EReal))
    (h2 : ∀ (r : Fin 512) (l : Fin 128), p2 (ix2 r l) = (g r.val (128 * 2 + l.val) : EReal))
    (h3 : ∀ (r : Fin 512) (l : Fin 128), p3 (ix2 r l) = (g r.val (128 * 3 + l.val) : EReal))
    (h4 : ∀ (r : Fin 512) (l : Fin 128), p4 (ix2 r l) = (g r.val (128 * 4 + l.val) : EReal))
    (h5 : ∀ (r : Fin 512) (l : Fin 128), p5 (ix2 r l) = (g r.val (128 * 5 + l.val) : EReal))
    (h6 : ∀ (r : Fin 512) (l : Fin 128), p6 (ix2 r l) = (g r.val (128 * 6 + l.val) : EReal))
    (h7 : ∀ (r : Fin 512) (l : Fin 128), p7 (ix2 r l) = (g r.val (128 * 7 + l.val) : EReal)) (r : Fin 512) (n : Fin 1024) :
    concatenate S512x1024 1 [⟨S512x128, p0⟩, ⟨S512x128, p1⟩, ⟨S512x128, p2⟩, ⟨S512x128, p3⟩, ⟨S512x128, p4⟩, ⟨S512x128, p5⟩,
      ⟨S512x128, p6⟩, ⟨S512x128, p7⟩] h (ix2 r n) = (g r.val n.val : EReal) := by
  exact cat_blocks (t := S512x1024) (m := 128) (by decide) 1 rfl rfl [p0, p1, p2, p3, p4, p5, p6, p7] (ix2 r n) r n.val rfl rfl n.isLt fun k hk => by
    simp only [List.length_cons, List.length_nil] at hk
    interval_cases k
    exacts [h0, h1, h2, h3, h4, h5, h6, h7]

theorem cat4 {g : ℕ → ℕ → ℝ} {p0 p1 p2 p3 : FVec Ideal S512x256 .f32} {h}
    (h0 : ∀ (r : Fin 512) (l : Fin 256), p0 (ix2 r l) = (g r.val (256 * 0 + l.val) : EReal))
    (h1 : ∀ (r : Fin 512) (l : Fin 256), p1 (ix2 r l) = (g r.val (256 * 1 + l.val) : EReal))
    (h2 : ∀ (r : Fin 512) (l : Fin 256), p2 (ix2 r l) = (g r.val (256 * 2 + l.val) : EReal))
    (h3 : ∀ (r : Fin 512) (l : Fin 256), p3 (ix2 r l) = (g r.val (256 * 3 + l.val) : EReal)) (r : Fin 512) (n : Fin 1024) :
    concatenate S512x1024 1 [⟨S512x256, p0⟩, ⟨S512x256, p1⟩, ⟨S512x256, p2⟩, ⟨S512x256, p3⟩] h (ix2 r n) = (g r.val n.val : EReal) := by
  exact cat_blocks (t := S512x1024) (m := 256) (by decide) 1 rfl rfl [p0, p1, p2, p3] (ix2 r n) r n.val rfl rfl n.isLt fun k hk => by
    simp only [List.length_cons, List.length_nil] at hk
    interval_cases k
    exacts [h0, h1, h2, h3]

/-! ## The arithmetic -/

section
variable (I : In) (b s : ℕ)

theorem pay_hid0 {x : FVec Ideal S1x512x1024 .f32} {sh sc g : FVec Ideal S1x1024 .f32}
    (hx : ∀ (r : Fin 512) (d : Fin 1024), x (ix3 0 r d) = (I.x b (s + r.val) d.val : EReal))
    (hsh : ∀ d : Fin 1024, sh (ix2 0 d) = (I.md b d.val : EReal))
    (hsc : ∀ d : Fin 1024, sc (ix2 0 d) = (I.md b (1024 + d.val) : EReal))
    (hg : ∀ d : Fin 1024, g (ix2 0 d) = (I.gpre d.val : EReal)) (r : Fin 256) (d : Fin 1024) :
    k0_pay136 (F := Ideal) (k0_pay131 sh) (k0_pay133 sc g) (k0_pay134 x) (k0_pay135 x) (ix2 r d) = (I.hid b (s + r.val) d.val : EReal) := by
  pointwise [k0_pay136, k0_pay131, k0_pay133, k0_pay134, k0_pay135, k0_pay130]
  simp only [hx, hsh, hsc, hg, ← EReal.coe_mul, ← coe_sum]
  rw [word_1024, word_eps]
  simp only [rsqrt_rs]
  rw [← EReal.coe_one]
  simp only [← EReal.coe_mul, ← EReal.coe_add]
  congr 1
  unfold In.hid
  ring

theorem pay_hid1 {x : FVec Ideal S1x512x1024 .f32} {sh sc g : FVec Ideal S1x1024 .f32}
    (hx : ∀ (r : Fin 512) (d : Fin 1024), x (ix3 0 r d) = (I.x b (s + r.val) d.val : EReal))
    (hsh : ∀ d : Fin 1024, sh (ix2 0 d) = (I.md b d.val : EReal))
    (hsc : ∀ d : Fin 1024, sc (ix2 0 d) = (I.md b (1024 + d.val) : EReal))
    (hg : ∀ d : Fin 1024, g (ix2 0 d) = (I.gpre d.val : EReal)) (r : Fin 256) (d : Fin 1024) :
    k0_pay137 (F := Ideal) (k0_pay130 x) (k0_pay131 sh) (k0_pay133 sc g) (ix2 r d) = (I.hid b (s + (256 + r.val)) d.val : EReal) := by
  pointwise [k0_pay137, k0_pay131, k0_pay133, k0_pay130]
  simp only [hx, hsh, hsc, hg, ← EReal.coe_mul, ← coe_sum]
  rw [word_1024, word_eps]
  simp only [rsqrt_rs]
  rw [← EReal.coe_one]
  simp only [← EReal.coe_mul, ← EReal.coe_add]
  congr 1
  unfold In.hid
  ring

variable {I b s}

theorem pay_half {X : ℕ → ℕ → ℝ} {p q : FVec Ideal S256x1024 .f32} {h}
    (hp : ∀ (r : Fin 256) (d : Fin 1024), p (ix2 r d) = (X r.val d.val : EReal))
    (hq : ∀ (r : Fin 256) (d : Fin 1024), q (ix2 r d) = (X (256 + r.val) d.val : EReal)) (r : Fin 512) (d : Fin 1024) :
    concatenate S512x1024 0 [⟨S256x1024, p⟩, ⟨S256x1024, q⟩] h (ix2 r d) = (X r.val d.val : EReal) := by
  pointwise
  split
  · rw [hp]
  · next hn => rw [hq]; show ((X (256 + (r.val - 256)) _ : ℝ) : EReal) = _; rw [show 256 + (r.val - 256) = r.val by omega]

theorem pay_v {hb : FVec Ideal S512x1024 .bf16} {w w' : FVec Ideal S1024x1024 .bf16}
    (hh : ∀ (r : Fin 512) (d : Fin 1024), hb (ix2 r d) = (I.hid b (s + r.val) d.val : EReal))
    (hw : ∀ d n : Fin 1024, w (ix2 d n) = (I.w d.val (3072 + n.val) : EReal))
    (hw' : ∀ d n : Fin 1024, w' (ix2 d n) = (I.w d.val (1024 + n.val) : EReal)) (r : Fin 512) (n : Fin 1024) :
    k0_pay149 (F := Ideal) hb w w' (ix2 r n) = (I.tt b (s + r.val) n.val : EReal) := by
  pointwise [k0_pay149]
  simp only [hh, hw, hw', ← EReal.coe_mul, ← coe_sum]
  rfl

theorem pay_ub {hb : FVec Ideal S512x1024 .bf16} {w : FVec Ideal S1024x1024 .bf16}
    (hh : ∀ (r : Fin 512) (d : Fin 1024), hb (ix2 r d) = (I.hid b (s + r.val) d.val : EReal))
    (hw : ∀ d n : Fin 1024, w (ix2 d n) = (I.w d.val (2048 + n.val) : EReal)) (r : Fin 512) (n : Fin 1024) :
    k0_pay185 (F := Ideal) hb w (ix2 r n) = (I.pr b (s + r.val) (2048 + n.val) : EReal) := by
  pointwise [k0_pay185]
  simp only [hh, hw, ← EReal.coe_mul, ← coe_sum]
  rfl

theorem pay_u {x sh m p ms w w'}
    (h0 : ∀ (r : Fin 256) (d : Fin 1024), k0_pay136 (F := Ideal) sh m p ms (ix2 r d) = (I.hid b (s + r.val) d.val : EReal))
    (h1 : ∀ (r : Fin 256) (d : Fin 1024), k0_pay137 (F := Ideal) x sh m (ix2 r d) = (I.hid b (s + (256 + r.val)) d.val : EReal))
    (hw : ∀ d n : Fin 1024, w (ix2 d n) = (I.wf d.val n.val : EReal))
    (hw' : ∀ d n : Fin 1024, w' (ix2 d n) = (I.wf d.val n.val : EReal)) (r : Fin 512) (n : Fin 1024) :
    k0_pay139 (F := Ideal) x sh m p ms w w' (ix2 r n) = (I.uu b (s + r.val) n.val : EReal) := by
  unfold k0_pay139
  refine pay_half (X := fun r n => I.uu b (s + r) n) (fun r d => ?_) (fun r d => ?_) r n
  · pointwise
    simp only [h0, hw, ← EReal.coe_mul, ← coe_sum]
    rfl
  · pointwise
    simp only [h1, hw', ← EReal.coe_mul, ← coe_sum]
    rfl

theorem pay_t1 {v : BitVec 32} (hv : v = BitVec.ofNat 32 s) (hs : s + 512 ≤ 8192) (r : Fin 512) (l : Fin 128) :
    k0_pay159 (F := Ideal) v (ix2 r l) = ((((s + r.val : ℕ) : ℝ) + 1 : ℝ) : EReal) := by
  subst hv
  pointwise [k0_pay159]
  show ((((BitVec.ofNat 32 s + BitVec.ofNat 32 r.val + 1#32).toInt : ℤ) : ℝ) : EReal) = _
  rw [← BitVec.ofNat_add, ← BitVec.ofNat_add, BitVec.toInt_eq_toNat_of_lt (by rw [BitVec.toNat_ofNat]; omega), BitVec.toNat_ofNat,
    Nat.mod_eq_of_lt (by omega)]
  push_cast
  rfl

/-- The rows of slab `j` from offset `o` of a buffer with `h` rows of history. -/
abbrev Ld (h M : ℕ) (u : ℕ → ℕ → ℝ) (s j o : ℕ) (p : FVec Ideal (⟨3, ![1, M, 128]⟩ : Shape) .f32) : Prop :=
  ∀ (r : Fin M) (l : Fin 128), p (ix3 0 r l) = (back h (fun s => u s (128 * j + l.val)) (s + (o + r.val)) : EReal)

theorem back_le {h o k : ℕ} (f : ℕ → ℝ) (s r : ℕ) (e : o + k = h) : back h f (s + (o + r)) = back k f (s + r) := by
  unfold back
  by_cases hs : s + r < k
  · rw [if_pos hs, if_pos (by omega)]
  · rw [if_neg hs, if_neg (by omega)]; congr 1; omega

theorem back_two {h o a k : ℕ} (f : ℕ → ℝ) (s r : ℕ) (e : o + a + k = h) : back h f (s + (o + (a + r))) = back k f (s + r) := by
  rw [← Nat.add_assoc o, back_le f s r e]

theorem back_zero (f : ℕ → ℝ) (s : ℕ) : back 0 f s = f s := by
  unfold back; rw [if_neg (Nat.not_lt_zero _)]; rfl

theorem inv_cnt {W : ℕ} (k : ℕ) (z : EReal) (hz : z = ((W : ℝ) : EReal)) (hW : 0 < W) :
    Ideal.div 1 (min ((((k : ℕ) : ℝ) + 1 : ℝ) : EReal) z) = ((1 / cnt W k : ℝ) : EReal) := by
  rw [hz, ← EReal.coe_strictMono.monotone.map_min]
  show Ideal.div 1 ((cnt W k : ℝ) : EReal) = _
  rw [Ideal.div_coe (cnt_pos hW k).ne', one_mul]

/-- Entry `n` of column block `W` pooled: the window's mean less the row. -/
abbrev pool (u : ℕ → ℕ → ℝ) (W k n : ℕ) : ℝ := win W (fun s => u s n) k * (1 / cnt W k) - u k n

section
variable {U : FVec Ideal S512x1024 .f32} {t : FVec Ideal S512x128 .f32} {u : ℕ → ℕ → ℝ}
  (hU : ∀ (r : Fin 512) (n : Fin 1024), U (ix2 r n) = (u (s + r.val) n.val : EReal))
  (ht : ∀ (r : Fin 512) (l : Fin 128), t (ix2 r l) = ((((s + r.val : ℕ) : ℝ) + 1 : ℝ) : EReal))
include hU

theorem pay_w2 {v p q} (hv : v = BitVec.ofNat 32 s) (hs : s + 512 ≤ 8192) (hp : Ld 16 512 u s 0 15 p) (hq : Ld 16 512 u s 1 15 q)
    (r : Fin 512) (n : Fin 256) : k0_pay160 (F := Ideal) U v p q (ix2 r n) = (pool u 2 (s + r.val) (256 * 0 + n.val) : EReal) := by
  pointwise [k0_pay160]
  simp only [hU, hp, hq, pay_t1 hv hs, inv_cnt _ _ word_2 (by decide), back_le _ _ _ (rfl : 15 + 1 = 16)]
  by_cases hn : n.val < 128
  · simp only [dif_pos hn, pool, win, Finset.sum_range_succ, Finset.sum_range_zero, back_zero, ← EReal.coe_mul, ← EReal.coe_add, ← EReal.coe_sub]
    congr 1
    simp only [Nat.mul_zero, Nat.zero_add]
    ring
  · simp only [dif_neg hn, pool, win, Finset.sum_range_succ, Finset.sum_range_zero, back_zero, ← EReal.coe_mul, ← EReal.coe_add, ← EReal.coe_sub]
    congr 1
    simp only [Nat.mul_zero, Nat.zero_add, show 128 * 1 + (n.val - 128) = n.val by omega]
    ring

include ht

theorem pay_w4 {p0 q0 p1 q1 p2 q2} (hp0 : Ld 16 512 u s 2 15 p0) (hq0 : Ld 16 512 u s 3 15 q0) (hp1 : Ld 16 512 u s 2 14 p1)
    (hq1 : Ld 16 512 u s 3 14 q1) (hp2 : Ld 16 512 u s 2 13 p2) (hq2 : Ld 16 512 u s 3 13 q2) (r : Fin 512) (n : Fin 256) :
    k0_pay164 (F := Ideal) t (k0_pay161 U) (k0_pay162 U p0 q0 p1 q1) (k0_pay163 p2) q2 (ix2 r n)
      = (pool u 4 (s + r.val) (256 * 1 + n.val) : EReal) := by
  pointwise [k0_pay164, k0_pay163, k0_pay162, k0_pay161]
  simp only [hU, ht, hp0, hq0, hp1, hq1, hp2, hq2, inv_cnt _ _ word_4 (by decide), back_le _ _ _ (rfl : 15 + 1 = 16),
    back_le _ _ _ (rfl : 14 + 2 = 16), back_le _ _ _ (rfl : 13 + 3 = 16)]
  by_cases hn : n.val < 128
  · simp only [dif_pos hn, pool, win, Finset.sum_range_succ, Finset.sum_range_zero, back_zero, ← EReal.coe_mul, ← EReal.coe_add, ← EReal.coe_sub]
    congr 1
    simp only [show 256 * 1 + n.val = 256 + n.val by omega, show 128 * 2 + n.val = 256 + n.val by omega]
    ring
  · simp only [dif_neg hn, pool, win, Finset.sum_range_succ, Finset.sum_range_zero, back_zero, ← EReal.coe_mul, ← EReal.coe_add, ← EReal.coe_sub]
    congr 1
    simp only [show 256 * 1 + n.val = 256 + n.val by omega, show 128 * 3 + (n.val - 128) = 256 + n.val by omega]
    ring

theorem pay_w8 {p0 q0 p1 q1 p2 q2 p3 q3} (hp0 : Ld 16 520 u s 4 8 p0) (hq0 : Ld 16 520 u s 5 8 q0) (hp1 : Ld 16 520 u s 4 7 p1)
    (hq1 : Ld 16 520 u s 5 7 q1) (hp2 : Ld 16 520 u s 4 6 p2) (hq2 : Ld 16 520 u s 5 6 q2) (hp3 : Ld 16 520 u s 4 5 p3)
    (hq3 : Ld 16 520 u s 5 5 q3) (r : Fin 512) (n : Fin 256) :
    k0_pay168 (F := Ideal) t (k0_pay165 U) (k0_pay166 p0 q0 p1 q1 p2 q2) (k0_pay167 p3) q3 (ix2 r n)
      = (pool u 8 (s + r.val) (256 * 2 + n.val) : EReal) := by
  pointwise [k0_pay168, k0_pay167, k0_pay166, k0_pay165]
  simp only [hU, ht, hp0, hq0, hp1, hq1, hp2, hq2, hp3, hq3, inv_cnt _ _ word_8 (by decide),
    back_two _ _ _ (rfl : 8 + 8 + 0 = 16), back_two _ _ _ (rfl : 7 + 8 + 1 = 16), back_two _ _ _ (rfl : 6 + 8 + 2 = 16),
    back_two _ _ _ (rfl : 5 + 8 + 3 = 16), back_two _ _ _ (rfl : 8 + 4 + 4 = 16), back_two _ _ _ (rfl : 7 + 4 + 5 = 16),
    back_two _ _ _ (rfl : 6 + 4 + 6 = 16), back_two _ _ _ (rfl : 5 + 4 + 7 = 16)]
  by_cases hn : n.val < 128
  · simp only [dif_pos hn, pool, win, Finset.sum_range_succ, Finset.sum_range_zero, back_zero, ← EReal.coe_mul, ← EReal.coe_add, ← EReal.coe_sub]
    congr 1
    simp only [show 256 * 2 + n.val = 512 + n.val by omega, show 128 * 4 + n.val = 512 + n.val by omega]
    ring
  · simp only [dif_neg hn, pool, win, Finset.sum_range_succ, Finset.sum_range_zero, back_zero, ← EReal.coe_mul, ← EReal.coe_add, ← EReal.coe_sub]
    congr 1
    simp only [show 256 * 2 + n.val = 512 + n.val by omega, show 128 * 5 + (n.val - 128) = 512 + n.val by omega]
    ring

theorem pay_w16 {p0 q0 p1 q1 p2 q2 p3 q3 p4 q4 p5 q5 p6 q6 p7 q7} (hp0 : Ld 16 520 u s 6 8 p0) (hq0 : Ld 16 520 u s 7 8 q0)
    (hp1 : Ld 16 520 u s 6 7 p1) (hq1 : Ld 16 520 u s 7 7 q1) (hp2 : Ld 16 520 u s 6 6 p2) (hq2 : Ld 16 520 u s 7 6 q2)
    (hp3 : Ld 16 520 u s 6 5 p3) (hq3 : Ld 16 520 u s 7 5 q3) (hp4 : Ld 16 520 u s 6 4 p4) (hq4 : Ld 16 520 u s 7 4 q4)
    (hp5 : Ld 16 520 u s 6 3 p5) (hq5 : Ld 16 520 u s 7 3 q5) (hp6 : Ld 16 520 u s 6 2 p6) (hq6 : Ld 16 520 u s 7 2 q6)
    (hp7 : Ld 16 520 u s 6 1 p7) (hq7 : Ld 16 520 u s 7 1 q7) (r : Fin 512) (n : Fin 256) :
    k0_pay174 (F := Ideal) (k0_pay169 U) (k0_pay172 (k0_pay170 p0 q0 p1 q1 p2 q2) (k0_pay171 p3) q3 p4 q4 p5 q5 p6 q6 p7 q7) (k0_pay173 t)
      (ix2 r n) = (pool u 16 (s + r.val) (256 * 3 + n.val) : EReal) := by
  pointwise [k0_pay174, k0_pay173, k0_pay172, k0_pay171, k0_pay170, k0_pay169]
  simp only [hU, ht, hp0, hq0, hp1, hq1, hp2, hq2, hp3, hq3, hp4, hq4, hp5, hq5, hp6, hq6, hp7, hq7, inv_cnt _ _ word_16 (by decide),
    back_two _ _ _ (rfl : 8 + 8 + 0 = 16), back_two _ _ _ (rfl : 7 + 8 + 1 = 16), back_two _ _ _ (rfl : 6 + 8 + 2 = 16),
    back_two _ _ _ (rfl : 5 + 8 + 3 = 16), back_two _ _ _ (rfl : 4 + 8 + 4 = 16), back_two _ _ _ (rfl : 3 + 8 + 5 = 16),
    back_two _ _ _ (rfl : 2 + 8 + 6 = 16), back_two _ _ _ (rfl : 1 + 8 + 7 = 16),
    back_le _ _ _ (rfl : 8 + 8 = 16), back_le _ _ _ (rfl : 7 + 9 = 16), back_le _ _ _ (rfl : 6 + 10 = 16), back_le _ _ _ (rfl : 5 + 11 = 16),
    back_le _ _ _ (rfl : 4 + 12 = 16), back_le _ _ _ (rfl : 3 + 13 = 16), back_le _ _ _ (rfl : 2 + 14 = 16), back_le _ _ _ (rfl : 1 + 15 = 16)]
  by_cases hn : n.val < 128
  · simp only [dif_pos hn, pool, win, Finset.sum_range_succ, Finset.sum_range_zero, back_zero, ← EReal.coe_mul, ← EReal.coe_add, ← EReal.coe_sub]
    congr 1
    simp only [show 256 * 3 + n.val = 768 + n.val by omega, show 128 * 6 + n.val = 768 + n.val by omega]
    ring
  · simp only [dif_neg hn, pool, win, Finset.sum_range_succ, Finset.sum_range_zero, back_zero, ← EReal.coe_mul, ← EReal.coe_add, ← EReal.coe_sub]
    congr 1
    simp only [show 256 * 3 + n.val = 768 + n.val by omega, show 128 * 7 + (n.val - 128) = 768 + n.val by omega]
    ring
end

theorem pay_pool {p0 p1 p2 p3 : FVec Ideal S512x256 .f32}
    (h0 : ∀ (r : Fin 512) (n : Fin 256), p0 (ix2 r n) = (pool (I.uu b) 2 (s + r.val) (256 * 0 + n.val) : EReal))
    (h1 : ∀ (r : Fin 512) (n : Fin 256), p1 (ix2 r n) = (pool (I.uu b) 4 (s + r.val) (256 * 1 + n.val) : EReal))
    (h2 : ∀ (r : Fin 512) (n : Fin 256), p2 (ix2 r n) = (pool (I.uu b) 8 (s + r.val) (256 * 2 + n.val) : EReal))
    (h3 : ∀ (r : Fin 512) (n : Fin 256), p3 (ix2 r n) = (pool (I.uu b) 16 (s + r.val) (256 * 3 + n.val) : EReal)) (r : Fin 512) (n : Fin 1024) :
    k0_pay184 (F := Ideal) p0 p1 p2 p3 (ix2 r n) = ((1 / 2 * I.ya b (s + r.val) n.val : ℝ) : EReal) := by
  unfold k0_pay184
  simp only [← In.half_ya]
  refine cat4 (g := fun r n => pool (I.uu b) (In.wid n) (s + r) n) (fun r l => (h0 r l).trans ?_) (fun r l => (h1 r l).trans ?_)
    (fun r l => (h2 r l).trans ?_) (fun r l => (h3 r l).trans ?_) r n
  · show _ = (pool (I.uu b) (2 ^ ((256 * 0 + l.val) / 256 + 1)) _ _ : EReal); rw [show (256 * 0 + l.val) / 256 + 1 = 1 by omega]; rfl
  · show _ = (pool (I.uu b) (2 ^ ((256 * 1 + l.val) / 256 + 1)) _ _ : EReal); rw [show (256 * 1 + l.val) / 256 + 1 = 2 by omega]; rfl
  · show _ = (pool (I.uu b) (2 ^ ((256 * 2 + l.val) / 256 + 1)) _ _ : EReal); rw [show (256 * 2 + l.val) / 256 + 1 = 3 by omega]; rfl
  · show _ = (pool (I.uu b) (2 ^ ((256 * 3 + l.val) / 256 + 1)) _ _ : EReal); rw [show (256 * 3 + l.val) / 256 + 1 = 4 by omega]; rfl

theorem pay_merge {hb : FVec Ideal S512x1024 .bf16} {V Y ub v1 v2 : FVec Ideal S512x1024 .f32} {cw : FVec Ideal S1x3x1024 .f32}
    {cb : FVec Ideal S1x1024 .f32} {wa wz wb : FVec Ideal S1024x1024 .bf16}
    (hh : ∀ (r : Fin 512) (d : Fin 1024), hb (ix2 r d) = (I.hid b (s + r.val) d.val : EReal))
    (hV : ∀ (r : Fin 512) (d : Fin 1024), V (ix2 r d) = (I.tt b (s + r.val) d.val : EReal))
    (hY : ∀ (r : Fin 512) (d : Fin 1024), Y (ix2 r d) = ((1 / 2 * I.ya b (s + r.val) d.val : ℝ) : EReal))
    (hu : ∀ (r : Fin 512) (d : Fin 1024), ub (ix2 r d) = (I.pr b (s + r.val) (2048 + d.val) : EReal))
    (h1 : ∀ (r : Fin 512) (d : Fin 1024), v1 (ix2 r d) = (back 1 (fun s => I.tt b s d.val) (s + r.val) : EReal))
    (h2 : ∀ (r : Fin 512) (d : Fin 1024), v2 (ix2 r d) = (back 2 (fun s => I.tt b s d.val) (s + r.val) : EReal))
    (hcw : ∀ (k : Fin 3) (d : Fin 1024), cw (ix3 0 k d) = (I.cw k.val d.val : EReal))
    (hcb : ∀ d : Fin 1024, cb (ix2 0 d) = (I.cb d.val : EReal))
    (ha : ∀ d n : Fin 1024, wa (ix2 d n) = (I.w d.val (4096 + n.val) : EReal))
    (hz : ∀ d n : Fin 1024, wz (ix2 d n) = (I.w d.val (5120 + n.val) : EReal))
    (hw : ∀ d n : Fin 1024, wb (ix2 d n) = (I.wb d.val n.val : EReal)) (r : Fin 512) (d : Fin 1024) :
    k0_pay209 (F := Ideal) hb V Y ub v1 v2 (k0_pay206 cw) (k0_pay207 cb) (k0_pay208 cw) wa wz wb (ix2 r d)
      = (I.mg b (s + r.val) d.val : EReal) := by
  pointwise [k0_pay209, k0_pay206, k0_pay207, k0_pay208]
  simp only [hh, hV, hY, hu, h1, h2, hcw, hcb, ha, hz, hw, word_half, ← EReal.coe_mul, ← EReal.coe_add, ← coe_sum, Ideal.tanh_coe]
  congr 1
  simp only [Fin.isValue, Fin.val_zero, Fin.val_one, Fin.val_two]
  have hyb : ∑ x : Fin 1024, I.pr b (s + r.val) (2048 + x.val) * (1 / 2 * I.cb x.val + 1 / 2 * I.cw 0 x.val * back 2 (fun s => I.tt b s x.val) (s + r.val)
      + 1 / 2 * I.cw 1 x.val * back 1 (fun s => I.tt b s x.val) (s + r.val) + 1 / 2 * I.cw 2 x.val * I.tt b (s + r.val) x.val) * I.wb x.val d.val
      = 1 / 2 * I.yb b (s + r.val) d.val := by
    unfold In.yb
    rw [Finset.mul_sum]
    refine Finset.sum_congr rfl fun x _ => ?_
    unfold In.cv
    rw [back_zero]
    ring
  rw [hyb]
  unfold In.mg
  rw [← sg_tanh, ← sg_tanh]
  unfold In.pr
  ring

theorem pay_ff {hb V Y ub v1 v2 c1 c2 c3 wa wz wb wo} (N : ℕ)
    (hM : ∀ (r : Fin 512) (d : Fin 1024), k0_pay209 (F := Ideal) hb V Y ub v1 v2 c1 c2 c3 wa wz wb (ix2 r d) = (I.mg b (s + r.val) d.val : EReal))
    (hw : ∀ d n : Fin 1024, wo (ix2 d n) = (I.wo d.val n.val : EReal)) (r : Fin 256) (d : Fin 1024) :
    k0_pay212 (F := Ideal) hb V Y ub v1 v2 c1 c2 c3 wa wz wb wo (ix2 r d) = (I.ff b (s + r.val) d.val : EReal) := by
  pointwise [k0_pay212]
  simp only [hM, hw, ← EReal.coe_mul, ← coe_sum]
  rfl

theorem pay_out0 {x : FVec Ideal S1x512x1024 .f32} {gt g : FVec Ideal S1x1024 .f32} {hb V Y ub v1 v2 c1 c2 c3 wa wz wb wo}
    (hx : ∀ (r : Fin 512) (d : Fin 1024), x (ix3 0 r d) = (I.x b (s + r.val) d.val : EReal))
    (hgt : ∀ d : Fin 1024, gt (ix2 0 d) = (I.md b (2048 + d.val) : EReal))
    (hg : ∀ d : Fin 1024, g (ix2 0 d) = (I.gpost d.val : EReal))
    (hF : ∀ (r : Fin 256) (d : Fin 1024), k0_pay212 (F := Ideal) hb V Y ub v1 v2 c1 c2 c3 wa wz wb wo (ix2 r d) = (I.ff b (s + r.val) d.val : EReal))
    (r : Fin 256) (d : Fin 1024) :
    k0_pay215 (F := Ideal) (k0_pay210 (k0_pay132 gt) g) (k0_pay211 (k0_pay130 x)) (k0_pay212 hb V Y ub v1 v2 c1 c2 c3 wa wz wb wo)
      (k0_pay213 hb V Y ub v1 v2 c1 c2 c3 wa wz wb wo) k0_pay214 (ix3 0 r d) = (I.out b (s + r.val) d.val : EReal) := by
  pointwise [k0_pay215, k0_pay210, k0_pay132, k0_pay211, k0_pay130, k0_pay213, k0_pay214]
  simp only [hx, hgt, hg, hF, ← EReal.coe_mul, ← coe_sum]
  rw [word_1024, word_eps]
  simp only [rsqrt_rs, ← EReal.coe_mul, ← EReal.coe_add]
  congr 1
  unfold In.out
  ring

theorem pay_out1 {x : FVec Ideal S1x512x1024 .f32} {gt g : FVec Ideal S1x1024 .f32} {M wo}
    (hx : ∀ (r : Fin 512) (d : Fin 1024), x (ix3 0 r d) = (I.x b (s + r.val) d.val : EReal))
    (hgt : ∀ d : Fin 1024, gt (ix2 0 d) = (I.md b (2048 + d.val) : EReal))
    (hg : ∀ d : Fin 1024, g (ix2 0 d) = (I.gpost d.val : EReal))
    (hM : ∀ (r : Fin 512) (d : Fin 1024), M (ix2 r d) = (I.mg b (s + r.val) d.val : EReal))
    (hw : ∀ d n : Fin 1024, wo (ix2 d n) = (I.wo d.val n.val : EReal)) (r : Fin 256) (d : Fin 1024) :
    k0_pay216 (F := Ideal) (k0_pay130 x) M (k0_pay210 (k0_pay132 gt) g) wo (ix3 0 r d) = (I.out b (s + (256 + r.val)) d.val : EReal) := by
  have hff : ∀ e : Fin 1024, ∑ j : Fin 1024, I.mg b (s + (256 + r.val)) j.val * I.wo j.val e.val = I.ff b (s + (256 + r.val)) e.val := fun e => rfl
  pointwise [k0_pay216, k0_pay210, k0_pay132, k0_pay130]
  simp only [hx, hgt, hg, hM, hw, ← EReal.coe_mul, ← coe_sum, hff]
  rw [word_1024, word_eps]
  simp only [rsqrt_rs, ← EReal.coe_mul, ← EReal.coe_add]
  congr 1
  unfold In.out
  ring
end

end Cert.Mix
-- ==== Proof.MixTile.lean ====
/- One tile of the mixer: the blocks it reads hold real arrays, and the stages its column buffers go through. -/
module

public import proofs.«01_k».proof.Proof.MixBuf
public import proofs.«01_k».proof.Proof.MixPay

@[expose] public section

set_option maxRecDepth 16384

noncomputable section

namespace Cert.Mix

open Idealize.ShloMosaic Cert.RealKit Cert.KernelIdeal Cert.KernelIdeal.Gen

theorem off4 : ∀ i : grid0.Coords, k0_off4 i 0 = (i 0).val := by decide +kernel
theorem off5 : ∀ i : grid0.Coords, k0_off5 i 0 = (i 0).val := by decide +kernel
theorem off6 : ∀ i : grid0.Coords, k0_off6 i 0 = (i 0).val := by decide +kernel

/-- A load from a whole buffer that holds `X`. -/
theorem ld_at {sh : Shape} {e : EltTy} {m : Memref sig .tc .vmem sh e} (h : m.IsWhole) (X : Vec Ideal sh e) (r : LoadRect sh) (y : r.shape.Idx)
    (z : sh.Idx) (ez : r.idx y = z) : m.view.readAt (Elt Ideal) r (h.unread X) y = X z := by
  rw [View.readAt_apply, h.read_unread, ez]

/-- A load of whole rows, from column `p` on, of a buffer that holds `X`. -/
theorem ldc {R C N p : ℕ} {e : EltTy} {m : Memref sig .tc .vmem (⟨2, ![R, C]⟩ : Shape) e} (h : m.IsWhole)
    (X : Vec Ideal (⟨2, ![R, C]⟩ : Shape) e) {inb} (r : Fin R) (n : Fin N) (hp : p + n.val < C) :
    m.view.readAt (Elt Ideal) (Rect.unit (s := (⟨2, ![R, C]⟩ : Shape)) ![0, p] ![R, N] inb).toLoadRect (h.unread X) (ix2 r n)
      = X (ix2 r (⟨p + n.val, hp⟩ : Fin C)) := by
  refine ld_at h X _ _ _ ?_
  funext x; apply Fin.ext
  fin_cases x
  · show 0 + 1 * r.val = r.val; omega
  · show p + 1 * n.val = p + n.val; omega

/-- The blocks of the tile of batch `i 0` whose first row is `s` hold `I`'s arrays. -/
structure Blk (I : In) (i : grid0.Coords) (s : ℕ) (x0 : Vec Ideal S1x512x1024 .f32) (x1 x2 : Vec Ideal S1x1024 .f32)
    (x3 : Vec Ideal S1x3x1024 .f32) (x4 : Vec Ideal S1x1024 .f32) : Prop where
  h0 : ∀ (r : Fin 512) (d : Fin 1024), x0 (ix3 0 r d) = (I.x (i 0).val (s + r.val) d.val : EReal)
  h1 : ∀ (d : Fin 1024), x1 (ix2 0 d) = (I.gpre d.val : EReal)
  h2 : ∀ (d : Fin 1024), x2 (ix2 0 d) = (I.gpost d.val : EReal)
  h3 : ∀ (k : Fin 3) (d : Fin 1024), x3 (ix3 0 k d) = (I.cw k.val d.val : EReal)
  h4 : ∀ (d : Fin 1024), x4 (ix2 0 d) = (I.cb d.val : EReal)
  hs : s = (i 1).val * 512

/-- What the first tile leaves for the others: the modulation and the four weights. -/
structure Wts (I : In) (x12 : Vec Ideal S2x6144 .f32) (xs2 : Vec Ideal S1024x1024 .bf16) (xs3 : Vec Ideal S1024x5120 .bf16)
    (xs4 xs5 : Vec Ideal S1024x1024 .bf16) : Prop where
  md : ∀ (b : Fin 2) (j : Fin 6144), x12 (ix2 b j) = (I.md b.val j.val : EReal)
  wf : ∀ (d n : Fin 1024), xs2 (ix2 d n) = (I.wf d.val n.val : EReal)
  w : ∀ (d : Fin 1024) (n : Fin 5120), xs3 (ix2 d n) = (I.w d.val (1024 + n.val) : EReal)
  wb : ∀ (d n : Fin 1024), xs4 (ix2 d n) = (I.wb d.val n.val : EReal)
  wo : ∀ (d n : Fin 1024), xs5 (ix2 d n) = (I.wo d.val n.val : EReal)

namespace Blk
variable {I : In} {i : grid0.Coords} {s : ℕ} {x0 : Vec Ideal S1x512x1024 .f32} {x1 x2 : Vec Ideal S1x1024 .f32}
  {x3 : Vec Ideal S1x3x1024 .f32} {x4 : Vec Ideal S1x1024 .f32} (B : Blk I i s x0 x1 x2 x3 x4)
include B

theorem x {m : Memref sig .tc .vmem S1x512x1024 .f32} (h : m.IsWhole) {inb} (r : Fin 512) (d : Fin 1024) :
    m.view.readAt (Elt Ideal) (Rect.unit (s := S1x512x1024) ![0, 0, 0] S1x512x1024.size inb).toLoadRect (h.unread x0) (ix3 0 r d)
      = (I.x (i 0).val (s + r.val) d.val : EReal) := by
  refine (ld_at h x0 _ _ (ix3 0 r d) ?_).trans (B.h0 r d)
  funext x; apply Fin.ext
  fin_cases x
  · rfl
  · show 0 + 1 * r.val = r.val; omega
  · show 0 + 1 * d.val = d.val; omega

theorem gpre {m : Memref sig .tc .vmem S1x1024 .f32} (h : m.IsWhole) {inb} (d : Fin 1024) :
    m.view.readAt (Elt Ideal) (Rect.unit (s := S1x1024) ![0, 0] S1x1024.size inb).toLoadRect (h.unread x1) (ix2 0 d) = (I.gpre d.val : EReal) := by
  refine (ld_at h x1 _ _ (ix2 0 d) ?_).trans (B.h1 d)
  funext x; apply Fin.ext
  fin_cases x
  · rfl
  · show 0 + 1 * d.val = d.val; omega

theorem gpost {m : Memref sig .tc .vmem S1x1024 .f32} (h : m.IsWhole) {inb} (d : Fin 1024) :
    m.view.readAt (Elt Ideal) (Rect.unit (s := S1x1024) ![0, 0] S1x1024.size inb).toLoadRect (h.unread x2) (ix2 0 d) = (I.gpost d.val : EReal) := by
  refine (ld_at h x2 _ _ (ix2 0 d) ?_).trans (B.h2 d)
  funext x; apply Fin.ext
  fin_cases x
  · rfl
  · show 0 + 1 * d.val = d.val; omega

theorem cw {m : Memref sig .tc .vmem S1x3x1024 .f32} (h : m.IsWhole) {inb} (k : Fin 3) (d : Fin 1024) :
    m.view.readAt (Elt Ideal) (Rect.unit (s := S1x3x1024) ![0, 0, 0] S1x3x1024.size inb).toLoadRect (h.unread x3) (ix3 0 k d)
      = (I.cw k.val d.val : EReal) := by
  refine (ld_at h x3 _ _ (ix3 0 k d) ?_).trans (B.h3 k d)
  funext x; apply Fin.ext
  fin_cases x
  · rfl
  · show 0 + 1 * k.val = k.val; omega
  · show 0 + 1 * d.val = d.val; omega

theorem cb {m : Memref sig .tc .vmem S1x1024 .f32} (h : m.IsWhole) {inb} (d : Fin 1024) :
    m.view.readAt (Elt Ideal) (Rect.unit (s := S1x1024) ![0, 0] S1x1024.size inb).toLoadRect (h.unread x4) (ix2 0 d) = (I.cb d.val : EReal) := by
  refine (ld_at h x4 _ _ (ix2 0 d) ?_).trans (B.h4 d)
  funext x; apply Fin.ext
  fin_cases x
  · rfl
  · show 0 + 1 * d.val = d.val; omega

theorem row : Scalar.muli (BitVec.ofNat 32 (i 1).val) 512#32 = BitVec.ofNat 32 s := by
  rw [B.hs, BitVec.ofNat_mul]; rfl

theorem low : s + 512 ≤ 8192 := by
  have h : (i 1).val < 16 := (i 1).isLt
  rw [B.hs]; omega
end Blk

namespace Wts
variable {I : In} {i : grid0.Coords} {x12 : Vec Ideal S2x6144 .f32} {xs2 : Vec Ideal S1024x1024 .bf16} {xs3 : Vec Ideal S1024x5120 .bf16}
    {xs4 xs5 : Vec Ideal S1024x1024 .bf16} (W : Wts I x12 xs2 xs3 xs4 xs5)
include W

theorem mdl {m : Memref sig .tc .vmem S2x6144 .f32} (h : m.IsWhole) {off : Fin 2 → ℕ} {inb} (lo : ℕ) (e0 : off 0 = (i 0).val) (e1 : off 1 = lo)
    (d : Fin 1024) :
    m.view.readAt (Elt Ideal) (Rect.unit (s := S2x6144) off S1x1024.size inb).toLoadRect (h.unread x12) (ix2 0 d)
      = (I.md (i 0).val (lo + d.val) : EReal) := by
  have hb : lo + 1024 ≤ 6144 := by have := inb 1; rw [e1] at this; exact this
  refine (ld_at h x12 _ _ (ix2 (i 0) (⟨lo + d.val, by omega⟩ : Fin 6144)) ?_).trans (W.md _ _)
  funext x; apply Fin.ext
  fin_cases x
  · show off 0 + 1 * 0 = (i 0).val; omega
  · show off 1 + 1 * d.val = lo + d.val; omega

/-- The shift, whose columns start at the first. -/
theorem mdl0 {m : Memref sig .tc .vmem S2x6144 .f32} (h : m.IsWhole) {off : Fin 2 → ℕ} {inb} (e0 : off 0 = (i 0).val) (e1 : off 1 = 0)
    (d : Fin 1024) :
    m.view.readAt (Elt Ideal) (Rect.unit (s := S2x6144) off S1x1024.size inb).toLoadRect (h.unread x12) (ix2 0 d)
      = (I.md (i 0).val d.val : EReal) :=
  (W.mdl h 0 e0 e1 d).trans (by rw [Nat.zero_add])

theorem fold {m : Memref sig .tc .vmem S1024x1024 .bf16} (h : m.IsWhole) {inb} (d n : Fin 1024) :
    m.view.readAt (Elt Ideal) (Rect.unit (s := S1024x1024) ![0, 0] ![1024, 1024] inb).toLoadRect (h.unread xs2) (ix2 d n) = (I.wf d.val n.val : EReal) :=
  (ldc h xs2 d n (by omega)).trans ((W.wf _ _).trans (by simp only [Nat.zero_add]))

theorem win {m : Memref sig .tc .vmem S1024x5120 .bf16} (h : m.IsWhole) {lo : ℕ} {inb} (o : ℕ) (e : 1024 + lo = o) (d n : Fin 1024) :
    m.view.readAt (Elt Ideal) (Rect.unit (s := S1024x5120) ![0, lo] ![1024, 1024] inb).toLoadRect (h.unread xs3) (ix2 d n)
      = (I.w d.val (o + n.val) : EReal) := by
  have hb : lo + 1024 ≤ 5120 := inb 1
  refine (ldc h xs3 d n (by omega)).trans ((W.w _ _).trans ?_)
  show ((I.w d.val (1024 + (lo + n.val)) : ℝ) : EReal) = _
  rw [← e, Nat.add_assoc]

theorem bout {m : Memref sig .tc .vmem S1024x1024 .bf16} (h : m.IsWhole) {inb} (d n : Fin 1024) :
    m.view.readAt (Elt Ideal) (Rect.unit (s := S1024x1024) ![0, 0] ![1024, 1024] inb).toLoadRect (h.unread xs4) (ix2 d n) = (I.wb d.val n.val : EReal) :=
  (ldc h xs4 d n (by omega)).trans ((W.wb _ _).trans (by simp only [Nat.zero_add]))

theorem o {m : Memref sig .tc .vmem S1024x1024 .bf16} (h : m.IsWhole) {inb} (d n : Fin 1024) :
    m.view.readAt (Elt Ideal) (Rect.unit (s := S1024x1024) ![0, 0] ![1024, 1024] inb).toLoadRect (h.unread xs5) (ix2 d n) = (I.wo d.val n.val : EReal) :=
  (ldc h xs5 d n (by omega)).trans ((W.wo _ _).trans (by simp only [Nat.zero_add]))
end Wts

section
variable {I : In} {b s : ℕ}

theorem pay_hid {x : FVec Ideal S1x512x1024 .f32} {sh sc g : FVec Ideal S1x1024 .f32}
    (hx : ∀ (r : Fin 512) (d : Fin 1024), x (ix3 0 r d) = (I.x b (s + r.val) d.val : EReal))
    (hsh : ∀ d : Fin 1024, sh (ix2 0 d) = (I.md b d.val : EReal))
    (hsc : ∀ d : Fin 1024, sc (ix2 0 d) = (I.md b (1024 + d.val) : EReal))
    (hg : ∀ d : Fin 1024, g (ix2 0 d) = (I.gpre d.val : EReal)) (r : Fin 512) (d : Fin 1024) :
    k0_pay138 (F := Ideal) (k0_pay130 x) (k0_pay131 sh) (k0_pay133 sc g) (k0_pay134 x) (k0_pay135 x) (ix2 r d) = (I.hid b (s + r.val) d.val : EReal) := by
  unfold k0_pay138
  exact pay_half (X := fun r d => I.hid b (s + r) d) (pay_hid0 I b s hx hsh hsc hg) (pay_hid1 I b s hx hsh hsc hg) r d

/-- A slab to be stored, cut from a tile. -/
theorem put_of {Y : FVec Ideal S512x1024 .f32} {f : ℕ → ℕ → ℝ} {N j : ℕ} {h h'}
    (hY : ∀ (r : Fin 512) (n : Fin 1024), Y (ix2 r n) = (f (s + r.val) n.val : EReal)) (e : N = 128 * j) (r : Fin 512) (l : Fin 128) :
    shapeCast S1x512x128 (extractStridedSlice S512x128 ![0, N] Y h) h' (ix3 0 r l) = (f (s + r.val) (128 * j + l.val) : EReal) :=
  (unsq r l).trans (cut (g := fun r n => f (s + r) n) hY e r l)

section
variable {sp : Space} {v : View sig .tc sp (Slab 528) .f32} {c : v.ty.Contents (Elt Ideal)} {L : List (View.Piece (Elt Ideal) (Slab 528) .f32)}
  {w : View sig .tc sp (Slab 520) .f32} {c' : w.ty.Contents (Elt Ideal)} {L' : List (View.Piece (Elt Ideal) (Slab 520) .f32)}
  {U H : List ℕ}

/-- A slab's last rows, kept as the next tile's history. -/
theorem keep16 {f : ℕ → ℕ → ℝ} {j : ℕ} {inb h h'} (S : St 16 f s v c U H L) (hj : j ∈ U) (r : Fin 16) (l : Fin 128) :
    shapeCast S1x16x128 (shapeCast S16x128 (v.readCov L (Rect.unit (s := Slab 528) ![j, 512, 0] ![1, 16, 128] inb).toLoadRect) h) h' (ix3 0 r l)
      = (back 16 (fun s => f s (128 * j + l.val)) (s + 512 + r.val) : EReal) :=
  (sq16 r l).trans (S.last (by decide) hj r l)

theorem keep8 {f : ℕ → ℕ → ℝ} {j : ℕ} {inb h h'} (S : St 8 f s w c' U H L') (hj : j ∈ U) (r : Fin 8) (l : Fin 128) :
    shapeCast S1x8x128 (shapeCast S8x128 (w.readCov L' (Rect.unit (s := Slab 520) ![j, 512, 0] ![1, 8, 128] inb).toLoadRect) h) h' (ix3 0 r l)
      = (back 8 (fun s => f s (128 * j + l.val)) (s + 512 + r.val) : EReal) :=
  (sq8 r l).trans (S.last (by decide) hj r l)

/-- A slab's last rows stored over its first. -/
theorem St.keep16 {f : ℕ → ℕ → ℝ} {j : ℕ} {inb inb' h h'} (S : St 16 f s v c U H L) (hj : j ∈ U) :
    St 16 f s v c U (j :: H) (⟨Rect.unit (s := Slab 528) ![j, 0, 0] ![1, 16, 128] inb', shapeCast S1x16x128 (shapeCast S16x128
      (v.readCov L (Rect.unit (s := Slab 528) ![j, 512, 0] ![1, 16, 128] inb).toLoadRect) h) h'⟩ :: L) :=
  S.keep (Mix.keep16 S hj)

theorem St.keep8 {f : ℕ → ℕ → ℝ} {j : ℕ} {inb inb' h h'} (S : St 8 f s w c' U H L') (hj : j ∈ U) :
    St 8 f s w c' U (j :: H) (⟨Rect.unit (s := Slab 520) ![j, 0, 0] ![1, 8, 128] inb', shapeCast S1x8x128 (shapeCast S8x128
      (w.readCov L' (Rect.unit (s := Slab 520) ![j, 512, 0] ![1, 8, 128] inb).toLoadRect) h) h'⟩ :: L') :=
  S.keep (Mix.keep8 S hj)

/-- Rows `k` earlier of a slab. -/
theorem ago {f : ℕ → ℕ → ℝ} {j o : ℕ} {inb h} (k : ℕ) (S : St 8 f s w c' U H L') (hj : j ∈ U) (hh : j ∉ H) (e : o + k = 8) (r : Fin 512) (l : Fin 128) :
    shapeCast S512x128 (w.readAt (Elt Ideal) (Rect.unit (s := Slab 520) ![j, o, 0] ![1, 512, 128] inb).toLoadRect
      (w.writes (Elt Ideal) c' L')) h (ix2 r l) = (back k (fun s => f s (128 * j + l.val)) (s + r.val) : EReal) :=
  (sq r l).trans ((S.load hj hh r l).trans (by rw [back_le _ _ _ e]))
end

/-- What the tile before left is the history this tile reads. -/
theorem St.next {N h : ℕ} {f : ℕ → ℕ → ℝ} {sp : Space} {v : View sig .tc sp (Slab N) .f32} {c : v.ty.Contents (Elt Ideal)}
    {U H : List ℕ} {L : List (View.Piece (Elt Ideal) (Slab N) .f32)} (S : St h f s v c U H L) (hH : ∀ a < 8, a ∈ H) :
    Old N h f (s + 512) [] (after v c L) :=
  fun a r l hr _ => S.kept c a r l hr (hH a.val a.isLt)

theorem zero8 (a : Fin 8) (r : Fin 8) (l : Fin 128) : k0_pay129 (F := Ideal) (ix3 a r l) = (0 : EReal) := by
  pointwise [k0_pay129]

/-- A tile stored in two halves reads back whole. -/
theorem two {sp : Space} {v : View sig .tc sp S1x512x1024 .f32} {f : v.ty.Contents (Elt Ideal)} {X : ℕ → ℕ → ℝ} {inb inb'}
    {p : (Rect.unit (s := S1x512x1024) ![0, 0, 0] ![1, 256, 1024] inb).shape.Idx → EReal}
    {q : (Rect.unit (s := S1x512x1024) ![0, 256, 0] ![1, 256, 1024] inb').shape.Idx → EReal}
    (hp : ∀ (r : Fin 256) (d : Fin 1024), p (ix3 0 r d) = (X r.val d.val : EReal))
    (hq : ∀ (r : Fin 256) (d : Fin 1024), q (ix3 0 r d) = (X (256 + r.val) d.val : EReal)) (r : Fin 512) (d : Fin 1024) :
    v.read (Elt Ideal) (v.writes (Elt Ideal) f [⟨Rect.unit (s := S1x512x1024) ![0, 256, 0] ![1, 256, 1024] inb', q⟩,
      ⟨Rect.unit (s := S1x512x1024) ![0, 0, 0] ![1, 256, 1024] inb, p⟩]) (ix3 0 r d) = (X r.val d.val : EReal) := by
  by_cases hr : r.val < 256
  · refine (View.read_writes_cons_unit_of_not_mem v f inb' q _ (ix3 0 r d) rfl 1 (Or.inl hr)).trans
      ((View.read_writes_cons_unit_of_mem v f inb p _ (ix3 0 r d) (ix3 0 ⟨r.val, hr⟩ d) rfl ?_).trans (hp _ _))
    intro x
    fin_cases x
    · rfl
    · show r.val = 0 + r.val; omega
    · show d.val = 0 + d.val; omega
  · refine (View.read_writes_cons_unit_of_mem v f inb' q _ (ix3 0 r d) (ix3 0 ⟨r.val - 256, by omega⟩ d) rfl ?_).trans ((hq _ _).trans ?_)
    · intro x
      fin_cases x
      · rfl
      · show r.val = 256 + (r.val - 256); omega
      · show d.val = 0 + d.val; omega
    · show ((X (256 + (r.val - 256)) _ : ℝ) : EReal) = _
      rw [show 256 + (r.val - 256) = r.val by omega]

theorem zero16 (a : Fin 8) (r : Fin 16) (l : Fin 128) : k0_pay128 (F := Ideal) (ix3 a r l) = (0 : EReal) := by
  pointwise [k0_pay128]
end

end Cert.Mix
-- ==== Proof.MixStage.lean ====
/- The mixer's first tile: weights through the staging buffer, and the buffers it fills by columns. -/
module

public import proofs.«01_k».proof.Proof.MixTile
public import Idealize.ShloMosaic.Lib.ViewIndex
public import Idealize.ShloMosaic.Lib.ValueLayout

@[expose] public section

set_option maxRecDepth 16384

noncomputable section

namespace Cert.Mix

open Idealize.ShloMosaic Cert.RealKit Cert.KernelIdeal Cert.KernelIdeal.Gen

/-- A stage read holds `g`. -/
def Stg (v : Vec Ideal S1x1024x512 .f32) (g : ℕ → ℕ → ℝ) : Prop :=
  ∀ (d : Fin 1024) (n : Fin 512), v (ix3 0 d n) = (g d.val n.val : EReal)

section
variable {m : Memref sig .tc .vmem S4x1024x512 .f32} {f : m.view.ty.Contents (Elt Ideal)} {w : S1024x512.Idx → EReal} {g : ℕ → ℕ → ℝ}

/-- A slot reads what was last copied to it, -/
theorem Stg.hit {j : ℕ} {inb inb' hr hq} (hw : ∀ (d : Fin 1024) (n : Fin 512), w (ix2 d n) = (g d.val n.val : EReal)) :
    Stg (m.view.readAt (Elt Ideal) (Rect.unit (s := S4x1024x512) ![j, 0, 0] S1x1024x512.size inb).toLoadRect
      (View.write (Elt Ideal) ((m.slice (Rect.unit (s := S4x1024x512) ![j, 0, 0] S1x1024x512.size inb') hr).squeeze S1024x512 hq).view f w Finset.univ)) g := by
  intro d n
  refine Eq.trans ?_ (hw d n)
  refine Eq.trans ?_ (View.read_write_reshape (m.view.slice (Rect.unit (s := S4x1024x512) ![j, 0, 0] S1x1024x512.size inb')) hq.numel_eq f w (ix2 d n))
  have e : Shape.reshapeEquiv hq.numel_eq (ix2 d n) = ix3 0 d n := ValueIdx.reshapeEquiv_ix2_1ab _ d n
  exact congrArg (fun y => View.read (Elt Ideal) (m.view.slice (Rect.unit (s := S4x1024x512) ![j, 0, 0] S1x1024x512.size inb))
    (View.write (Elt Ideal) ((m.view.slice (Rect.unit (s := S4x1024x512) ![j, 0, 0] S1x1024x512.size inb')).reshape S1024x512 hq.numel_eq) f w Finset.univ) y) e.symm

/-- whatever was copied to the others since. -/
theorem Stg.miss {j k : ℕ} {inb inb' hr hq} (hne : j ≠ k)
    (H : Stg (m.view.readAt (Elt Ideal) (Rect.unit (s := S4x1024x512) ![j, 0, 0] S1x1024x512.size inb).toLoadRect f) g) :
    Stg (m.view.readAt (Elt Ideal) (Rect.unit (s := S4x1024x512) ![j, 0, 0] S1x1024x512.size inb).toLoadRect
      (View.write (Elt Ideal) ((m.slice (Rect.unit (s := S4x1024x512) ![k, 0, 0] S1x1024x512.size inb') hr).squeeze S1024x512 hq).view f w Finset.univ)) g := by
  intro d n
  refine Eq.trans (View.read_congr_at _ ?_) (H d n)
  refine View.write_of_not_mem _ _ _ ?_
  intro hm
  have hm : m.view.emb ((Rect.unit (s := S4x1024x512) ![j, 0, 0] S1x1024x512.size inb).toLoadRect.idx (ix3 0 d n))
      ∈ ((m.view.slice (Rect.unit (s := S4x1024x512) ![k, 0, 0] S1x1024x512.size inb')).reshape S1024x512 hq.numel_eq).set := hm
  rw [View.set_reshape, View.set_slice, Finset.mem_map', Rect.mem_set_unit] at hm
  have h0 := hm 0
  have h1 : k ≤ j + 1 * 0 ∧ j + 1 * 0 < k + 1 := h0
  omega
end

/-- Columns from `p` on of an array in the chip's memory. -/
theorem src {sp : Space} {C p : ℕ} {M : Memref sig .tc sp (⟨2, ![1024, C]⟩ : Shape) .f32} {fh : M.view.ty.Contents (Elt Ideal)} {g : ℕ → ℕ → ℝ} {inb hr}
    (hf : ∀ (d : Fin 1024) (n : Fin C), M.view.read (Elt Ideal) fh (ix2 d n) = (g d.val n.val : EReal)) (d : Fin 1024) (n : Fin 512) :
    (ReadAs.apply ReadAs.same (View.read (Elt Ideal) (M.slice (Rect.unit (s := (⟨2, ![1024, C]⟩ : Shape)) ![0, p] S1024x512.size inb) hr).view fh)
      : S1024x512.Idx → EReal) (ix2 d n) = (g d.val (p + n.val) : EReal) := by
  have h1 : p + 512 ≤ C := inb 1
  refine Eq.trans ?_ (hf d ⟨p + n.val, by omega⟩)
  have ei : (Rect.unit (s := (⟨2, ![1024, C]⟩ : Shape)) ![0, p] S1024x512.size inb).emb (ix2 d n) = ix2 d (⟨p + n.val, by omega⟩ : Fin C) := by
    funext z; apply Fin.ext
    fin_cases z
    · show 0 + 1 * d.val = d.val; omega
    · show p + 1 * n.val = p + n.val; omega
  rw [← ei]
  rfl

theorem src' {sp : Space} {C p : ℕ} {M : Memref sig .tc sp (⟨2, ![1024, C]⟩ : Shape) .f32} {fh : M.view.ty.Contents (Elt Ideal)} {g : ℕ → ℕ → ℝ} {inb hr}
    {w : S1024x512.Idx → EReal}
    (hf : ∀ (d : Fin 1024) (n : Fin C), M.view.read (Elt Ideal) fh (ix2 d n) = (g d.val n.val : EReal))
    (e : w = (ReadAs.apply ReadAs.same (View.read (Elt Ideal) (M.slice (Rect.unit (s := (⟨2, ![1024, C]⟩ : Shape)) ![0, p] S1024x512.size inb) hr).view fh)
      : S1024x512.Idx → EReal)) (d : Fin 1024) (n : Fin 512) :
    w (ix2 d n) = (g d.val (p + n.val) : EReal) := by rw [e]; exact src hf d n

/-- The columns of the blocks of `K`, each `W` wide, hold `g`. -/
def Cv {sp : Space} {R C : ℕ} {e : EltTy} (toE : Elt Ideal e → EReal) (W : ℕ) (g : ℕ → ℕ → ℝ) (v : View sig .tc sp (⟨2, ![R, C]⟩ : Shape) e) (K : List ℕ)
    (L : List (View.Piece (Elt Ideal) (⟨2, ![R, C]⟩ : Shape) e)) : Prop :=
  ∀ b (r : Fin R) (n : Fin C), n.val / W ∈ K → toE (v.read (Elt Ideal) (v.writes (Elt Ideal) b L) (ix2 r n)) = (g r.val n.val : EReal)

section
variable {sp : Space} {R C : ℕ} {e : EltTy} {toE : Elt Ideal e → EReal} {v : View sig .tc sp (⟨2, ![R, C]⟩ : Shape) e}
  {L : List (View.Piece (Elt Ideal) (⟨2, ![R, C]⟩ : Shape) e)} {K : List ℕ} {g : ℕ → ℕ → ℝ} {W : ℕ}

theorem Cv.nil : Cv toE W g v [] L := fun _ _ _ h => absurd h List.not_mem_nil

theorem Cv.put {k p : ℕ} {inb} {w : (Rect.unit (s := (⟨2, ![R, C]⟩ : Shape)) ![0, p] ![R, W] inb).shape.Idx → Elt Ideal e} (hW : 0 < W) (hp : p = W * k)
    (S : Cv toE W g v K L) (hw : ∀ (r : Fin R) (n : Fin W), toE (w (ix2 r n)) = (g r.val (p + n.val) : EReal)) :
    Cv toE W g v (k :: K) (⟨Rect.unit ![0, p] ![R, W] inb, w⟩ :: L) := by
  intro b r n hn
  by_cases h : n.val / W = k
  · have h1 : n.val = W * k + n.val % W := by rw [← h]; exact (Nat.div_add_mod _ _).symm
    refine (congrArg toE (View.read_writes_cons_unit_of_mem v b inb w L (ix2 r n) (ix2 r (⟨n.val % W, Nat.mod_lt _ hW⟩ : Fin W)) rfl ?_)).trans ((hw _ _).trans ?_)
    · intro x
      fin_cases x
      · show r.val = 0 + r.val; omega
      · show n.val = p + n.val % W; omega
    · show ((g r.val (p + n.val % W) : ℝ) : EReal) = _
      rw [hp, ← h1]
  · refine (congrArg toE (View.read_writes_cons_unit_of_not_mem v b inb w L (ix2 r n) rfl 1 ?_)).trans (S b r n ((List.mem_cons.mp hn).resolve_left h))
    show n.val < p ∨ p + W ≤ n.val
    by_contra hc
    push Not at hc
    exact h (Nat.div_eq_of_lt_le (by rw [Nat.mul_comm]; omega) (by rw [Nat.add_mul, Nat.mul_comm]; omega))

theorem Cv.load {a m M R' : ℕ} {off : Fin 2 → ℕ} {inb b} (S : Cv toE W g v K L) (hW : 0 < W) {x y : ℕ} (hx : off 0 = x) (hy : off 1 = y) (ha : y = W * a)
    (hM : M = W * m) (hK : ∀ j < m, a + j ∈ K) (r : Fin R') (n : Fin M) :
    toE (v.readAt (Elt Ideal) (Rect.unit (s := (⟨2, ![R, C]⟩ : Shape)) off ![R', M] inb).toLoadRect (v.writes (Elt Ideal) b L) (ix2 r n))
      = (g (x + r.val) (y + n.val) : EReal) := by
  have h0 : off 0 + R' ≤ R := inb 0
  have h1 : off 1 + M ≤ C := inb 1
  have ei : (Rect.unit (s := (⟨2, ![R, C]⟩ : Shape)) off ![R', M] inb).toLoadRect.idx (ix2 r n)
      = ix2 (⟨x + r.val, by omega⟩ : Fin R) (⟨y + n.val, by omega⟩ : Fin C) := by
    funext z; apply Fin.ext
    fin_cases z
    · show off 0 + 1 * r.val = x + r.val; omega
    · show off 1 + 1 * n.val = y + n.val; omega
  rw [View.readAt_apply, ei]
  refine S b _ _ ?_
  show (y + n.val) / W ∈ K
  rw [ha, Nat.mul_add_div hW]
  exact hK _ (Nat.div_lt_of_lt_mul (by omega))
end

section
variable {I : In} {v : Vec Ideal S1x1024x512 .f32} {g : ℕ → ℕ → ℝ}

/-- Half a projection's columns, as the matrix unit reads them. -/
theorem pay_cp (hv : Stg v g) (d : Fin 1024) (n : Fin 512) : k0_pay51 (F := Ideal) v (ix2 d n) = (g d.val n.val : EReal) := by
  pointwise [k0_pay51]
  exact hv d n

/-- A chunk of the modulation. -/
theorem pay_md (p : ℕ) {cc : FVec Ideal S2x1024 .f32} {bb : FVec Ideal S1x512 .f32} (hv : Stg v fun d n => I.wada d (p + n))
    (hc : ∀ (b : Fin 2) (d : Fin 1024), cc (ix2 b d) = (I.c b.val d.val : EReal))
    (hb : ∀ n : Fin 512, bb (ix2 0 n) = (I.bada (p + n.val) : EReal)) (b : Fin 2) (n : Fin 512) :
    k0_pay2 (F := Ideal) v cc bb (ix2 b n) = (I.md b.val (p + n.val) : EReal) := by
  pointwise [k0_pay2]
  simp only [hc, hb, show ∀ (d : Fin 1024) (n : Fin 512), v (ix3 0 d n) = _ from hv, ← EReal.coe_mul, ← coe_sum, ← EReal.coe_add]
  rfl

theorem eq_md4 {cc : FVec Ideal S2x1024 .f32} {bb : FVec Ideal S1x512 .f32} : k0_pay4 (F := Ideal) (k0_pay3 v cc) bb = k0_pay2 v cc bb := rfl

theorem eq_md10 {cc : FVec Ideal S2x1024 .f32} {bb : FVec Ideal S1x512 .f32} : k0_pay10 (F := Ideal) (k0_pay8 cc) (k0_pay9 v) bb = k0_pay2 v cc bb := rfl

theorem eq_md15 {cc : FVec Ideal S2x1024 .f32} {bb : FVec Ideal S1x512 .f32} : k0_pay15 (F := Ideal) (k0_pay14 v) cc bb = k0_pay2 v cc bb := rfl

theorem eq_md16 {cc : FVec Ideal S2x1024 .f32} {bb : FVec Ideal S1x512 .f32} : k0_pay16 (F := Ideal) v cc bb = k0_pay2 v cc bb := rfl

theorem fold_eq (gr : ℕ) (d n : ℕ) (hn : n < 256) : ∑ k : Fin 256, I.w d (256 * gr + k.val) * (I.wp gr k.val n * (1 / 2 * I.psc (256 * gr + n))) = I.wf d (256 * gr + n) := by
  unfold In.wf
  rw [Nat.mul_add_div (by decide), Nat.div_eq_of_lt hn, Nat.add_zero, Nat.mul_add_mod, Nat.mod_eq_of_lt hn]

/-- A group's folded columns. -/
theorem pay_fold0 (gr : ℕ) {w : FVec Ideal S1x256x256 .f32} {ps : FVec Ideal S1x256 .f32} (hv : Stg v fun d n => I.w d (256 * gr + n))
    (hw : ∀ k n : Fin 256, w (ix3 0 k n) = (I.wp gr k.val n.val : EReal))
    (hp : ∀ n : Fin 256, ps (ix2 0 n) = (I.psc (256 * gr + n.val) : EReal)) (d : Fin 1024) (n : Fin 256) :
    k0_pay19 (F := Ideal) v w ps (ix2 d n) = (I.wf d.val (256 * gr + n.val) : EReal) := by
  rw [← fold_eq gr d.val n.val n.isLt]
  pointwise [k0_pay19, k0_pay18]
  simp only [hw, hp, show ∀ (d : Fin 1024) (n : Fin 512), v (ix3 0 d n) = _ from hv, word_half, ← EReal.coe_mul, ← coe_sum]

theorem pay_fold1 (gr : ℕ) {w : FVec Ideal S1x256x256 .f32} {ps : FVec Ideal S1x256 .f32} (p : ℕ) (e : p + 256 = 256 * gr)
    (hv : Stg v fun d n => I.w d (p + n))
    (hw : ∀ k n : Fin 256, w (ix3 0 k n) = (I.wp gr k.val n.val : EReal))
    (hp : ∀ n : Fin 256, ps (ix2 0 n) = (I.psc (256 * gr + n.val) : EReal)) (d : Fin 1024) (n : Fin 256) :
    k0_pay20 (F := Ideal) v w ps (ix2 d n) = (I.wf d.val (256 * gr + n.val) : EReal) := by
  rw [← fold_eq gr d.val n.val n.isLt, ← e]
  pointwise [k0_pay20, k0_pay18]
  simp only [hw, hp, show ∀ (d : Fin 1024) (n : Fin 512), v (ix3 0 d n) = _ from hv, word_half, ← EReal.coe_mul, ← coe_sum, ← e, Nat.add_assoc]

theorem pay_fold1' (gr : ℕ) {w : FVec Ideal S1x256x256 .f32} {ps : FVec Ideal S1x256 .f32} (p : ℕ) (e : p + 256 = 256 * gr)
    (hv : Stg v fun d n => I.w d (p + n))
    (hw : ∀ k n : Fin 256, w (ix3 0 k n) = (I.wp gr k.val n.val : EReal))
    (hp : ∀ n : Fin 256, ps (ix2 0 n) = (I.psc (256 * gr + n.val) : EReal)) (d : Fin 1024) (n : Fin 256) :
    k0_pay21 (F := Ideal) (k0_pay20 v w ps) (ix2 d n) = (I.wf d.val (256 * gr + n.val) : EReal) := by
  refine Eq.trans ?_ (pay_fold1 gr p e hv hw hp d n)
  pointwise [k0_pay21]

theorem pay_cpo (g : ℕ → ℕ → ℝ) (p : ℕ) (hv : Stg v fun d n => g d (p + n)) (d : Fin 1024) (n : Fin 512) :
    k0_pay51 (F := Ideal) v (ix2 d n) = (g d.val (p + n.val) : EReal) := pay_cp hv d n

/-- The projection's columns from 1024 on. -/
theorem pay_cpw (p q : ℕ) (e : 1024 + p = q) (hv : Stg v fun d n => I.w d (q + n)) (d : Fin 1024) (n : Fin 512) :
    k0_pay51 (F := Ideal) v (ix2 d n) = (I.w d.val (1024 + (p + n.val)) : EReal) := by
  rw [pay_cp hv d n, ← e, Nat.add_assoc]
end

section
variable {sp : Space} {R C : ℕ} {e : EltTy} {toE : Elt Ideal e → EReal} {v : View sig .tc sp (⟨2, ![R, C]⟩ : Shape) e}
  {L : List (View.Piece (Elt Ideal) (⟨2, ![R, C]⟩ : Shape) e)} {K : List ℕ} {g : ℕ → ℕ → ℝ} {W : ℕ}

/-- Every row, some columns. -/
theorem Cv.cols {y M R' : ℕ} (a m : ℕ) {inb b} (S : Cv toE W g v K L) (hW : 0 < W) (ha : y = W * a) (hM : M = W * m) (hK : ∀ j < m, a + j ∈ K)
    (r : Fin R') (n : Fin M) :
    toE (v.readAt (Elt Ideal) (Rect.unit (s := (⟨2, ![R, C]⟩ : Shape)) ![0, y] ![R', M] inb).toLoadRect (v.writes (Elt Ideal) b L) (ix2 r n))
      = (g r.val (y + n.val) : EReal) :=
  (S.load hW (x := 0) (y := y) rfl rfl ha hM hK r n).trans (by rw [Nat.zero_add])

/-- The whole buffer, loaded, -/
theorem Cv.full {M R' : ℕ} (m : ℕ) {inb b} (S : Cv toE W g v K L) (hW : 0 < W) (hM : M = W * m) (hK : ∀ j < m, 0 + j ∈ K) (r : Fin R') (n : Fin M) :
    toE (v.readAt (Elt Ideal) (Rect.unit (s := (⟨2, ![R, C]⟩ : Shape)) ![0, 0] ![R', M] inb).toLoadRect (v.writes (Elt Ideal) b L) (ix2 r n))
      = (g r.val n.val : EReal) :=
  (S.cols 0 m hW (Nat.mul_zero _).symm hM hK r n).trans (by rw [Nat.zero_add])

/-- and as it is left. -/
theorem Cv.all (m : ℕ) (S : Cv toE W g v K L) (hM : C ≤ W * m) (hK : ∀ j < m, j ∈ K) (b : v.ty.Contents (Elt Ideal)) (r : Fin R) (n : Fin C) :
    toE (v.read (Elt Ideal) (v.writes (Elt Ideal) b L) (ix2 r n)) = (g r.val n.val : EReal) :=
  S b r n (hK _ (Nat.div_lt_of_lt_mul (by have := n.isLt; omega)))
end

theorem off1 : ∀ i : grid0.Coords, k0_off1 i 0 = (i 0).val := by decide +kernel
theorem off2 : ∀ i : grid0.Coords, k0_off2 i 0 = (i 0).val := by decide +kernel
theorem off3 : ∀ i : grid0.Coords, k0_off3 i 0 = (i 0).val := by decide +kernel

section
variable {v : View sig .tc .vmem S2x6144 .f32} {L : List (View.Piece (Elt Ideal) S2x6144 .f32)} {K : List ℕ} {g : ℕ → ℕ → ℝ}

/-- A stretch of one row of the modulation. -/
theorem Cv.mdl {off : Fin 2 → ℕ} {inb b k lo} (a : ℕ) (S : Cv id 512 g v K L) (e0 : off 0 = k) (e1 : off 1 = lo) (ha : lo = 512 * a)
    (hK : ∀ j < 2, a + j ∈ K) (d : Fin 1024) :
    v.readAt (Elt Ideal) (Rect.unit (s := S2x6144) off S1x1024.size inb).toLoadRect (v.writes (Elt Ideal) b L) (ix2 0 d)
      = (g k (lo + d.val) : EReal) :=
  S.load (R' := 1) (M := 1024) (m := 2) (by decide) e0 e1 ha rfl hK 0 d

theorem Cv.mdl0 {off : Fin 2 → ℕ} {inb b k} (S : Cv id 512 g v K L) (e0 : off 0 = k) (e1 : off 1 = 0)
    (hK : ∀ j < 2, 0 + j ∈ K) (d : Fin 1024) :
    v.readAt (Elt Ideal) (Rect.unit (s := S2x6144) off S1x1024.size inb).toLoadRect (v.writes (Elt Ideal) b L) (ix2 0 d)
      = (g k d.val : EReal) :=
  (S.mdl 0 e0 e1 rfl hK d).trans (by rw [Nat.zero_add])
end

/-- Columns of the projection, from column `o` on. -/
theorem Cv.win {I : In} {v : View sig .tc .vmem S1024x5120 .bf16} {L : List (View.Piece (Elt Ideal) S1024x5120 .bf16)} {K : List ℕ} {y : ℕ} {inb b} (a o : ℕ)
    (S : Cv id 512 (fun d n => I.w d (1024 + n)) v K L) (ha : y = 512 * a) (e : 1024 + y = o) (hK : ∀ j < 2, a + j ∈ K) (d n : Fin 1024) :
    v.readAt (Elt Ideal) (Rect.unit (s := S1024x5120) ![0, y] S1024x1024.size inb).toLoadRect (v.writes (Elt Ideal) b L) (ix2 d n)
      = (I.w d.val (o + n.val) : EReal) :=
  (S.cols (R' := 1024) (M := 1024) a 2 (by decide) ha rfl hK d n).trans (by rw [← e, Nat.add_assoc])

/-- What the first tile makes the modulation and the weights from. -/
structure Raw (I : In) (x5 : Vec Ideal S2x1024 .f32) (x6 : Vec Ideal S1x6144 .f32) (x7 : Vec Ideal S4x256x256 .f32) (x8 : Vec Ideal S1x1024 .f32)
    (fh0 fh1 : Vec Ideal S1024x6144 .f32) (fh2 fh3 : Vec Ideal S1024x1024 .f32) : Prop where
  h5 : ∀ (b : Fin 2) (d : Fin 1024), x5 (ix2 b d) = (I.c b.val d.val : EReal)
  h6 : ∀ n : Fin 6144, x6 (ix2 0 n) = (I.bada n.val : EReal)
  h7 : ∀ (g : Fin 4) (k n : Fin 256), x7 (ix3 g k n) = (I.wp g.val k.val n.val : EReal)
  h8 : ∀ n : Fin 1024, x8 (ix2 0 n) = (I.psc n.val : EReal)
  wada : ∀ (d : Fin 1024) (n : Fin 6144), fh0 (ix2 d n) = (I.wada d.val n.val : EReal)
  w : ∀ (d : Fin 1024) (n : Fin 6144), fh1 (ix2 d n) = (I.w d.val n.val : EReal)
  wb : ∀ (d n : Fin 1024), fh2 (ix2 d n) = (I.wb d.val n.val : EReal)
  wo : ∀ (d n : Fin 1024), fh3 (ix2 d n) = (I.wo d.val n.val : EReal)

namespace Raw
variable {I : In} {x5 : Vec Ideal S2x1024 .f32} {x6 : Vec Ideal S1x6144 .f32} {x7 : Vec Ideal S4x256x256 .f32} {x8 : Vec Ideal S1x1024 .f32}
    {fh0 fh1 : Vec Ideal S1024x6144 .f32} {fh2 fh3 : Vec Ideal S1024x1024 .f32} (R : Raw I x5 x6 x7 x8 fh0 fh1 fh2 fh3)
include R

theorem c {m : Memref sig .tc .vmem S2x1024 .f32} (h : m.IsWhole) {inb} (b : Fin 2) (d : Fin 1024) :
    m.view.readAt (Elt Ideal) (Rect.unit (s := S2x1024) ![0, 0] S2x1024.size inb).toLoadRect (h.unread x5) (ix2 b d) = (I.c b.val d.val : EReal) := by
  refine (ld_at h x5 _ _ (ix2 b d) ?_).trans (R.h5 b d)
  funext x; apply Fin.ext
  fin_cases x
  · show 0 + 1 * b.val = b.val; omega
  · show 0 + 1 * d.val = d.val; omega

theorem b {m : Memref sig .tc .vmem S1x6144 .f32} (h : m.IsWhole) {p : ℕ} {inb} (n : Fin 512) :
    m.view.readAt (Elt Ideal) (Rect.unit (s := S1x6144) ![0, p] S1x512.size inb).toLoadRect (h.unread x6) (ix2 0 n) = (I.bada (p + n.val) : EReal) :=
  have h1 : p + 512 ≤ 6144 := inb 1
  (ldc h x6 (0 : Fin 1) n (by omega)).trans (R.h6 _)

theorem p {m : Memref sig .tc .vmem S1x1024 .f32} (h : m.IsWhole) {p : ℕ} {inb} (n : Fin 256) :
    m.view.readAt (Elt Ideal) (Rect.unit (s := S1x1024) ![0, p] S1x256.size inb).toLoadRect (h.unread x8) (ix2 0 n) = (I.psc (p + n.val) : EReal) :=
  have h1 : p + 256 ≤ 1024 := inb 1
  (ldc h x8 (0 : Fin 1) n (by omega)).trans (R.h8 _)

theorem wp {m : Memref sig .tc .vmem S4x256x256 .f32} (h : m.IsWhole) {g : ℕ} {inb} (k n : Fin 256) :
    m.view.readAt (Elt Ideal) (Rect.unit (s := S4x256x256) ![g, 0, 0] S1x256x256.size inb).toLoadRect (h.unread x7) (ix3 0 k n)
      = (I.wp g k.val n.val : EReal) := by
  have h1 : g + 1 ≤ 4 := inb 0
  refine (ld_at h x7 _ _ (ix3 (⟨g, h1⟩ : Fin 4) k n) ?_).trans (R.h7 _ k n)
  funext x; apply Fin.ext
  fin_cases x
  · rfl
  · show 0 + 1 * k.val = k.val; omega
  · show 0 + 1 * n.val = n.val; omega
end Raw

end Cert.Mix
-- ==== Proof.MixRef.lean ====
/- The reference of the mixer computes `In.out`. -/
module

public import proofs.«01_k».proof.Proof.MixSpec
public import proofs.«01_k».proof.Proof.Gen.ReferenceIdeal.Read
public import Idealize.ShloMosaic.Lib.Pipeline.ValueKit
public import Idealize.ShloMosaic.Lib.KernelVsHost

@[expose] public section

set_option maxRecDepth 16384

noncomputable section

namespace Cert.Mix

open Idealize.ShloMosaic Cert.RealKit Cert.ReferenceIdeal Cert.ReferenceIdeal.Gen Cert.ReferenceIdeal.Read

theorem foldl_add {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A window of the whole height ending at row `s` adds up the rows to `s`. -/
theorem window_sum (f : ℕ → ℝ) (N s : ℕ) (hs : s ≤ N) :
    ∑ j : Fin (N + 1), (if N ≤ s + j.val then f (s + j.val - N) else 0) = ∑ i ∈ Finset.range (s + 1), f i := by
  rw [Finset.sum_range (n := s + 1), ← Finset.sum_range (n := N + 1) (fun j => if N ≤ s + j then f (s + j - N) else 0), ← Finset.sum_range (n := s + 1) f]
  rw [show N + 1 = (N - s) + (s + 1) by omega, Finset.sum_range_add]
  rw [Finset.sum_eq_zero (fun j hj => if_neg (by have := Finset.mem_range.1 hj; omega)), zero_add]
  refine Finset.sum_congr rfl fun i _ => ?_
  rw [if_pos (by omega)]; congr 1; omega

/-- One term of the window: the entry it reads, or the start where it reads padding. -/
theorem term4 (x : FVec Ideal S2x8192x4x256 .f32) (f : ℕ → ℕ → ℕ → ℕ → ℝ)
    (hx : ∀ (b : Fin 2) (s : Fin 8192) (g : Fin 4) (k : Fin 256), x (ix4 b s g k) = (f b.val s.val g.val k.val : EReal))
    (b : Fin 2) (s : Fin 8192) (g : Fin 4) (k : Fin 256) (w : ℕ) (hw : w < 8192) (p : Fin S2x8192x4x256.rank → ℕ)
    (h0 : p 0 = b.val) (h1 : p 1 = s.val + w) (h2 : p 2 = g.val) (h3 : p 3 = k.val) (z : EReal) (hz : z = 0)
    {dec : Decidable (∀ a : Fin S2x8192x4x256.rank, (![0, 8191, 0, 0] : Fin 4 → ℕ) a ≤ p a ∧ p a - (![0, 8191, 0, 0] : Fin 4 → ℕ) a < S2x8192x4x256.size a)} :
    @dite EReal _ dec (fun hin => x (fun a => ⟨p a - (![0, 8191, 0, 0] : Fin 4 → ℕ) a, (hin a).2⟩)) (fun _ => z)
      = ((if 8191 ≤ s.val + w then f b.val (s.val + w - 8191) g.val k.val else 0 : ℝ) : EReal) := by
  have hs := s.isLt
  split
  · next hin =>
    have a1 : 8191 ≤ p 1 := (hin 1).1
    rw [h1] at a1
    rw [if_pos a1, ← hx b ⟨s.val + w - 8191, by omega⟩ g k]
    refine congrArg x (funext fun a => Fin.ext ?_)
    match a with
    | ⟨0, _⟩ => exact h0
    | ⟨1, _⟩ => exact congrArg (· - 8191) h1
    | ⟨2, _⟩ => exact h2
    | ⟨3, _⟩ => exact h3
  · next hin =>
    rw [if_neg fun hle => hin fun a => by
      match a with
      | ⟨0, _⟩ => exact ⟨Nat.zero_le _, lt_of_eq_of_lt h0 b.isLt⟩
      | ⟨1, _⟩ =>
        refine ⟨?_, lt_of_eq_of_lt (congrArg (· - 8191) h1) ?_⟩
        · show 8191 ≤ p 1; omega
        · show s.val + w - 8191 < 8192; omega
      | ⟨2, _⟩ => exact ⟨Nat.zero_le _, lt_of_eq_of_lt h2 g.isLt⟩
      | ⟨3, _⟩ => exact ⟨Nat.zero_le _, lt_of_eq_of_lt h3 k.isLt⟩, hz]
    rfl

/-- The indices of a window of the whole height are its rows. -/
theorem sum_col {M : Type} [AddCommMonoid M] (F : ℕ → M) :
    ∑ q : (⟨4, ![1, 8192, 1, 1]⟩ : Shape).Idx, F (q 1).val = ∑ j : Fin 8192, F j.val := by
  refine Finset.sum_bij' (fun q _ => (q 1 : Fin 8192)) (fun j _ => (ix4 0 j 0 0 : (⟨4, ![1, 8192, 1, 1]⟩ : Shape).Idx)) (fun _ _ => Finset.mem_univ _) (fun _ _ => Finset.mem_univ _) (fun q _ => ?_) (fun _ _ => rfl) (fun _ _ => rfl)
  refine (congrArg₂ (fun a b => ix4 a (q 1) b 0) ?_ ?_ |>.trans (congrArg (fun c => ix4 (q 0) (q 1) (q 2) c) ?_)).trans (eq_ix4 q).symm
  · exact Subsingleton.elim (α := Fin 1) _ _
  · exact Subsingleton.elim (α := Fin 1) _ _
  · exact Subsingleton.elim (α := Fin 1) _ _

/-- The sum over the rows to `s`, as a window of the whole height. -/
theorem cumsum4 (x : FVec Ideal S2x8192x4x256 .f32) (f : ℕ → ℕ → ℕ → ℕ → ℝ)
    (hx : ∀ (b : Fin 2) (s : Fin 8192) (g : Fin 4) (k : Fin 256), x (ix4 b s g k) = (f b.val s.val g.val k.val : EReal))
    (init : EReal) (hinit : init = 0)
    (h : S2x8192x4x256.ReduceWindows ![1, 8192, 1, 1] ![1, 1, 1, 1] ![0, 8191, 0, 0] ![0, 0, 0, 0] S2x8192x4x256)
    (b : Fin 2) (s : Fin 8192) (g : Fin 4) (k : Fin 256) :
    Ideal.hostReduceWindowAdd ![1, 8192, 1, 1] ![1, 1, 1, 1] ![0, 8191, 0, 0] ![0, 0, 0, 0] h x init (ix4 b s g k)
      = ((∑ i ∈ Finset.range (s.val + 1), f b.val i g.val k.val : ℝ) : EReal) := by
  unfold Ideal.hostReduceWindowAdd Host.reduceWindow
  refine (foldl_add _ _ _).trans ?_
  rw [hinit, zero_add, ← Fin.sum_univ_def, ← window_sum (fun i => f b.val i g.val k.val) 8191 s.val (by have := s.isLt; omega)]
  rw [coe_sum, ← sum_col (fun j => ((if 8191 ≤ s.val + j then f b.val (s.val + j - 8191) g.val k.val else 0 : ℝ) : EReal))]
  refine Eq.trans ?_ (Equiv.sum_comp (Shape.rowMajor (⟨4, ![1, 8192, 1, 1]⟩ : Shape)).symm (fun q : (⟨4, ![1, 8192, 1, 1]⟩ : Shape).Idx =>
    ((if 8191 ≤ s.val + (q 1).val then f b.val (s.val + (q 1).val - 8191) g.val k.val else 0 : ℝ) : EReal)))
  refine Finset.sum_congr rfl fun n _ => ?_
  have q0 : ((Shape.rowMajor (⟨4, ![1, 8192, 1, 1]⟩ : Shape)).symm n 0).val < 1 := ((Shape.rowMajor (⟨4, ![1, 8192, 1, 1]⟩ : Shape)).symm n 0).isLt
  have q1 : ((Shape.rowMajor (⟨4, ![1, 8192, 1, 1]⟩ : Shape)).symm n 1).val < 8192 := ((Shape.rowMajor (⟨4, ![1, 8192, 1, 1]⟩ : Shape)).symm n 1).isLt
  have q2 : ((Shape.rowMajor (⟨4, ![1, 8192, 1, 1]⟩ : Shape)).symm n 2).val < 1 := ((Shape.rowMajor (⟨4, ![1, 8192, 1, 1]⟩ : Shape)).symm n 2).isLt
  have q3 : ((Shape.rowMajor (⟨4, ![1, 8192, 1, 1]⟩ : Shape)).symm n 3).val < 1 := ((Shape.rowMajor (⟨4, ![1, 8192, 1, 1]⟩ : Shape)).symm n 3).isLt
  refine term4 x f hx b s g k _ q1 _ ?_ ?_ ?_ ?_ _ rfl
  · show b.val * 1 + ((Shape.rowMajor (⟨4, ![1, 8192, 1, 1]⟩ : Shape)).symm n 0).val = b.val; omega
  · show s.val * 1 + ((Shape.rowMajor (⟨4, ![1, 8192, 1, 1]⟩ : Shape)).symm n 1).val = s.val + _; omega
  · show g.val * 1 + ((Shape.rowMajor (⟨4, ![1, 8192, 1, 1]⟩ : Shape)).symm n 2).val = g.val; omega
  · show k.val * 1 + ((Shape.rowMajor (⟨4, ![1, 8192, 1, 1]⟩ : Shape)).symm n 3).val = k.val; omega

theorem cnt_word (W : ℕ) (s : Fin 8192) (z : EReal) (hz : z = (((W : ℕ) : ℝ) : EReal)) :
    min (1 + ((((BitVec.ofNat 32 s.val).toInt : ℤ) : ℝ) : EReal)) z = (cnt W s.val : EReal) := by
  have h : (BitVec.ofNat 32 s.val).toInt = (s.val : ℤ) := by
    have := s.isLt
    rw [BitVec.toInt_ofNat', Int.bmod_eq_of_le] <;> omega
  rw [h, hz, ← EReal.coe_one, ← EReal.coe_add, ← EReal.coe_strictMono.monotone.map_min]
  unfold cnt
  rw [Int.cast_natCast, add_comm]

/-- The windowed mean from two running sums. -/
theorem div_win (f : ℕ → ℝ) (W s : ℕ) (hW : 0 < W) (A B C : EReal) (hA : A = ((∑ i ∈ Finset.range (s + 1), f i : ℝ) : EReal))
    (hB : B = ((∑ i ∈ Finset.range (s + 1 - W), f i : ℝ) : EReal)) (hC : C = (cnt W s : EReal)) :
    Ideal.div (A - B) C = ((win W f s / cnt W s : ℝ) : EReal) := by
  rw [hA, hB, hC, Ideal.div_coe (cnt_pos hW s).ne', ← EReal.coe_sub, win_range, ← EReal.coe_mul, mul_one_div]

theorem div_apply {sh : Shape} (X Y Z : FVec Ideal sh .f32) (i : sh.Idx) :
    Host.divf (F := Ideal) (subf X Y) Z i = Ideal.div (X i - Y i) (Z i) := rfl

/-- The logistic curve as the quotient spells it. -/
theorem sg_div (z : ℝ) : Ideal.div 1 (1 + Ideal.exp (-(z : EReal))) = (sg z : EReal) := by
  have h : (0 : ℝ) < 1 + Real.exp (-z) := by positivity
  rw [← EReal.coe_neg, Ideal.exp_coe, ← EReal.coe_one, ← EReal.coe_add, Ideal.div_coe h.ne', ← EReal.coe_mul, one_mul]
  rfl

section
variable (I : In) {x0 : FVec Ideal S2x8192x1024 .f32} {x1 : FVec Ideal S2x1024 .f32} {x2 x3 : FVec Ideal S1x1024 .f32}
  {x4 : FVec Ideal S1x1024x6144 .f32} {x5 : FVec Ideal S1x6144 .f32} {x6 : FVec Ideal S1x1024x6144 .f32} {x7 : FVec Ideal S1x4x256x256 .f32}
  {x8 : FVec Ideal S1x1024 .f32} {x9 : FVec Ideal S1x3x1024 .f32} {x10 : FVec Ideal S1x1024 .f32} {x11 x12 : FVec Ideal S1x1024x1024 .f32}

/-- The reference's arguments hold `I`'s arrays. -/
structure Holds (I : In) (x0 : FVec Ideal S2x8192x1024 .f32) (x1 : FVec Ideal S2x1024 .f32) (x2 x3 : FVec Ideal S1x1024 .f32)
    (x4 : FVec Ideal S1x1024x6144 .f32) (x5 : FVec Ideal S1x6144 .f32) (x6 : FVec Ideal S1x1024x6144 .f32) (x7 : FVec Ideal S1x4x256x256 .f32)
    (x8 : FVec Ideal S1x1024 .f32) (x9 : FVec Ideal S1x3x1024 .f32) (x10 : FVec Ideal S1x1024 .f32) (x11 x12 : FVec Ideal S1x1024x1024 .f32) : Prop where
  h0 : ∀ (b : Fin 2) (s : Fin 8192) (d : Fin 1024), x0 (ix3 b s d) = (I.x b.val s.val d.val : EReal)
  h1 : ∀ (b : Fin 2) (j : Fin 1024), x1 (ix2 b j) = (I.c b.val j.val : EReal)
  h2 : ∀ (d : Fin 1024), x2 (ix2 0 d) = (I.gpre d.val : EReal)
  h3 : ∀ (d : Fin 1024), x3 (ix2 0 d) = (I.gpost d.val : EReal)
  h4 : ∀ (d : Fin 1024) (f : Fin 6144), x4 (ix3 0 d f) = (I.wada d.val f.val : EReal)
  h5 : ∀ (f : Fin 6144), x5 (ix2 0 f) = (I.bada f.val : EReal)
  h6 : ∀ (d : Fin 1024) (f : Fin 6144), x6 (ix3 0 d f) = (I.w d.val f.val : EReal)
  h7 : ∀ (g : Fin 4) (k n : Fin 256), x7 (ix4 0 g k n) = (I.wp g.val k.val n.val : EReal)
  h8 : ∀ (d : Fin 1024), x8 (ix2 0 d) = (I.psc d.val : EReal)
  h9 : ∀ (k : Fin 3) (f : Fin 1024), x9 (ix3 0 k f) = (I.cw k.val f.val : EReal)
  h10 : ∀ (d : Fin 1024), x10 (ix2 0 d) = (I.cb d.val : EReal)
  h11 : ∀ (d f : Fin 1024), x11 (ix3 0 d f) = (I.wb d.val f.val : EReal)
  h12 : ∀ (d f : Fin 1024), x12 (ix3 0 d f) = (I.wo d.val f.val : EReal)

variable (H : Holds I x0 x1 x2 x3 x4 x5 x6 x7 x8 x9 x10 x11 x12)
include H

theorem ref_md (b : Fin 2) (j : Fin 6144) : val_main_v5 (F := Ideal) x1 x4 x5 (ix2 b j) = (I.md b.val j.val : EReal) := by
  pointwise [val_main_v5, val_main_v4, val_main_v3, val_main_v2, val_main_v1, val_main_v0]
  simp only [H.h1, H.h4, H.h5, ← EReal.coe_mul, ← coe_sum, ← EReal.coe_add]
  rfl

theorem ref_hid (b : Fin 2) (s : Fin 8192) (d : Fin 1024) :
    val_main_v37 (F := Ideal) x0 x1 x2 x4 x5 (ix3 b s d) = (I.hid b.val s.val d.val : EReal) := by
  pointwise [val_main_v37, val_main_v36, val_main_v35, val_main_v34, val_main_v33, val_main_v32, val_main_cst_2, val_main_v31, val_main_v30, val_main_v29, val_main_v28, val_main_v27, val_main_v26, val_main_v25, val_main_v24, val_main_v23, val_main_v22, val_main_v21, val_main_v20, val_main_v19, val_main_v18, val_main_cst_1, val_main_cst_0, val_main_cst, val_main_v13, val_main_v12, val_main_v7, val_main_v6]
  simp only [H.h0, H.h2, ref_md I H, ← EReal.coe_mul, ← coe_sum]
  rw [word_1024, word_eps, rsqrt_rs (I.x b.val s.val), ← EReal.coe_one]
  simp only [← EReal.coe_mul, ← EReal.coe_add]
  rfl

theorem ref_pr (b : Fin 2) (s : Fin 8192) (f : Fin 6144) :
    val_main_v39 (F := Ideal) x0 x1 x2 x4 x5 x6 (ix3 b s f) = (I.pr b.val s.val f.val : EReal) := by
  pointwise [val_main_v39, val_main_v38]
  simp only [ref_hid I H, H.h6, ← EReal.coe_mul, ← coe_sum]
  rfl

theorem ref_cum (b : Fin 2) (s : Fin 8192) (g : Fin 4) (k : Fin 256) :
    val_main_v47 (F := Ideal) x0 x1 x2 x4 x5 x6 (ix4 b s g k)
      = ((∑ i ∈ Finset.range (s.val + 1), I.pr b.val i (256 * g.val + k.val) : ℝ) : EReal) := by
  have hx : ∀ (b : Fin 2) (s : Fin 8192) (g : Fin 4) (k : Fin 256), val_main_v46 (F := Ideal) x0 x1 x2 x4 x5 x6 (ix4 b s g k) = ((fun b s g k => I.pr b s (256 * g + k)) b.val s.val g.val k.val : EReal) := by
    intro b s g k
    pointwise [val_main_v46, val_main_v40]
    rw [ref_pr I H]
    show ((I.pr b.val s.val (g.val * 256 + k.val) : ℝ) : EReal) = _
    rw [Nat.mul_comm]
  unfold val_main_v47 Host.reduceWindowAdd
  rw [Ideal.hostReduceWindowAdd_def]
  exact cumsum4 _ (fun b s g k => I.pr b s (256 * g + k)) hx _ (by pointwise [val_main_call0_call0_v0, val_main_call0_call0_cst]) _ b s g k

omit H in
theorem zero_word : ((((0#32).toInt : ℤ) : ℝ) : EReal) = 0 := by simp

theorem ref_pre (b : Fin 2) (s : Fin 8193) (g : Fin 4) (k : Fin 256) :
    val_main_v48 (F := Ideal) x0 x1 x2 x4 x5 x6 (ix4 b s g k)
      = ((∑ i ∈ Finset.range s.val, I.pr b.val i (256 * g.val + k.val) : ℝ) : EReal) := by
  pointwise [val_main_v48, val_main_call1_v0, val_main_c]
  simp only [ref_cum I H]
  have hs := s.isLt
  split
  · next h => rw [show s.val - 1 + 1 = s.val by omega]
  · next h =>
    have h0 : s.val = 0 := by omega
    rw [h0, Finset.range_zero, Finset.sum_empty]
    exact zero_word

omit H in
theorem ref_cnt2 (b : Fin 2) (s : Fin 8192) (k : Fin 256) : val_main_v61 (F := Ideal) (ix3 b s k) = (cnt 2 s.val : EReal) := by
  pointwise [val_main_v61, val_main_v59, val_main_v58, val_main_v57, val_main_cst_5, val_main_v51, val_main_v50, val_main_v49, val_main_cst_3]
  exact cnt_word 2 s _ word_2

theorem ref_hi2 (b : Fin 2) (s : Fin 8192) (k : Fin 256) (n : ℕ) (hn : 256 * 0 + k.val = n) :
    val_main_v53 (F := Ideal) x0 x1 x2 x4 x5 x6 (ix3 b s k)
      = ((∑ i ∈ Finset.range (s.val + 1), I.pr b.val i n : ℝ) : EReal) := by
  pointwise [val_main_v53, val_main_v52]
  rw [ref_pre I H]
  show ((∑ i ∈ Finset.range (1 + s.val), I.pr b.val i (256 * 0 + k.val) : ℝ) : EReal) = _
  rw [Nat.add_comm 1 s.val, hn]

theorem ref_lo2 (b : Fin 2) (s : Fin 8192) (k : Fin 256) (n : ℕ) (hn : 256 * 0 + k.val = n) :
    val_main_v56 (F := Ideal) x0 x1 x2 x4 x5 x6 (ix3 b s k)
      = ((∑ i ∈ Finset.range (s.val + 1 - 2), I.pr b.val i n : ℝ) : EReal) := by
  pointwise [val_main_v56, val_main_v55, val_main_v54, val_main_call2_v0, val_main_c_4]
  have hs := s.isLt
  split
  · next h =>
    rw [ref_pre I H, show s.val + 1 - 2 = s.val - 1 by omega]
    show ((∑ i ∈ Finset.range (s.val - 1), I.pr b.val i (256 * 0 + k.val) : ℝ) : EReal) = _
    rw [hn]
  · next h =>
    rw [show s.val + 1 - 2 = 0 by omega, Finset.range_zero, Finset.sum_empty]
    exact zero_word

theorem ref_win2 (b : Fin 2) (s : Fin 8192) (k : Fin 256) :
    val_main_v62 (F := Ideal) x0 x1 x2 x4 x5 x6 (ix3 b s k)
      = ((win 2 (fun s => I.pr b.val s (256 * 0 + k.val)) s.val / cnt 2 s.val : ℝ) : EReal) := by
  unfold val_main_v62 val_main_v60
  exact (div_apply _ _ _ _).trans (div_win _ 2 s.val (by norm_num) _ _ _ (ref_hi2 I H b s k _ rfl) (ref_lo2 I H b s k _ rfl) (ref_cnt2 b s k))

omit H in
theorem ref_cnt4 (b : Fin 2) (s : Fin 8192) (k : Fin 256) : val_main_v72 (F := Ideal) (ix3 b s k) = (cnt 4 s.val : EReal) := by
  pointwise [val_main_v72, val_main_v70, val_main_v69, val_main_v68, val_main_cst_7, val_main_v51, val_main_v50, val_main_v49, val_main_cst_3]
  exact cnt_word 4 s _ word_4

theorem ref_hi4 (b : Fin 2) (s : Fin 8192) (k : Fin 256) (n : ℕ) (hn : 256 * 1 + k.val = n) :
    val_main_v64 (F := Ideal) x0 x1 x2 x4 x5 x6 (ix3 b s k)
      = ((∑ i ∈ Finset.range (s.val + 1), I.pr b.val i n : ℝ) : EReal) := by
  pointwise [val_main_v64, val_main_v63]
  rw [ref_pre I H]
  show ((∑ i ∈ Finset.range (1 + s.val), I.pr b.val i (256 * 1 + k.val) : ℝ) : EReal) = _
  rw [Nat.add_comm 1 s.val, hn]

theorem ref_lo4 (b : Fin 2) (s : Fin 8192) (k : Fin 256) (n : ℕ) (hn : 256 * 1 + k.val = n) :
    val_main_v67 (F := Ideal) x0 x1 x2 x4 x5 x6 (ix3 b s k)
      = ((∑ i ∈ Finset.range (s.val + 1 - 4), I.pr b.val i n : ℝ) : EReal) := by
  pointwise [val_main_v67, val_main_v66, val_main_v65, val_main_call3_v0, val_main_c_6]
  have hs := s.isLt
  split
  · next h =>
    rw [ref_pre I H, show s.val + 1 - 4 = s.val - 3 by omega]
    show ((∑ i ∈ Finset.range (s.val - 3), I.pr b.val i (256 * 1 + k.val) : ℝ) : EReal) = _
    rw [hn]
  · next h =>
    rw [show s.val + 1 - 4 = 0 by omega, Finset.range_zero, Finset.sum_empty]
    exact zero_word

theorem ref_win4 (b : Fin 2) (s : Fin 8192) (k : Fin 256) :
    val_main_v73 (F := Ideal) x0 x1 x2 x4 x5 x6 (ix3 b s k)
      = ((win 4 (fun s => I.pr b.val s (256 * 1 + k.val)) s.val / cnt 4 s.val : ℝ) : EReal) := by
  unfold val_main_v73 val_main_v71
  exact (div_apply _ _ _ _).trans (div_win _ 4 s.val (by norm_num) _ _ _ (ref_hi4 I H b s k _ rfl) (ref_lo4 I H b s k _ rfl) (ref_cnt4 b s k))

omit H in
theorem ref_cnt8 (b : Fin 2) (s : Fin 8192) (k : Fin 256) : val_main_v83 (F := Ideal) (ix3 b s k) = (cnt 8 s.val : EReal) := by
  pointwise [val_main_v83, val_main_v81, val_main_v80, val_main_v79, val_main_cst_9, val_main_v51, val_main_v50, val_main_v49, val_main_cst_3]
  exact cnt_word 8 s _ word_8

theorem ref_hi8 (b : Fin 2) (s : Fin 8192) (k : Fin 256) (n : ℕ) (hn : 256 * 2 + k.val = n) :
    val_main_v75 (F := Ideal) x0 x1 x2 x4 x5 x6 (ix3 b s k)
      = ((∑ i ∈ Finset.range (s.val + 1), I.pr b.val i n : ℝ) : EReal) := by
  pointwise [val_main_v75, val_main_v74]
  rw [ref_pre I H]
  show ((∑ i ∈ Finset.range (1 + s.val), I.pr b.val i (256 * 2 + k.val) : ℝ) : EReal) = _
  rw [Nat.add_comm 1 s.val, hn]

theorem ref_lo8 (b : Fin 2) (s : Fin 8192) (k : Fin 256) (n : ℕ) (hn : 256 * 2 + k.val = n) :
    val_main_v78 (F := Ideal) x0 x1 x2 x4 x5 x6 (ix3 b s k)
      = ((∑ i ∈ Finset.range (s.val + 1 - 8), I.pr b.val i n : ℝ) : EReal) := by
  pointwise [val_main_v78, val_main_v77, val_main_v76, val_main_call4_v0, val_main_c_8]
  have hs := s.isLt
  split
  · next h =>
    rw [ref_pre I H, show s.val + 1 - 8 = s.val - 7 by omega]
    show ((∑ i ∈ Finset.range (s.val - 7), I.pr b.val i (256 * 2 + k.val) : ℝ) : EReal) = _
    rw [hn]
  · next h =>
    rw [show s.val + 1 - 8 = 0 by omega, Finset.range_zero, Finset.sum_empty]
    exact zero_word

theorem ref_win8 (b : Fin 2) (s : Fin 8192) (k : Fin 256) :
    val_main_v84 (F := Ideal) x0 x1 x2 x4 x5 x6 (ix3 b s k)
      = ((win 8 (fun s => I.pr b.val s (256 * 2 + k.val)) s.val / cnt 8 s.val : ℝ) : EReal) := by
  unfold val_main_v84 val_main_v82
  exact (div_apply _ _ _ _).trans (div_win _ 8 s.val (by norm_num) _ _ _ (ref_hi8 I H b s k _ rfl) (ref_lo8 I H b s k _ rfl) (ref_cnt8 b s k))

omit H in
theorem ref_cnt16 (b : Fin 2) (s : Fin 8192) (k : Fin 256) : val_main_v94 (F := Ideal) (ix3 b s k) = (cnt 16 s.val : EReal) := by
  pointwise [val_main_v94, val_main_v92, val_main_v91, val_main_v90, val_main_cst_11, val_main_v51, val_main_v50, val_main_v49, val_main_cst_3]
  exact cnt_word 16 s _ word_16

theorem ref_hi16 (b : Fin 2) (s : Fin 8192) (k : Fin 256) (n : ℕ) (hn : 256 * 3 + k.val = n) :
    val_main_v86 (F := Ideal) x0 x1 x2 x4 x5 x6 (ix3 b s k)
      = ((∑ i ∈ Finset.range (s.val + 1), I.pr b.val i n : ℝ) : EReal) := by
  pointwise [val_main_v86, val_main_v85]
  rw [ref_pre I H]
  show ((∑ i ∈ Finset.range (1 + s.val), I.pr b.val i (256 * 3 + k.val) : ℝ) : EReal) = _
  rw [Nat.add_comm 1 s.val, hn]

theorem ref_lo16 (b : Fin 2) (s : Fin 8192) (k : Fin 256) (n : ℕ) (hn : 256 * 3 + k.val = n) :
    val_main_v89 (F := Ideal) x0 x1 x2 x4 x5 x6 (ix3 b s k)
      = ((∑ i ∈ Finset.range (s.val + 1 - 16), I.pr b.val i n : ℝ) : EReal) := by
  pointwise [val_main_v89, val_main_v88, val_main_v87, val_main_call5_v0, val_main_c_10]
  have hs := s.isLt
  split
  · next h =>
    rw [ref_pre I H, show s.val + 1 - 16 = s.val - 15 by omega]
    show ((∑ i ∈ Finset.range (s.val - 15), I.pr b.val i (256 * 3 + k.val) : ℝ) : EReal) = _
    rw [hn]
  · next h =>
    rw [show s.val + 1 - 16 = 0 by omega, Finset.range_zero, Finset.sum_empty]
    exact zero_word

theorem ref_win16 (b : Fin 2) (s : Fin 8192) (k : Fin 256) :
    val_main_v95 (F := Ideal) x0 x1 x2 x4 x5 x6 (ix3 b s k)
      = ((win 16 (fun s => I.pr b.val s (256 * 3 + k.val)) s.val / cnt 16 s.val : ℝ) : EReal) := by
  unfold val_main_v95 val_main_v93
  exact (div_apply _ _ _ _).trans (div_win _ 16 s.val (by norm_num) _ _ _ (ref_hi16 I H b s k _ rfl) (ref_lo16 I H b s k _ rfl) (ref_cnt16 b s k))

theorem ref_pl (b : Fin 2) (s : Fin 8192) (g : Fin 4) (k : Fin 256) :
    val_main_v101 (F := Ideal) x0 x1 x2 x4 x5 x6 (ix4 b s g k) = (I.pl b.val s.val (256 * g.val + k.val) : EReal) := by
  pointwise [val_main_v101, val_main_v100, val_main_v99, val_main_v98, val_main_v97, val_main_v96, val_main_v46, val_main_v40]
  simp only [ref_win2 I H, ref_win4 I H, ref_win8 I H, ref_win16 I H, ref_pr I H]
  have hg := g.isLt
  have hk := k.isLt
  have e : ∀ W m, m = g.val → W = 2 ^ (m + 1) →
      ((win W (fun s => I.pr b.val s (256 * m + k.val)) s.val / cnt W s.val : ℝ) : EReal) - ((I.pr b.val s.val (g.val * 256 + k.val) : ℝ) : EReal)
        = (I.pl b.val s.val (256 * g.val + k.val) : EReal) := by
    intro W m hm hW
    unfold In.pl In.wid
    rw [← EReal.coe_sub, hW, hm, show (256 * g.val + k.val) / 256 = g.val by omega, Nat.mul_comm g.val 256]
  by_cases h0 : g.val < 1
  · rw [dif_pos h0]; exact e 2 0 (by omega) rfl
  · rw [dif_neg h0]
    by_cases h1 : g.val - 1 < 1
    · rw [dif_pos h1]; exact e 4 1 (by omega) rfl
    · rw [dif_neg h1]
      by_cases h2 : g.val - 1 - 1 < 1
      · rw [dif_pos h2]; exact e 8 2 (by omega) rfl
      · rw [dif_neg h2]; exact e 16 3 (by omega) rfl

theorem ref_ya (b : Fin 2) (s : Fin 8192) (e : Fin 1024) :
    val_main_v109 (F := Ideal) x0 x1 x2 x4 x5 x6 x7 x8 (ix3 b s e) = (I.ya b.val s.val e.val : EReal) := by
  pointwise [val_main_v109, val_main_v108, val_main_v107, val_main_v106, val_main_v105, val_main_v104, val_main_v103, val_main_v102]
  simp only [ref_pl I H, H.h7, H.h8, ← EReal.coe_mul, ← coe_sum]
  rfl

theorem ref_t (b : Fin 2) (s : Fin 8192) (d : Fin 1024) :
    val_main_v110 (F := Ideal) x0 x1 x2 x4 x5 x6 (ix3 b s d) = (I.tt b.val s.val d.val : EReal) := by
  pointwise [val_main_v110, val_main_v43, val_main_v41]
  simp only [ref_pr I H, ← EReal.coe_mul]
  rfl

theorem ref_pad (b : Fin 2) (s : Fin 8194) (d : Fin 1024) :
    val_main_v113 (F := Ideal) x0 x1 x2 x4 x5 x6 (ix3 b s d) = ((if s.val < 2 then 0 else I.tt b.val (s.val - 2) d.val : ℝ) : EReal) := by
  pointwise [val_main_v113, val_main_call6_v0, val_main_c_12]
  split
  · next h => rw [ref_t I H, if_neg (by omega)]
  · next h =>
    rw [if_pos (by have := s.isLt; have := d.isLt; omega)]
    show (((0#32).toInt : ℝ) : EReal) = 0
    simp

theorem ref_cv (b : Fin 2) (s : Fin 8192) (d : Fin 1024) :
    val_main_v136 (F := Ideal) x0 x1 x2 x4 x5 x6 x9 x10 (ix3 b s d) = (I.cv b.val s.val d.val : EReal) := by
  pointwise [val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v112, val_main_v111]
  simp only [ref_pad I H, H.h9, H.h10]
  simp only [← EReal.coe_mul, ← EReal.coe_add]
  congr 1
  unfold In.cv back
  have e1 : (if 1 + s.val < 2 then (0:ℝ) else I.tt b.val (1 + s.val - 2) d.val) = if s.val < 1 then (0:ℝ) else I.tt b.val (s.val - 1) d.val := by
    by_cases h : s.val < 1
    · rw [if_pos h, if_pos (by omega)]
    · rw [if_neg h, if_neg (by omega)]; congr 1; omega
  have e2 : (if 2 + s.val < 2 then (0:ℝ) else I.tt b.val (2 + s.val - 2) d.val) = if s.val < 0 then (0:ℝ) else I.tt b.val (s.val - 0) d.val := by
    rw [if_neg (by omega), if_neg (by omega)]; congr 1; omega
  simp only [e1, e2]
  rfl

theorem ref_yb (b : Fin 2) (s : Fin 8192) (e : Fin 1024) :
    val_main_v139 (F := Ideal) x0 x1 x2 x4 x5 x6 x9 x10 x11 (ix3 b s e) = (I.yb b.val s.val e.val : EReal) := by
  pointwise [val_main_v139, val_main_v138, val_main_v137, val_main_v42]
  simp only [ref_pr I H, ref_cv I H, H.h11, ← EReal.coe_mul, ← coe_sum]
  rfl

theorem ref_mg (b : Fin 2) (s : Fin 8192) (e : Fin 1024) :
    val_main_v154 (F := Ideal) x0 x1 x2 x4 x5 x6 x7 x8 x9 x10 x11 (ix3 b s e) = (I.mg b.val s.val e.val : EReal) := by
  pointwise [val_main_v154, val_main_v153, val_main_v152, val_main_v151, val_main_v150, val_main_v149, val_main_v148, val_main_v147, val_main_v146, val_main_v145, val_main_v144, val_main_v143, val_main_v142, val_main_v141, val_main_v140, val_main_cst_13, val_main_cst_14, val_main_cst_15, val_main_cst_16, val_main_v44, val_main_v45]
  simp only [ref_pr I H, ref_ya I H, ref_yb I H, word_one, sg_div, ← EReal.coe_mul, ← EReal.coe_add]
  rfl

theorem ref_ff (b : Fin 2) (s : Fin 8192) (d : Fin 1024) :
    val_main_v156 (F := Ideal) x0 x1 x2 x4 x5 x6 x7 x8 x9 x10 x11 x12 (ix3 b s d) = (I.ff b.val s.val d.val : EReal) := by
  pointwise [val_main_v156, val_main_v155]
  simp only [ref_mg I H, H.h12, ← EReal.coe_mul, ← coe_sum]
  rfl

/-- The reference's result. -/
theorem ref_out (b : Fin 2) (s : Fin 8192) (d : Fin 1024) :
    val_main_v173 (F := Ideal) x0 x1 x2 x3 x4 x5 x6 x7 x8 x9 x10 x11 x12 (ix3 b s d) = (I.out b.val s.val d.val : EReal) := by
  pointwise [val_main_v173, val_main_v172, val_main_v171, val_main_v170, val_main_v169, val_main_v168, val_main_v167, val_main_v166, val_main_v165, val_main_v164, val_main_v163, val_main_v162, val_main_v161, val_main_v160, val_main_v159, val_main_v158, val_main_v157, val_main_cst_17, val_main_cst_18, val_main_cst_19, val_main_v14, val_main_v8]
  simp only [ref_ff I H, H.h0, H.h3, ref_md I H, ← EReal.coe_mul, ← coe_sum]
  rw [word_1024, word_eps, rsqrt_rs (I.ff b.val s.val)]
  simp only [← EReal.coe_mul, ← EReal.coe_add]
  rfl

end

end Cert.Mix
-- ==== Proof.MixBlk.lean ====
/- The blocks and arrays the mixer reads hold its arguments. -/
module

public import proofs.«01_k».proof.Proof.MixStage
public import proofs.«01_k».proof.Proof.MixRef
public import proofs.«01_k».proof.Proof.MixKit

@[expose] public section

set_option maxRecDepth 16384
set_option maxHeartbeats 2000000

noncomputable section

namespace Cert.Mix

open Idealize.ShloMosaic Idealize.ShloMosaic.TcCoe Idealize.SL.Sem Cert.RealKit Cert.KernelIdeal Cert.KernelIdeal.Gen

variable (m : (ℓ : Loc nD τ sig) → Buf (Elt Ideal) ℓ) (c : Dev nD)

/-- The kernel's arguments on a device hold `I`'s arrays. -/
abbrev HoldsAt (I : In) : Prop :=
  Holds I (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12))

theorem coord0 : ∀ t : Fin cfg0.N, (grid0.coords t 0).val = t.val / 16 := (by decide +kernel : ∀ t : Fin grid0.N, _)
theorem coord1 : ∀ t : Fin cfg0.N, (grid0.coords t 1).val = t.val % 16 := (by decide +kernel : ∀ t : Fin grid0.N, _)

theorem point_lt (t : Fin cfg0.N) : t.val < 32 := t.isLt.trans_eq N_0

/-- The windows' block indices: the row tile's, and zero for the arrays held whole. -/
theorem index0 : ∀ t : Fin cfg0.N, win0_0.index t 0 = t.val / 16 ∧ win0_0.index t 1 = t.val % 16 ∧ win0_0.index t 2 = 0 :=
  (by decide +kernel : ∀ t : Fin grid0.N, _)
theorem index1 : ∀ t : Fin cfg0.N, win0_1.index t 0 = 0 ∧ win0_1.index t 1 = 0 := (by decide +kernel : ∀ t : Fin grid0.N, _)
theorem index2 : ∀ t : Fin cfg0.N, win0_2.index t 0 = 0 ∧ win0_2.index t 1 = 0 := (by decide +kernel : ∀ t : Fin grid0.N, _)
theorem index3 : ∀ t : Fin cfg0.N, win0_3.index t 0 = 0 ∧ win0_3.index t 1 = 0 ∧ win0_3.index t 2 = 0 := (by decide +kernel : ∀ t : Fin grid0.N, _)
theorem index4 : ∀ t : Fin cfg0.N, win0_4.index t 0 = 0 ∧ win0_4.index t 1 = 0 := (by decide +kernel : ∀ t : Fin grid0.N, _)
theorem index5 : ∀ t : Fin cfg0.N, win0_5.index t 0 = 0 ∧ win0_5.index t 1 = 0 := (by decide +kernel : ∀ t : Fin grid0.N, _)
theorem index6 : ∀ t : Fin cfg0.N, win0_6.index t 0 = 0 ∧ win0_6.index t 1 = 0 := (by decide +kernel : ∀ t : Fin grid0.N, _)
theorem index7 : ∀ t : Fin cfg0.N, win0_7.index t 0 = 0 ∧ win0_7.index t 1 = 0 ∧ win0_7.index t 2 = 0 := (by decide +kernel : ∀ t : Fin grid0.N, _)
theorem index8 : ∀ t : Fin cfg0.N, win0_8.index t 0 = 0 ∧ win0_8.index t 1 = 0 := (by decide +kernel : ∀ t : Fin grid0.N, _)

theorem blk0 (t : Fin cfg0.N) (r : Fin 512) (d : Fin 1024) :
    iblk m c 0 t (ix3 0 r d) = m ((c : Thread nD τ).loc main_arg0)
      (ix3 ⟨t.val / 16, by have := point_lt t; omega⟩ ⟨512 * (t.val % 16) + r.val, by omega⟩ d) := by
  blk_ext! [iblk, V, index0 t]

theorem blk1 (t : Fin cfg0.N) (d : Fin 1024) : iblk m c 1 t (ix2 0 d) = m ((c : Thread nD τ).loc main_arg2) (ix2 0 d) := by
  blk_ext! [iblk, V, index1 t]

theorem blk2 (t : Fin cfg0.N) (d : Fin 1024) : iblk m c 2 t (ix2 0 d) = m ((c : Thread nD τ).loc main_arg3) (ix2 0 d) := by
  blk_ext! [iblk, V, index2 t]

theorem blk3 (t : Fin cfg0.N) (k : Fin 3) (d : Fin 1024) : iblk m c 3 t (ix3 0 k d) = m ((c : Thread nD τ).loc main_arg9) (ix3 0 k d) := by
  blk_ext! [iblk, V, index3 t]

theorem blk4 (t : Fin cfg0.N) (d : Fin 1024) : iblk m c 4 t (ix2 0 d) = m ((c : Thread nD τ).loc main_arg10) (ix2 0 d) := by
  blk_ext! [iblk, V, index4 t]

theorem blk5 (t : Fin cfg0.N) (b : Fin 2) (d : Fin 1024) : iblk m c 5 t (ix2 b d) = m ((c : Thread nD τ).loc main_arg1) (ix2 b d) := by
  blk_ext! [iblk, V, index5 t]

theorem blk6 (t : Fin cfg0.N) (n : Fin 6144) : iblk m c 6 t (ix2 0 n) = m ((c : Thread nD τ).loc main_arg5) (ix2 0 n) := by
  blk_ext! [iblk, V, index6 t]

theorem blk7 (t : Fin cfg0.N) (g : Fin 4) (k n : Fin 256) : iblk m c 7 t (ix3 g k n) = m ((c : Thread nD τ).loc main_arg7) (ix4 0 g k n) := by
  blk_ext! [iblk, V, index7 t]

theorem blk8 (t : Fin cfg0.N) (n : Fin 1024) : iblk m c 8 t (ix2 0 n) = m ((c : Thread nD τ).loc main_arg8) (ix2 0 n) := by
  blk_ext! [iblk, V, index8 t]

theorem host0 (d : Fin 1024) (n : Fin 6144) : V m c main_v0 (ix2 d n) = m ((c : Thread nD τ).loc main_arg4) (ix3 0 d n) := by
  entry_read; pointwise

theorem host4 (d : Fin 1024) (n : Fin 6144) : V m c main_v4 (ix2 d n) = m ((c : Thread nD τ).loc main_arg6) (ix3 0 d n) := by
  entry_read; pointwise

theorem host8 (d : Fin 1024) (n : Fin 1024) : V m c main_v8 (ix2 d n) = m ((c : Thread nD τ).loc main_arg11) (ix3 0 d n) := by
  entry_read; pointwise

theorem host9 (d : Fin 1024) (n : Fin 1024) : V m c main_v9 (ix2 d n) = m ((c : Thread nD τ).loc main_arg12) (ix3 0 d n) := by
  entry_read; pointwise

variable {m c} {I : In} (H : HoldsAt m c I)
include H

/-- The blocks a point reads hold `I`'s arrays. -/
theorem blk (t : Fin cfg0.N) : Blk I (grid0.coords t) (512 * (t.val % 16)) (iblk m c 0 t) (iblk m c 1 t) (iblk m c 2 t) (iblk m c 3 t) (iblk m c 4 t) where
  h0 r d := by rw [coord0]; exact (blk0 m c t r d).trans (H.h0 _ _ _)
  h1 d := (blk1 m c t d).trans (H.h2 _)
  h2 d := (blk2 m c t d).trans (H.h3 _)
  h3 k d := (blk3 m c t k d).trans (H.h9 _ _)
  h4 d := (blk4 m c t d).trans (H.h10 _)
  hs := by rw [coord1]; omega

/-- And the arrays the first point reads. -/
theorem raw (t : Fin cfg0.N) : Raw I (iblk m c 5 t) (iblk m c 6 t) (iblk m c 7 t) (iblk m c 8 t) (V m c main_v0) (V m c main_v4) (V m c main_v8) (V m c main_v9) where
  h5 b d := (blk5 m c t b d).trans (H.h1 _ _)
  h6 n := (blk6 m c t n).trans (H.h5 _)
  h7 g k n := (blk7 m c t g k n).trans (H.h7 _ _ _)
  h8 n := (blk8 m c t n).trans (H.h8 _)
  wada d n := (host0 m c d n).trans (H.h4 _ _)
  w d n := (host4 m c d n).trans (H.h6 _ _)
  wb d n := (host8 m c d n).trans (H.h11 _ _)
  wo d n := (host9 m c d n).trans (H.h12 _ _)

end Cert.Mix
-- ==== Proof.MixEqA.lean ====
/- The first tile's payloads are the later tiles', cut at other places. -/
module

public import proofs.«01_k».proof.Proof.MixTile

public section

set_option maxRecDepth 16384

noncomputable section

namespace Cert.Mix

open Idealize.ShloMosaic Cert.RealKit Cert.KernelIdeal Cert.KernelIdeal.Gen

variable {x : Vec Ideal S1x512x1024 .f32} {a b g : Vec Ideal S1x1024 .f32} {h : FVec Ideal S512x1024 .bf16} {w w' w'' w3 : Vec Ideal S1024x1024 .bf16}
  {U V Y ub v1 v2 : FVec Ideal S512x1024 .f32} {cw : Vec Ideal S1x3x1024 .f32} {cb : Vec Ideal S1x1024 .f32} {t : FVec Ideal S512x128 .f32}
  {p0 p1 p2 q0 q1 q2 : Vec Ideal S1x512x128 .f32} {l0 l1 l2 l3 l4 l5 l6 l7 m0 m1 m2 m3 m4 m5 m6 m7 : Vec Ideal S1x520x128 .f32} {i : BitVec 32}
  {P0 P1 P2 P3 : FVec Ideal S512x256 .f32}

theorem eq_hid : k0_pay36 (F := Ideal) (k0_pay29 x) (k0_pay30 a) (k0_pay31 b) g
    = k0_pay138 (k0_pay130 x) (k0_pay131 a) (k0_pay133 b g) (k0_pay134 x) (k0_pay135 x) := rfl

theorem eq_u {hc} : concatenate S512x1024 0 [⟨S256x1024, k0_pay37 (F := Ideal) (k0_pay29 x) (k0_pay30 a) (k0_pay31 b) g w⟩,
      ⟨S256x1024, k0_pay38 (F := Ideal) (k0_pay29 x) (k0_pay30 a) (k0_pay31 b) g w'⟩] hc
    = k0_pay139 (k0_pay130 x) (k0_pay131 a) (k0_pay133 b g) (k0_pay134 x) (k0_pay135 x) w w' := rfl

theorem eq_v : k0_pay56 (F := Ideal) h (k0_pay53 h w) w' = k0_pay149 h w w' := rfl

theorem eq_ub : k0_pay92 (F := Ideal) h w = k0_pay185 h w := rfl

theorem eq_t1 : k0_pay66 (F := Ideal) (iota .tc S512x128 32 [0] (by decide)) (k0_pay65 i) = k0_pay159 (Scalar.muli i 512#32) := rfl

theorem eq_w2 : k0_pay67 (F := Ideal) U (iota .tc S512x128 32 [0] (by decide)) (k0_pay65 i) p0 q0 = k0_pay160 U (Scalar.muli i 512#32) p0 q0 := rfl

theorem eq_w4 : k0_pay71 (F := Ideal) t (k0_pay68 U) (k0_pay69 U p0 q0 p1 q1) (k0_pay70 p2) q2
    = k0_pay164 t (k0_pay161 U) (k0_pay162 U p0 q0 p1 q1) (k0_pay163 p2) q2 := rfl

theorem eq_w8 : k0_pay75 (F := Ideal) t (k0_pay72 U) (k0_pay73 l0 m0 l1 m1 l2 m2) (k0_pay74 l3 m3)
    = k0_pay168 t (k0_pay165 U) (k0_pay166 l0 m0 l1 m1 l2 m2) (k0_pay167 l3) m3 := rfl

theorem eq_w16 : k0_pay80 (F := Ideal) (k0_pay76 U) (k0_pay79 t (k0_pay77 l0 m0 l1 m1 l2 m2) (k0_pay78 l3 m3) l4 m4 l5 m5 l6 m6 l7 m7)
    = k0_pay174 (k0_pay169 U) (k0_pay172 (k0_pay170 l0 m0 l1 m1 l2 m2) (k0_pay171 l3) m3 l4 m4 l5 m5 l6 m6 l7 m7) (k0_pay173 t) := rfl

theorem eq_pool {hc} : concatenate S512x1024 1 [⟨S512x256, P0⟩, ⟨S512x256, P1⟩, ⟨S512x256, P2⟩, ⟨S512x256, P3⟩] hc = k0_pay184 (F := Ideal) P0 P1 P2 P3 := rfl

theorem eq_merge : k0_pay121 (F := Ideal) (k0_pay111 V ub v1 v2 (k0_pay109 cw) k0_pay110 cb) (k0_pay117 h w') (k0_pay118 Y (k0_pay114 h w)) w''
    = k0_pay209 h V Y ub v1 v2 (k0_pay206 cw) (k0_pay207 cb) (k0_pay208 cw) w w' w'' := rfl

theorem eq_out0 : k0_pay125 (F := Ideal) (k0_pay122 (k0_pay32 a) g) (k0_pay123 (k0_pay29 x))
      (k0_pay124 (k0_pay111 V ub v1 v2 (k0_pay109 cw) k0_pay110 cb) (k0_pay117 h w') (k0_pay118 Y (k0_pay114 h w)) w'') w3
    = k0_pay215 (k0_pay210 (k0_pay132 a) g) (k0_pay211 (k0_pay130 x))
      (k0_pay212 h V Y ub v1 v2 (k0_pay206 cw) (k0_pay207 cb) (k0_pay208 cw) w w' w'' w3)
      (k0_pay213 h V Y ub v1 v2 (k0_pay206 cw) (k0_pay207 cb) (k0_pay208 cw) w w' w'' w3) k0_pay214 := rfl

theorem eq_out1 : k0_pay1 (F := Ideal) (k0_pay29 x) h (k0_pay122 (k0_pay32 a) g) w3 = k0_pay216 (k0_pay130 x) h (k0_pay210 (k0_pay132 a) g) w3 := rfl

/-- The histories begin as zero. -/
theorem zeroA16 (a : Fin 8) (r : Fin 16) (l : Fin 128) : k0_pay27 (F := Ideal) (ix3 a r l) = (0 : EReal) := zero16 a r l

theorem zeroA8 (a : Fin 8) (r : Fin 8) (l : Fin 128) : k0_pay28 (F := Ideal) (ix3 a r l) = (0 : EReal) := zero8 a r l

end Cert.Mix
-- ==== Proof.MixValA1.lean ====
/- The mixer's first tile: the modulation and the weights. -/
module

public import proofs.«01_k».proof.Proof.MixStage
public import proofs.«01_k».proof.Proof.MixRunA
import all proofs.«01_k».proof.Proof.MixRunA

public section

set_option maxRecDepth 16384
set_option maxHeartbeats 2000000

noncomputable section

namespace Cert.Mix.RunA

open Idealize.ShloMosaic Cert.RealKit Cert.KernelIdeal Cert.KernelIdeal.Gen

variable {I : In} {x5 : Vec Ideal S2x1024 .f32} {x6 : Vec Ideal S1x6144 .f32} {x7 : Vec Ideal S4x256x256 .f32} {x8 : Vec Ideal S1x1024 .f32}
  {fh0 fh1 : Vec Ideal S1024x6144 .f32} {fh2 fh3 : Vec Ideal S1024x1024 .f32} {xs6 : Vec Ideal S4x1024x512 .f32} {c : Dev nD}
  {arg7 : Memref sig .tc .vmem S2x1024 .f32} {harg7 : arg7.IsWhole}
  {arg8 : Memref sig .tc .vmem S1x6144 .f32} {harg8 : arg8.IsWhole}
  {arg9 : Memref sig .tc .vmem S4x256x256 .f32} {harg9 : arg9.IsWhole}
  {arg10 : Memref sig .tc .vmem S1x1024 .f32} {harg10 : arg10.IsWhole}
  {arg18 : Memref sig .tc .vmem S2x6144 .f32} {harg18 : arg18.IsWhole}
  {arg23 : Memref sig .tc .vmem S1024x1024 .bf16} {harg23 : arg23.IsWhole}
  {arg24 : Memref sig .tc .vmem S1024x5120 .bf16} {harg24 : arg24.IsWhole}
  {arg25 : Memref sig .tc .vmem S1024x1024 .bf16} {harg25 : arg25.IsWhole}
  {arg26 : Memref sig .tc .vmem S1024x1024 .bf16} {harg26 : arg26.IsWhole}
  {arg27 : Memref sig .tc .vmem S4x1024x512 .f32} {harg27 : arg27.IsWhole}
  (R : Raw I x5 x6 x7 x8 fh0 fh1 fh2 fh3)

include R
theorem md : Cv id 512 I.md arg18.view [11, 10, 9, 8, 7, 6, 5, 4, 3, 2, 1, 0] (mixRunA.sl.H12_12 c arg7 harg7 arg8 harg8 arg27 harg27 x5 x6 fh0 fh1 xs6) := by
  refine Cv.put (by decide) rfl ?_ (pay_md _ ?_ (R.c _) (R.b _))
  refine Cv.put (by decide) rfl ?_ (fun b n => (congrFun eq_md16 (ix2 b n)).trans (pay_md _ ?_ (R.c _) (R.b _) b n))
  refine Cv.put (by decide) rfl ?_ (fun b n => (congrFun eq_md15 (ix2 b n)).trans (pay_md _ ?_ (R.c _) (R.b _) b n))
  refine Cv.put (by decide) rfl ?_ (pay_md _ ?_ (R.c _) (R.b _))
  refine Cv.put (by decide) rfl ?_ (pay_md _ ?_ (R.c _) (R.b _))
  refine Cv.put (by decide) rfl ?_ (pay_md _ ?_ (R.c _) (R.b _))
  refine Cv.put (by decide) rfl ?_ (fun b n => (congrFun eq_md10 (ix2 b n)).trans (pay_md _ ?_ (R.c _) (R.b _) b n))
  refine Cv.put (by decide) rfl ?_ (pay_md _ ?_ (R.c _) (R.b _))
  refine Cv.put (by decide) rfl ?_ (pay_md _ ?_ (R.c _) (R.b _))
  refine Cv.put (by decide) rfl ?_ (pay_md _ ?_ (R.c _) (R.b _))
  refine Cv.put (by decide) rfl ?_ (fun b n => (congrFun eq_md4 (ix2 b n)).trans (pay_md _ ?_ (R.c _) (R.b _) b n))
  refine Cv.put (by decide) rfl ?_ (pay_md _ ?_ (R.c _) (R.b _))
  · exact Cv.nil
  all_goals
    repeat refine Stg.miss (by decide) ?_
    exact Stg.hit (src' (g := I.wada) (M := Memref.whole main_v0) (fh := fh0) R.wada rfl)

theorem fold : Cv id 256 I.wf arg23.view [3, 2, 1, 0] (mixRunA.sl.HS2_4 c arg9 harg9 arg10 harg10 arg27 harg27 x7 x8 fh0 fh1 xs6) := by
  refine Cv.put (by decide) rfl ?_ (pay_fold1' 3 512 rfl ?_ (R.wp _) (R.p _))
  refine Cv.put (by decide) rfl ?_ (pay_fold0 2 ?_ (R.wp _) (R.p _))
  refine Cv.put (by decide) rfl ?_ (pay_fold1' 1 0 rfl ?_ (R.wp _) (R.p _))
  refine Cv.put (by decide) rfl ?_ (pay_fold0 0 ?_ (R.wp _) (R.p _))
  · exact Cv.nil
  all_goals
    repeat refine Stg.miss (by decide) ?_
    exact Stg.hit (src' (g := I.w) (M := Memref.whole main_v4) (fh := fh1) R.w rfl)

theorem win0 : Cv id 512 (fun d n => I.w d (1024 + n)) arg24.view [1, 0, 5, 4] (mixRunA.sl.HS3_4 c arg27 harg27 fh0 fh1 xs6) := by
  iterate 4 refine Cv.put (by decide) rfl ?_ (pay_cpw _ _ rfl ?_)
  · exact Cv.nil
  all_goals
    repeat refine Stg.miss (by decide) ?_
    exact Stg.hit (src' (g := I.w) (M := Memref.whole main_v4) (fh := fh1) R.w rfl)

theorem win1 : Cv id 512 (fun d n => I.w d (1024 + n)) arg24.view [3, 2, 1, 0, 5, 4] (mixRunA.sl.HS3_6 c arg27 harg27 fh0 fh1 xs6) := by
  iterate 2 refine Cv.put (by decide) rfl ?_ (pay_cpw _ _ rfl ?_)
  · exact win0 R
  all_goals
    repeat refine Stg.miss (by decide) ?_
    exact Stg.hit (src' (g := I.w) (M := Memref.whole main_v4) (fh := fh1) R.w rfl)

theorem win2 : Cv id 512 (fun d n => I.w d (1024 + n)) arg24.view [7, 6, 3, 2, 1, 0, 5, 4] (mixRunA.sl.HS3_8 c arg27 harg27 fh0 fh1 fh2 xs6) := by
  iterate 2 refine Cv.put (by decide) rfl ?_ (pay_cpw _ _ rfl ?_)
  · exact win1 R
  all_goals
    repeat refine Stg.miss (by decide) ?_
    exact Stg.hit (src' (g := I.w) (M := Memref.whole main_v4) (fh := fh1) R.w rfl)

theorem win3 : Cv id 512 (fun d n => I.w d (1024 + n)) arg24.view [9, 8, 7, 6, 3, 2, 1, 0, 5, 4] (mixRunA.sl.HS3_10 c arg27 harg27 fh0 fh1 fh2 fh3 xs6) := by
  iterate 2 refine Cv.put (by decide) rfl ?_ (pay_cpw _ _ rfl ?_)
  · exact win2 R
  all_goals
    repeat refine Stg.miss (by decide) ?_
    exact Stg.hit (src' (g := I.w) (M := Memref.whole main_v4) (fh := fh1) R.w rfl)

theorem wb : Cv id 512 I.wb arg25.view [1, 0] (mixRunA.sl.HS4_2 c arg27 harg27 fh0 fh1 fh2 fh3 xs6) := by
  iterate 2 refine Cv.put (by decide) rfl ?_ (pay_cpo I.wb _ ?_)
  · exact Cv.nil
  all_goals
    repeat refine Stg.miss (by decide) ?_
    exact Stg.hit (src' (g := I.wb) (M := Memref.whole main_v8) (fh := fh2) R.wb rfl)

theorem wo : Cv id 512 I.wo arg26.view [1, 0] (mixRunA.sl.HS5_2 c arg27 harg27 fh0 fh1 fh2 fh3 xs6) := by
  iterate 2 refine Cv.put (by decide) rfl ?_ (pay_cpo I.wo _ ?_)
  · exact Cv.nil
  all_goals
    repeat refine Stg.miss (by decide) ?_
    exact Stg.hit (src' (g := I.wo) (M := Memref.whole main_v9) (fh := fh3) R.wo rfl)

end Cert.Mix.RunA
-- ==== Proof.MixValA2.lean ====
/- The mixer's run on the first tile. -/
module

public import proofs.«01_k».proof.Proof.MixEqA
public import proofs.«01_k».proof.Proof.MixValA1
import all proofs.«01_k».proof.Proof.MixRunA

public section

set_option maxRecDepth 16384
set_option maxHeartbeats 2000000

noncomputable section

namespace Cert.Mix.RunA

open Idealize.ShloMosaic Cert.RealKit Cert.KernelIdeal Cert.KernelIdeal.Gen

variable {I : In} {s : ℕ} {x0 : Vec Ideal S1x512x1024 .f32} {x1 x2 : Vec Ideal S1x1024 .f32}
  {x3 : Vec Ideal S1x3x1024 .f32} {x4 : Vec Ideal S1x1024 .f32} {x5 : Vec Ideal S2x1024 .f32} {x6 : Vec Ideal S1x6144 .f32}
  {x7 : Vec Ideal S4x256x256 .f32} {x8 : Vec Ideal S1x1024 .f32} {fh0 fh1 : Vec Ideal S1024x6144 .f32} {fh2 fh3 : Vec Ideal S1024x1024 .f32}
  {xs6 : Vec Ideal S4x1024x512 .f32} {c : Dev nD} {i : grid0.Coords} {hc0 : cond0_0 i} {hc1 : cond0_1 i} {hc2 : ¬cond0_2 i}
  {arg2 : Memref sig .tc .vmem S1x512x1024 .f32} {harg2 : arg2.IsWhole}
  {arg3 : Memref sig .tc .vmem S1x1024 .f32} {harg3 : arg3.IsWhole}
  {arg4 : Memref sig .tc .vmem S1x1024 .f32} {harg4 : arg4.IsWhole}
  {arg5 : Memref sig .tc .vmem S1x3x1024 .f32} {harg5 : arg5.IsWhole}
  {arg6 : Memref sig .tc .vmem S1x1024 .f32} {harg6 : arg6.IsWhole}
  {arg7 : Memref sig .tc .vmem S2x1024 .f32} {harg7 : arg7.IsWhole}
  {arg8 : Memref sig .tc .vmem S1x6144 .f32} {harg8 : arg8.IsWhole}
  {arg9 : Memref sig .tc .vmem S4x256x256 .f32} {harg9 : arg9.IsWhole}
  {arg10 : Memref sig .tc .vmem S1x1024 .f32} {harg10 : arg10.IsWhole}
  {arg11 : Memref sig .tc .vmem S32x5632 .f32} {harg11 : arg11.IsWhole}
  {arg12 : Memref sig .tc .vmem S128x1024 .f32} {harg12 : arg12.IsWhole}
  {arg17 : Memref sig .tc .vmem S1x512x1024 .f32} {harg17 : arg17.IsWhole}
  {arg18 : Memref sig .tc .vmem S2x6144 .f32} {harg18 : arg18.IsWhole}
  {arg19 : Memref sig .tc .vmem S32x5632 .bf16} {harg19 : arg19.IsWhole}
  {arg20 : Memref sig .tc .vmem S128x1024 .bf16} {harg20 : arg20.IsWhole}
  {arg21 : Memref sig .tc .vmem S8x528x128 .f32} {harg21 : arg21.IsWhole}
  {arg22 : Memref sig .tc .vmem S8x520x128 .f32} {harg22 : arg22.IsWhole}
  {arg23 : Memref sig .tc .vmem S1024x1024 .bf16} {harg23 : arg23.IsWhole}
  {arg24 : Memref sig .tc .vmem S1024x5120 .bf16} {harg24 : arg24.IsWhole}
  {arg25 : Memref sig .tc .vmem S1024x1024 .bf16} {harg25 : arg25.IsWhole}
  {arg26 : Memref sig .tc .vmem S1024x1024 .bf16} {harg26 : arg26.IsWhole}
  {arg27 : Memref sig .tc .vmem S4x1024x512 .f32} {harg27 : arg27.IsWhole}
  (B : Blk I i s x0 x1 x2 x3 x4) (R : Raw I x5 x6 x7 x8 fh0 fh1 fh2 fh3)

include B R in
theorem hid : ∀ (r : Fin 512) (d : Fin 1024), (mixRunA.sl.r_11 c i arg2 harg2 arg3 harg3 arg7 harg7 arg8 harg8 arg18 arg27 harg27 hc0 x0 x1 x5 x6 fh0 fh1 xs6) (ix2 r d) = (I.hid (i 0).val (s + r.val) d.val : EReal) := fun r d =>
  (congrFun eq_hid _).trans (pay_hid (B.x _) ((md R).mdl0 (off1 i) rfl (by decide)) ((md R).mdl 2 (off2 i) rfl rfl (by decide)) (B.gpre _) r d)

include B R in
theorem u : ∀ (r : Fin 512) (d : Fin 1024), (mixRunA.sl.v419 c i arg2 harg2 arg3 harg3 arg7 harg7 arg8 harg8 arg9 harg9 arg10 harg10 arg18 arg23 arg27 harg27 hc0 x0 x1 x5 x6 x7 x8 fh0 fh1 xs6) (ix2 r d) = (I.uu (i 0).val (s + r.val) d.val : EReal) := fun r d =>
  (congrFun eq_u _).trans (pay_u (pay_hid0 I _ _ (B.x _) ((md R).mdl0 (off1 i) rfl (by decide)) ((md R).mdl 2 (off2 i) rfl rfl (by decide)) (B.gpre _))
    (pay_hid1 I _ _ (B.x _) ((md R).mdl0 (off1 i) rfl (by decide)) ((md R).mdl 2 (off2 i) rfl rfl (by decide)) (B.gpre _)) ((fold R).full 4 (by decide) rfl (by decide)) ((fold R).full 4 (by decide) rfl (by decide)) r d)

include B R in
theorem v : ∀ (r : Fin 512) (d : Fin 1024), (mixRunA.sl.r_15 c i arg2 harg2 arg3 harg3 arg7 harg7 arg8 harg8 arg18 arg24 arg27 harg27 hc0 x0 x1 x5 x6 fh0 fh1 xs6) (ix2 r d) = (I.tt (i 0).val (s + r.val) d.val : EReal) := fun r d =>
  (congrFun eq_v _).trans (pay_v (hid B R) ((win0 R).win 4 3072 rfl rfl (by decide)) ((win1 R).win 0 1024 rfl rfl (by decide)) r d)

include B R in
theorem ub : ∀ (r : Fin 512) (d : Fin 1024), (mixRunA.sl.r_32 c i arg2 harg2 arg3 harg3 arg7 harg7 arg8 harg8 arg18 arg24 arg27 harg27 hc0 x0 x1 x5 x6 fh0 fh1 fh2 xs6) (ix2 r d) = (I.pr (i 0).val (s + r.val) (2048 + d.val) : EReal) := fun r d =>
  (congrFun eq_ub _).trans (pay_ub (hid B R) ((win2 R).win 2 2048 rfl rfl (by decide)) r d)

section
variable (hs0 : s = 0)

include B R hs0 in
/-- Every slab's rows are stored. -/
theorem st0 : St 16 (I.uu (i 0).val) s arg21.view arg21.view.junk [7, 6, 5, 4, 3, 2, 1, 0] [] (mixRunA.sl.HS0_9 c i arg2 harg2 arg3 harg3 arg7 harg7 arg8 harg8 arg9 harg9 arg10 harg10 arg18 arg23 arg27 harg27 hc0 x0 x1 x5 x6 x7 x8 fh0 fh1 xs6) := by
  iterate 8 refine St.put rfl ?_ ?_
  · exact St.zero zeroA16 hs0
  all_goals refine put_of (h := ?_) (u B R) rfl
  all_goals decide

include B R hs0 in
theorem st1 : St 8 (I.tt (i 0).val) s arg22.view arg22.view.junk [7, 6, 5, 4, 3, 2, 1, 0] [] (mixRunA.sl.HS1_9 c i arg2 harg2 arg3 harg3 arg7 harg7 arg8 harg8 arg18 arg24 arg27 harg27 hc0 x0 x1 x5 x6 fh0 fh1 xs6) := by
  iterate 8 refine St.put rfl ?_ ?_
  · exact St.zero zeroA8 hs0
  all_goals refine put_of (h := ?_) (v B R) rfl
  all_goals decide

include B R hs0 in
theorem half : ∀ (r : Fin 512) (d : Fin 1024), (mixRunA.sl.v764 c i arg2 harg2 arg3 harg3 arg7 harg7 arg8 harg8 arg9 harg9 arg10 harg10 arg18 arg21 arg23 arg27 harg27 hc0 x0 x1 x5 x6 x7 x8 fh0 fh1 xs6) (ix2 r d) = ((1 / 2 * I.ya (i 0).val (s + r.val) d.val : ℝ) : EReal) := fun r d => by
  refine (congrFun eq_pool _).trans (pay_pool
    (fun r n => (congrFun eq_w2 (ix2 r n)).trans (pay_w2 (u B R) B.row B.low ?_ ?_ r n))
    (fun r n => (congrFun eq_w4 (ix2 r n)).trans (pay_w4 (u B R) (fun r l => (congrFun eq_t1 (ix2 r l)).trans (pay_t1 B.row B.low r l)) ?_ ?_ ?_ ?_ ?_ ?_ r n))
    (fun r n => (congrFun eq_w8 (ix2 r n)).trans (pay_w8 (u B R) (fun r l => (congrFun eq_t1 (ix2 r l)).trans (pay_t1 B.row B.low r l)) ?_ ?_ ?_ ?_ ?_ ?_ ?_ ?_ r n))
    (fun r n => (congrFun eq_w16 (ix2 r n)).trans (pay_w16 (u B R) (fun r l => (congrFun eq_t1 (ix2 r l)).trans (pay_t1 B.row B.low r l)) ?_ ?_ ?_ ?_ ?_ ?_ ?_ ?_ ?_ ?_ ?_ ?_ ?_ ?_ ?_ ?_ r n)) r d)
  all_goals exact fun r l => (st0 B R hs0).load (by decide) (by decide) r l

include B R hs0 in
theorem v1 : ∀ (r : Fin 512) (d : Fin 1024), (mixRunA.sl.v815 c i arg2 harg2 arg3 harg3 arg7 harg7 arg8 harg8 arg18 arg22 arg24 arg27 harg27 hc0 x0 x1 x5 x6 fh0 fh1 xs6) (ix2 r d) = (back 1 (fun s => I.tt (i 0).val s d.val) (s + r.val) : EReal) := by
  refine cat8 (g := fun r n => back 1 (fun s => I.tt (i 0).val s n) (s + r)) ?_ ?_ ?_ ?_ ?_ ?_ ?_ ?_
  all_goals exact ago 1 (st1 B R hs0) (by decide) (by decide) rfl

include B R hs0 in
theorem v2 : ∀ (r : Fin 512) (d : Fin 1024), (mixRunA.sl.v832 c i arg2 harg2 arg3 harg3 arg7 harg7 arg8 harg8 arg18 arg22 arg24 arg27 harg27 hc0 x0 x1 x5 x6 fh0 fh1 xs6) (ix2 r d) = (back 2 (fun s => I.tt (i 0).val s d.val) (s + r.val) : EReal) := by
  refine cat8 (g := fun r n => back 2 (fun s => I.tt (i 0).val s n) (s + r)) ?_ ?_ ?_ ?_ ?_ ?_ ?_ ?_
  all_goals exact ago 2 (st1 B R hs0) (by decide) (by decide) rfl

include B R hs0 in
theorem merged : ∀ (r : Fin 512) (d : Fin 1024), (mixRunA.sl.r_39 c i arg2 harg2 arg3 harg3 arg5 harg5 arg6 harg6 arg7 harg7 arg8 harg8 arg9 harg9 arg10 harg10 arg18 arg21 arg22 arg23 arg24 arg25 arg27 harg27 hc0 x0 x1 x3 x4 x5 x6 x7 x8 fh0 fh1 fh2 fh3 xs6) (ix2 r d) = (I.mg (i 0).val (s + r.val) d.val : EReal) := fun r d =>
  (congrFun eq_merge _).trans (pay_merge (hid B R) (v B R) (half B R hs0) (ub B R) (v1 B R hs0) (v2 B R hs0) (B.cw _) (B.cb _)
    ((win3 R).win 6 4096 rfl rfl (by decide)) ((win3 R).win 8 5120 rfl rfl (by decide)) ((wb R).full 2 (by decide) rfl (by decide)) r d)

variable {x9 : Vec Ideal S32x5632 .f32} {x10 : Vec Ideal S128x1024 .f32}

include B R hs0 in
/-- Each slab's last rows are kept as its history. -/
theorem kept0 : St 16 (I.uu (i 0).val) s arg21.view arg21.view.junk [7, 6, 5, 4, 3, 2, 1, 0] [7, 6, 5, 4, 3, 2, 1, 0]
    (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).2.2.2.2.1 := by
  iterate 8 refine St.keep16 ?_ (by decide)
  exact st0 B R hs0

include B R hs0 in
theorem kept1 : St 8 (I.tt (i 0).val) s arg22.view arg22.view.junk [7, 6, 5, 4, 3, 2, 1, 0] [7, 6, 5, 4, 3, 2, 1, 0]
    (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).2.2.2.2.2.1 := by
  iterate 8 refine St.keep8 ?_ (by decide)
  exact st1 B R hs0

include B R hs0 in
/-- The block left of the mixed sequence. -/
theorem out (f : arg17.view.ty.Contents (Elt Ideal)) : ∀ (r : Fin 512) (d : Fin 1024), arg17.view.read (Elt Ideal) (arg17.view.writes (Elt Ideal) f
      (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).1) (ix3 0 r d) = (I.out (i 0).val (s + r.val) d.val : EReal) :=
  two (X := fun r d => I.out (i 0).val (s + r) d)
    (fun r d => (congrFun eq_out0 (ix3 0 r d)).trans (pay_out0 (B.x _) ((md R).mdl 4 (off3 i) rfl rfl (by decide)) (B.gpost _) (pay_ff 0 (pay_merge (hid B R) (v B R) (half B R hs0) (ub B R) (v1 B R hs0) (v2 B R hs0) (B.cw _) (B.cb _)
    ((win3 R).win 6 4096 rfl rfl (by decide)) ((win3 R).win 8 5120 rfl rfl (by decide)) ((wb R).full 2 (by decide) rfl (by decide)))
      ((wo R).full 2 (by decide) rfl (by decide))) r d))
    (fun r d => (congrFun eq_out1 (ix3 0 r d)).trans (pay_out1 (B.x _) ((md R).mdl 4 (off3 i) rfl rfl (by decide)) (B.gpost _) (merged B R hs0)
      ((wo R).full 2 (by decide) rfl (by decide)) r d))
end

section
variable {x9 : Vec Ideal S32x5632 .f32} {x10 : Vec Ideal S128x1024 .f32}
include R

/-- The modulation and the weights, as they are left. -/
theorem left (f12 : arg18.view.ty.Contents (Elt Ideal)) (f2 : arg23.view.ty.Contents (Elt Ideal)) (f3 : arg24.view.ty.Contents (Elt Ideal))
    (f4 : arg25.view.ty.Contents (Elt Ideal)) (f5 : arg26.view.ty.Contents (Elt Ideal)) :
    Wts I (arg18.view.read (Elt Ideal) (arg18.view.writes (Elt Ideal) f12 (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).2.1))
      (arg23.view.read (Elt Ideal) (arg23.view.writes (Elt Ideal) f2 (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).2.2.2.2.2.2.1))
      (arg24.view.read (Elt Ideal) (arg24.view.writes (Elt Ideal) f3 (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).2.2.2.2.2.2.2.1))
      (arg25.view.read (Elt Ideal) (arg25.view.writes (Elt Ideal) f4 (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).2.2.2.2.2.2.2.2.1))
      (arg26.view.read (Elt Ideal) (arg26.view.writes (Elt Ideal) f5 (mixRunA (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc1 hc2 x0 x1 x2 x3 x4 x5 x6 x7 x8 x9 x10 fh0 fh1 fh2 fh3 xs6).2.2.2.2.2.2.2.2.2.1)) where
  md := (md R).all 12 (by decide) (by decide) f12
  wf := (fold R).all 4 (by decide) (by decide) f2
  w := (win3 R).all 10 (by decide) (by decide) f3
  wb := (wb R).all 2 (by decide) (by decide) f4
  wo := (wo R).all 2 (by decide) (by decide) f5
end

end Cert.Mix.RunA
-- ==== Proof.MixValB.lean ====
/- The mixer's run on a tile whose history the tile before it left. -/
module

public import proofs.«01_k».proof.Proof.MixTile
public import proofs.«01_k».proof.Proof.MixRunB
import all proofs.«01_k».proof.Proof.MixRunB

public section

set_option maxRecDepth 16384
set_option maxHeartbeats 2000000

noncomputable section

namespace Cert.Mix.RunB

open Idealize.ShloMosaic Cert.RealKit Cert.KernelIdeal Cert.KernelIdeal.Gen

variable {I : In} {s : ℕ} {x0 : Vec Ideal S1x512x1024 .f32} {x1 x2 : Vec Ideal S1x1024 .f32}
  {x3 : Vec Ideal S1x3x1024 .f32} {x4 : Vec Ideal S1x1024 .f32} {x12 : Vec Ideal S2x6144 .f32} {xs0 : Vec Ideal S8x528x128 .f32}
  {xs1 : Vec Ideal S8x520x128 .f32} {xs2 : Vec Ideal S1024x1024 .bf16} {xs3 : Vec Ideal S1024x5120 .bf16} {xs4 xs5 : Vec Ideal S1024x1024 .bf16}
  {c : Dev nD} {i : grid0.Coords} {hc0 : ¬cond0_0 i} {hc2 : cond0_2 i} {hc3 : ¬cond0_3 i}
  {arg2 : Memref sig .tc .vmem S1x512x1024 .f32} {harg2 : arg2.IsWhole}
  {arg3 : Memref sig .tc .vmem S1x1024 .f32} {harg3 : arg3.IsWhole}
  {arg4 : Memref sig .tc .vmem S1x1024 .f32} {harg4 : arg4.IsWhole}
  {arg5 : Memref sig .tc .vmem S1x3x1024 .f32} {harg5 : arg5.IsWhole}
  {arg6 : Memref sig .tc .vmem S1x1024 .f32} {harg6 : arg6.IsWhole}
  {arg7 : Memref sig .tc .vmem S2x1024 .f32} {harg7 : arg7.IsWhole}
  {arg8 : Memref sig .tc .vmem S1x6144 .f32} {harg8 : arg8.IsWhole}
  {arg9 : Memref sig .tc .vmem S4x256x256 .f32} {harg9 : arg9.IsWhole}
  {arg10 : Memref sig .tc .vmem S1x1024 .f32} {harg10 : arg10.IsWhole}
  {arg11 : Memref sig .tc .vmem S32x5632 .f32} {harg11 : arg11.IsWhole}
  {arg12 : Memref sig .tc .vmem S128x1024 .f32} {harg12 : arg12.IsWhole}
  {arg17 : Memref sig .tc .vmem S1x512x1024 .f32} {harg17 : arg17.IsWhole}
  {arg18 : Memref sig .tc .vmem S2x6144 .f32} {harg18 : arg18.IsWhole}
  {arg19 : Memref sig .tc .vmem S32x5632 .bf16} {harg19 : arg19.IsWhole}
  {arg20 : Memref sig .tc .vmem S128x1024 .bf16} {harg20 : arg20.IsWhole}
  {arg21 : Memref sig .tc .vmem S8x528x128 .f32} {harg21 : arg21.IsWhole}
  {arg22 : Memref sig .tc .vmem S8x520x128 .f32} {harg22 : arg22.IsWhole}
  {arg23 : Memref sig .tc .vmem S1024x1024 .bf16} {harg23 : arg23.IsWhole}
  {arg24 : Memref sig .tc .vmem S1024x5120 .bf16} {harg24 : arg24.IsWhole}
  {arg25 : Memref sig .tc .vmem S1024x1024 .bf16} {harg25 : arg25.IsWhole}
  {arg26 : Memref sig .tc .vmem S1024x1024 .bf16} {harg26 : arg26.IsWhole}
  (B : Blk I i s x0 x1 x2 x3 x4) (W : Wts I x12 xs2 xs3 xs4 xs5)

include B W in
theorem hid : ∀ (r : Fin 512) (d : Fin 1024), (mixRunB.sl.r_6 c i arg2 harg2 arg3 harg3 arg18 harg18 hc2 x0 x1 x12) (ix2 r d) = (I.hid (i 0).val (s + r.val) d.val : EReal) :=
  pay_hid (B.x _) (W.mdl0 _ (off4 i) rfl) (W.mdl _ 1024 (off5 i) rfl) (B.gpre _)

include B W in
theorem u : ∀ (r : Fin 512) (d : Fin 1024), (mixRunB.sl.r_7 c i arg2 harg2 arg3 harg3 arg18 harg18 arg23 harg23 hc2 x0 x1 x12 xs2) (ix2 r d) = (I.uu (i 0).val (s + r.val) d.val : EReal) :=
  pay_u (pay_hid0 I _ _ (B.x _) (W.mdl0 _ (off4 i) rfl) (W.mdl _ 1024 (off5 i) rfl) (B.gpre _)) (pay_hid1 I _ _ (B.x _) (W.mdl0 _ (off4 i) rfl) (W.mdl _ 1024 (off5 i) rfl) (B.gpre _)) (W.fold _) (W.fold _)

include B W in
theorem v : ∀ (r : Fin 512) (d : Fin 1024), (mixRunB.sl.r_9 c i arg2 harg2 arg3 harg3 arg18 harg18 arg24 harg24 hc2 x0 x1 x12 xs3) (ix2 r d) = (I.tt (i 0).val (s + r.val) d.val : EReal) :=
  pay_v (hid B W) (W.win _ 3072 rfl) (W.win _ 1024 rfl)

include B W in
theorem ub : ∀ (r : Fin 512) (d : Fin 1024), (mixRunB.sl.r_29 c i arg2 harg2 arg3 harg3 arg18 harg18 arg24 harg24 hc2 x0 x1 x12 xs3) (ix2 r d) = (I.pr (i 0).val (s + r.val) (2048 + d.val) : EReal) :=
  pay_ub (hid B W) (W.win _ 2048 rfl)

section
variable (hx0 : Old (N := 528) 16 (I.uu (i 0).val) s [] xs0) (hx1 : Old (N := 520) 8 (I.tt (i 0).val) s [] xs1)

include B W hx0 in
/-- Every slab's rows are stored. -/
theorem st0 : St 16 (I.uu (i 0).val) s arg21.view (harg21.unread xs0) [7, 6, 5, 4, 3, 2, 1, 0] [] (mixRunB.sl.HS0_8 c i arg2 harg2 arg3 harg3 arg18 harg18 arg23 harg23 hc2 x0 x1 x12 xs2) := by
  iterate 8 refine St.put rfl ?_ ?_
  · exact St.base (harg21.read_unread _) hx0
  all_goals refine put_of (h := ?_) (u B W) rfl
  all_goals decide

include B W hx1 in
theorem st1 : St 8 (I.tt (i 0).val) s arg22.view (harg22.unread xs1) [7, 6, 5, 4, 3, 2, 1, 0] [] (mixRunB.sl.HS1_8 c i arg2 harg2 arg3 harg3 arg18 harg18 arg24 harg24 hc2 x0 x1 x12 xs3) := by
  iterate 8 refine St.put rfl ?_ ?_
  · exact St.base (harg22.read_unread _) hx1
  all_goals refine put_of (h := ?_) (v B W) rfl
  all_goals decide

include B W hx0 in
theorem half : ∀ (r : Fin 512) (d : Fin 1024), (mixRunB.sl.r_28 c i arg2 harg2 arg3 harg3 arg18 harg18 arg21 harg21 arg23 harg23 hc2 x0 x1 x12 xs0 xs2) (ix2 r d) = ((1 / 2 * I.ya (i 0).val (s + r.val) d.val : ℝ) : EReal) := by
  refine pay_pool (pay_w2 (u B W) B.row B.low ?_ ?_) (pay_w4 (u B W) (pay_t1 B.row B.low) ?_ ?_ ?_ ?_ ?_ ?_)
    (pay_w8 (u B W) (pay_t1 B.row B.low) ?_ ?_ ?_ ?_ ?_ ?_ ?_ ?_)
    (pay_w16 (u B W) (pay_t1 B.row B.low) ?_ ?_ ?_ ?_ ?_ ?_ ?_ ?_ ?_ ?_ ?_ ?_ ?_ ?_ ?_ ?_)
  all_goals exact fun r l => (st0 B W hx0).load (by decide) (by decide) r l

include B W hx1 in
theorem v1 : ∀ (r : Fin 512) (d : Fin 1024), (mixRunB.sl.v340 c i arg2 harg2 arg3 harg3 arg18 harg18 arg22 harg22 arg24 harg24 hc2 x0 x1 x12 xs1 xs3) (ix2 r d) = (back 1 (fun s => I.tt (i 0).val s d.val) (s + r.val) : EReal) := by
  refine cat8 (g := fun r n => back 1 (fun s => I.tt (i 0).val s n) (s + r)) ?_ ?_ ?_ ?_ ?_ ?_ ?_ ?_
  all_goals exact ago 1 (st1 B W hx1) (by decide) (by decide) rfl

include B W hx1 in
theorem v2 : ∀ (r : Fin 512) (d : Fin 1024), (mixRunB.sl.v357 c i arg2 harg2 arg3 harg3 arg18 harg18 arg22 harg22 arg24 harg24 hc2 x0 x1 x12 xs1 xs3) (ix2 r d) = (back 2 (fun s => I.tt (i 0).val s d.val) (s + r.val) : EReal) := by
  refine cat8 (g := fun r n => back 2 (fun s => I.tt (i 0).val s n) (s + r)) ?_ ?_ ?_ ?_ ?_ ?_ ?_ ?_
  all_goals exact ago 2 (st1 B W hx1) (by decide) (by decide) rfl

include B W hx0 hx1 in
theorem merged : ∀ (r : Fin 512) (d : Fin 1024), (mixRunB.sl.r_36 c i arg2 harg2 arg3 harg3 arg5 harg5 arg6 harg6 arg18 harg18 arg21 harg21 arg22 harg22 arg23 harg23 arg24 harg24 arg25 harg25 hc2 x0 x1 x3 x4 x12 xs0 xs1 xs2 xs3 xs4) (ix2 r d) = (I.mg (i 0).val (s + r.val) d.val : EReal) :=
  pay_merge (hid B W) (v B W) (half B W hx0) (ub B W) (v1 B W hx1) (v2 B W hx1) (B.cw _) (B.cb _) (W.win _ 4096 rfl) (W.win _ 5120 rfl)
    (W.bout _)

variable {arg27 : Memref sig .tc .vmem S4x1024x512 .f32} {harg27 : arg27.IsWhole}
  {x5 : Vec Ideal S2x1024 .f32} {x6 : Vec Ideal S1x6144 .f32} {x7 : Vec Ideal S4x256x256 .f32} {x8 : Vec Ideal S1x1024 .f32} {x9 : Vec Ideal S32x5632 .f32}
  {x10 : Vec Ideal S128x1024 .f32} {fh0 fh1 : Vec Ideal S1024x6144 .f32} {fh2 fh3 : Vec Ideal S1024x1024 .f32}

include B W hx0 in
/-- Each slab's last rows are kept as its history. -/
theorem kept0 : St 16 (I.uu (i 0).val) s arg21.view (harg21.unread xs0) [7, 6, 5, 4, 3, 2, 1, 0] [7, 6, 5, 4, 3, 2, 1, 0]
    (mixRunB (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc2 hc3 x0 x1 x2 x3 x4 x5 x6 x7 x8 x9 x10 x12 xs0 xs1 xs2 xs3 xs4 xs5 fh0 fh1 fh2 fh3).2.2.2.1 := by
  iterate 8 refine St.keep16 ?_ (by decide)
  exact st0 B W hx0

include B W hx1 in
theorem kept1 : St 8 (I.tt (i 0).val) s arg22.view (harg22.unread xs1) [7, 6, 5, 4, 3, 2, 1, 0] [7, 6, 5, 4, 3, 2, 1, 0]
    (mixRunB (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc2 hc3 x0 x1 x2 x3 x4 x5 x6 x7 x8 x9 x10 x12 xs0 xs1 xs2 xs3 xs4 xs5 fh0 fh1 fh2 fh3).2.2.2.2.1 := by
  iterate 8 refine St.keep8 ?_ (by decide)
  exact st1 B W hx1

include B W hx0 hx1 in
/-- The block left of the mixed sequence. -/
theorem out (f : arg17.view.ty.Contents (Elt Ideal)) : ∀ (r : Fin 512) (d : Fin 1024), arg17.view.read (Elt Ideal) (arg17.view.writes (Elt Ideal) f
      (mixRunB (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc2 hc3 x0 x1 x2 x3 x4 x5 x6 x7 x8 x9 x10 x12 xs0 xs1 xs2 xs3 xs4 xs5 fh0 fh1 fh2 fh3).1) (ix3 0 r d) = (I.out (i 0).val (s + r.val) d.val : EReal) :=
  two (X := fun r d => I.out (i 0).val (s + r) d)
    (pay_out0 (B.x _) (W.mdl _ 2048 (off6 i) rfl) (B.gpost _) (pay_ff 0 (merged B W hx0 hx1) (W.o _)))
    (pay_out1 (B.x _) (W.mdl _ 2048 (off6 i) rfl) (B.gpost _) (merged B W hx0 hx1) (W.o _))
end

end Cert.Mix.RunB
-- ==== Proof.MixValC.lean ====
/- The mixer's run on a batch's first tile, whose history is zero. -/
module

public import proofs.«01_k».proof.Proof.MixTile
public import proofs.«01_k».proof.Proof.MixRunC
import all proofs.«01_k».proof.Proof.MixRunC

public section

set_option maxRecDepth 16384
set_option maxHeartbeats 2000000

noncomputable section

namespace Cert.Mix.RunC

open Idealize.ShloMosaic Cert.RealKit Cert.KernelIdeal Cert.KernelIdeal.Gen

variable {I : In} {s : ℕ} {x0 : Vec Ideal S1x512x1024 .f32} {x1 x2 : Vec Ideal S1x1024 .f32}
  {x3 : Vec Ideal S1x3x1024 .f32} {x4 : Vec Ideal S1x1024 .f32} {x12 : Vec Ideal S2x6144 .f32} {xs0 : Vec Ideal S8x528x128 .f32}
  {xs1 : Vec Ideal S8x520x128 .f32} {xs2 : Vec Ideal S1024x1024 .bf16} {xs3 : Vec Ideal S1024x5120 .bf16} {xs4 xs5 : Vec Ideal S1024x1024 .bf16}
  {c : Dev nD} {i : grid0.Coords} {hc0 : ¬cond0_0 i} {hc2 : cond0_2 i} {hc3 : cond0_3 i}
  {arg2 : Memref sig .tc .vmem S1x512x1024 .f32} {harg2 : arg2.IsWhole}
  {arg3 : Memref sig .tc .vmem S1x1024 .f32} {harg3 : arg3.IsWhole}
  {arg4 : Memref sig .tc .vmem S1x1024 .f32} {harg4 : arg4.IsWhole}
  {arg5 : Memref sig .tc .vmem S1x3x1024 .f32} {harg5 : arg5.IsWhole}
  {arg6 : Memref sig .tc .vmem S1x1024 .f32} {harg6 : arg6.IsWhole}
  {arg7 : Memref sig .tc .vmem S2x1024 .f32} {harg7 : arg7.IsWhole}
  {arg8 : Memref sig .tc .vmem S1x6144 .f32} {harg8 : arg8.IsWhole}
  {arg9 : Memref sig .tc .vmem S4x256x256 .f32} {harg9 : arg9.IsWhole}
  {arg10 : Memref sig .tc .vmem S1x1024 .f32} {harg10 : arg10.IsWhole}
  {arg11 : Memref sig .tc .vmem S32x5632 .f32} {harg11 : arg11.IsWhole}
  {arg12 : Memref sig .tc .vmem S128x1024 .f32} {harg12 : arg12.IsWhole}
  {arg17 : Memref sig .tc .vmem S1x512x1024 .f32} {harg17 : arg17.IsWhole}
  {arg18 : Memref sig .tc .vmem S2x6144 .f32} {harg18 : arg18.IsWhole}
  {arg19 : Memref sig .tc .vmem S32x5632 .bf16} {harg19 : arg19.IsWhole}
  {arg20 : Memref sig .tc .vmem S128x1024 .bf16} {harg20 : arg20.IsWhole}
  {arg21 : Memref sig .tc .vmem S8x528x128 .f32} {harg21 : arg21.IsWhole}
  {arg22 : Memref sig .tc .vmem S8x520x128 .f32} {harg22 : arg22.IsWhole}
  {arg23 : Memref sig .tc .vmem S1024x1024 .bf16} {harg23 : arg23.IsWhole}
  {arg24 : Memref sig .tc .vmem S1024x5120 .bf16} {harg24 : arg24.IsWhole}
  {arg25 : Memref sig .tc .vmem S1024x1024 .bf16} {harg25 : arg25.IsWhole}
  {arg26 : Memref sig .tc .vmem S1024x1024 .bf16} {harg26 : arg26.IsWhole}
  (B : Blk I i s x0 x1 x2 x3 x4) (W : Wts I x12 xs2 xs3 xs4 xs5)

include B W in
theorem hid : ∀ (r : Fin 512) (d : Fin 1024), (mixRunC.sl.r_6 c i arg2 harg2 arg3 harg3 arg18 harg18 hc2 x0 x1 x12) (ix2 r d) = (I.hid (i 0).val (s + r.val) d.val : EReal) :=
  pay_hid (B.x _) (W.mdl0 _ (off4 i) rfl) (W.mdl _ 1024 (off5 i) rfl) (B.gpre _)

include B W in
theorem u : ∀ (r : Fin 512) (d : Fin 1024), (mixRunC.sl.r_7 c i arg2 harg2 arg3 harg3 arg18 harg18 arg23 harg23 hc2 x0 x1 x12 xs2) (ix2 r d) = (I.uu (i 0).val (s + r.val) d.val : EReal) :=
  pay_u (pay_hid0 I _ _ (B.x _) (W.mdl0 _ (off4 i) rfl) (W.mdl _ 1024 (off5 i) rfl) (B.gpre _)) (pay_hid1 I _ _ (B.x _) (W.mdl0 _ (off4 i) rfl) (W.mdl _ 1024 (off5 i) rfl) (B.gpre _)) (W.fold _) (W.fold _)

include B W in
theorem v : ∀ (r : Fin 512) (d : Fin 1024), (mixRunC.sl.r_9 c i arg2 harg2 arg3 harg3 arg18 harg18 arg24 harg24 hc2 x0 x1 x12 xs3) (ix2 r d) = (I.tt (i 0).val (s + r.val) d.val : EReal) :=
  pay_v (hid B W) (W.win _ 3072 rfl) (W.win _ 1024 rfl)

include B W in
theorem ub : ∀ (r : Fin 512) (d : Fin 1024), (mixRunC.sl.r_29 c i arg2 harg2 arg3 harg3 arg18 harg18 arg24 harg24 hc2 x0 x1 x12 xs3) (ix2 r d) = (I.pr (i 0).val (s + r.val) (2048 + d.val) : EReal) :=
  pay_ub (hid B W) (W.win _ 2048 rfl)

section
variable (hs0 : s = 0)

include B W hs0 in
/-- Every slab's rows are stored. -/
theorem st0 : St 16 (I.uu (i 0).val) s arg21.view arg21.view.junk [7, 6, 5, 4, 3, 2, 1, 0] [] (mixRunC.sl.HS0_9 c i arg2 harg2 arg3 harg3 arg18 harg18 arg23 harg23 hc2 x0 x1 x12 xs2) := by
  iterate 8 refine St.put rfl ?_ ?_
  · exact St.zero zero16 hs0
  all_goals refine put_of (h := ?_) (u B W) rfl
  all_goals decide

include B W hs0 in
theorem st1 : St 8 (I.tt (i 0).val) s arg22.view arg22.view.junk [7, 6, 5, 4, 3, 2, 1, 0] [] (mixRunC.sl.HS1_9 c i arg2 harg2 arg3 harg3 arg18 harg18 arg24 harg24 hc2 x0 x1 x12 xs3) := by
  iterate 8 refine St.put rfl ?_ ?_
  · exact St.zero zero8 hs0
  all_goals refine put_of (h := ?_) (v B W) rfl
  all_goals decide

include B W hs0 in
theorem half : ∀ (r : Fin 512) (d : Fin 1024), (mixRunC.sl.r_28 c i arg2 harg2 arg3 harg3 arg18 harg18 arg21 arg23 harg23 hc2 x0 x1 x12 xs2) (ix2 r d) = ((1 / 2 * I.ya (i 0).val (s + r.val) d.val : ℝ) : EReal) := by
  refine pay_pool (pay_w2 (u B W) B.row B.low ?_ ?_) (pay_w4 (u B W) (pay_t1 B.row B.low) ?_ ?_ ?_ ?_ ?_ ?_)
    (pay_w8 (u B W) (pay_t1 B.row B.low) ?_ ?_ ?_ ?_ ?_ ?_ ?_ ?_)
    (pay_w16 (u B W) (pay_t1 B.row B.low) ?_ ?_ ?_ ?_ ?_ ?_ ?_ ?_ ?_ ?_ ?_ ?_ ?_ ?_ ?_ ?_)
  all_goals exact fun r l => (st0 B W hs0).load (by decide) (by decide) r l

include B W hs0 in
theorem v1 : ∀ (r : Fin 512) (d : Fin 1024), (mixRunC.sl.v340 c i arg2 harg2 arg3 harg3 arg18 harg18 arg22 arg24 harg24 hc2 x0 x1 x12 xs3) (ix2 r d) = (back 1 (fun s => I.tt (i 0).val s d.val) (s + r.val) : EReal) := by
  refine cat8 (g := fun r n => back 1 (fun s => I.tt (i 0).val s n) (s + r)) ?_ ?_ ?_ ?_ ?_ ?_ ?_ ?_
  all_goals exact ago 1 (st1 B W hs0) (by decide) (by decide) rfl

include B W hs0 in
theorem v2 : ∀ (r : Fin 512) (d : Fin 1024), (mixRunC.sl.v357 c i arg2 harg2 arg3 harg3 arg18 harg18 arg22 arg24 harg24 hc2 x0 x1 x12 xs3) (ix2 r d) = (back 2 (fun s => I.tt (i 0).val s d.val) (s + r.val) : EReal) := by
  refine cat8 (g := fun r n => back 2 (fun s => I.tt (i 0).val s n) (s + r)) ?_ ?_ ?_ ?_ ?_ ?_ ?_ ?_
  all_goals exact ago 2 (st1 B W hs0) (by decide) (by decide) rfl

include B W hs0 in
theorem merged : ∀ (r : Fin 512) (d : Fin 1024), (mixRunC.sl.r_36 c i arg2 harg2 arg3 harg3 arg5 harg5 arg6 harg6 arg18 harg18 arg21 arg22 arg23 harg23 arg24 harg24 arg25 harg25 hc2 x0 x1 x3 x4 x12 xs2 xs3 xs4) (ix2 r d) = (I.mg (i 0).val (s + r.val) d.val : EReal) :=
  pay_merge (hid B W) (v B W) (half B W hs0) (ub B W) (v1 B W hs0) (v2 B W hs0) (B.cw _) (B.cb _) (W.win _ 4096 rfl) (W.win _ 5120 rfl)
    (W.bout _)

variable {arg27 : Memref sig .tc .vmem S4x1024x512 .f32} {harg27 : arg27.IsWhole}
  {x5 : Vec Ideal S2x1024 .f32} {x6 : Vec Ideal S1x6144 .f32} {x7 : Vec Ideal S4x256x256 .f32} {x8 : Vec Ideal S1x1024 .f32} {x9 : Vec Ideal S32x5632 .f32}
  {x10 : Vec Ideal S128x1024 .f32} {fh0 fh1 : Vec Ideal S1024x6144 .f32} {fh2 fh3 : Vec Ideal S1024x1024 .f32}

include B W hs0 in
/-- Each slab's last rows are kept as its history. -/
theorem kept0 : St 16 (I.uu (i 0).val) s arg21.view arg21.view.junk [7, 6, 5, 4, 3, 2, 1, 0] [7, 6, 5, 4, 3, 2, 1, 0]
    (mixRunC (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc2 hc3 x0 x1 x2 x3 x4 x5 x6 x7 x8 x9 x10 x12 xs0 xs1 xs2 xs3 xs4 xs5 fh0 fh1 fh2 fh3).2.2.2.1 := by
  iterate 8 refine St.keep16 ?_ (by decide)
  exact st0 B W hs0

include B W hs0 in
theorem kept1 : St 8 (I.tt (i 0).val) s arg22.view arg22.view.junk [7, 6, 5, 4, 3, 2, 1, 0] [7, 6, 5, 4, 3, 2, 1, 0]
    (mixRunC (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc2 hc3 x0 x1 x2 x3 x4 x5 x6 x7 x8 x9 x10 x12 xs0 xs1 xs2 xs3 xs4 xs5 fh0 fh1 fh2 fh3).2.2.2.2.1 := by
  iterate 8 refine St.keep8 ?_ (by decide)
  exact st1 B W hs0

include B W hs0 in
/-- The block left of the mixed sequence. -/
theorem out (f : arg17.view.ty.Contents (Elt Ideal)) : ∀ (r : Fin 512) (d : Fin 1024), arg17.view.read (Elt Ideal) (arg17.view.writes (Elt Ideal) f
      (mixRunC (F := Ideal) c i arg2 harg2 arg3 harg3 arg4 harg4 arg5 harg5 arg6 harg6 arg7 harg7 arg8 harg8 arg9 harg9 arg10 harg10 arg11 harg11 arg12 harg12 arg17 harg17 arg18 harg18 arg19 harg19 arg20 harg20 arg21 harg21 arg22 harg22 arg23 harg23 arg24 harg24 arg25 harg25 arg26 harg26 arg27 harg27 hc0 hc2 hc3 x0 x1 x2 x3 x4 x5 x6 x7 x8 x9 x10 x12 xs0 xs1 xs2 xs3 xs4 xs5 fh0 fh1 fh2 fh3).1) (ix3 0 r d) = (I.out (i 0).val (s + r.val) d.val : EReal) :=
  two (X := fun r d => I.out (i 0).val (s + r) d)
    (pay_out0 (B.x _) (W.mdl _ 2048 (off6 i) rfl) (B.gpost _) (pay_ff 0 (merged B W hs0) (W.o _)))
    (pay_out1 (B.x _) (W.mdl _ 2048 (off6 i) rfl) (B.gpost _) (merged B W hs0) (W.o _))
end

end Cert.Mix.RunC
-- ==== Proof.MixStep.lean ====
/- What each tile of the mixer leaves, from what the one before it left. -/
module

public import proofs.«01_k».proof.Proof.MixBlk
public import proofs.«01_k».proof.Proof.MixCore
public import proofs.«01_k».proof.Proof.MixValA2
public import proofs.«01_k».proof.Proof.MixValB
public import proofs.«01_k».proof.Proof.MixValC

@[expose] public section

set_option maxRecDepth 16384
set_option maxHeartbeats 2000000

noncomputable section

namespace Cert.Mix

open Idealize.ShloMosaic Idealize.ShloMosaic.TcCoe Idealize.SL.Sem Cert.RealKit Cert.KernelIdeal Cert.KernelIdeal.Gen

/-- The rows of the mixed sequence that point `n` leaves. -/
def rowsOut (I : In) (n : ℕ) : Vec Ideal S1x512x1024 .f32 := fun y => (I.out (n / 16) (512 * (n % 16) + (y 1).val) (y 2).val : EReal)

/-- The modulation. -/
def modOut (I : In) : Vec Ideal S2x6144 .f32 := fun y => (I.md (y 0).val (y 1).val : EReal)

/-- What stands before point `n`: after the first point the weights, and within a batch the last rows of the tile before. -/
def Inv (I : In) (n : ℕ) (s0 : Vec Ideal S8x528x128 .f32) (s1 : Vec Ideal S8x520x128 .f32) (s2 : Vec Ideal S1024x1024 .bf16) (s3 : Vec Ideal S1024x5120 .bf16) (s4 : Vec Ideal S1024x1024 .bf16) (s5 : Vec Ideal S1024x1024 .bf16) : Prop :=
  n ≠ 0 → Wts I (modOut I) s2 s3 s4 s5
    ∧ (n % 16 ≠ 0 → Old (N := 528) 16 (I.uu (n / 16)) (512 * (n % 16)) [] s0 ∧ Old (N := 520) 8 (I.tt (n / 16)) (512 * (n % 16)) [] s1)

theorem rows_ext {I : In} {n k : ℕ} {X : Vec Ideal S1x512x1024 .f32} (e : k = n / 16)
    (h : ∀ (r : Fin 512) (d : Fin 1024), X (ix3 0 r d) = (I.out k (512 * (n % 16) + r.val) d.val : EReal)) : X = rowsOut I n := by
  subst e
  funext y
  have e0 : y = ix3 0 (y 1) (y 2) := by
    rw [← ix3_eta y]
    exact congrArg (fun a => ix3 a (y 1) (y 2)) (Subsingleton.elim (α := Fin 1) (y 0) 0)
  rw [e0]
  exact h (y 1) (y 2)

theorem mod_ext {I : In} {X : Vec Ideal S2x6144 .f32} {s2 : Vec Ideal S1024x1024 .bf16} {s3 : Vec Ideal S1024x5120 .bf16} {s4 s5 : Vec Ideal S1024x1024 .bf16}
    (W : Wts I X s2 s3 s4 s5) : X = modOut I := by
  funext y
  rw [← ix2_eta y]
  exact W.md (y 0) (y 1)

/-- The rows a tile keeps are the history of the one after it. -/
theorem old_next {N h n k : ℕ} {f : ℕ → ℕ → ℕ → ℝ} {sp : Space} {v : View sig .tc sp (Slab N) .f32} {b : v.ty.Contents (Elt Ideal)}
    {U H : List ℕ} {L : List (View.Piece (Elt Ideal) (Slab N) .f32)} (e : k = n / 16) (S : St h (f k) (512 * (n % 16)) v b U H L)
    (hH : ∀ a < 8, a ∈ H) (hn : (n + 1) % 16 ≠ 0) (b' : v.ty.Contents (Elt Ideal)) :
    Old (N := N) h (f ((n + 1) / 16)) (512 * ((n + 1) % 16)) [] (v.read (Elt Ideal) (v.writes (Elt Ideal) b' L)) := by
  subst e
  rw [show (n + 1) / 16 = n / 16 by omega, show 512 * ((n + 1) % 16) = 512 * (n % 16) + 512 by omega]
  exact fun a r l hr _ => S.kept b' a r l hr (hH a.val a.isLt)

variable {m : (ℓ : Loc nD τ sig) → Buf (Elt Ideal) ℓ} {c : Dev nD} {I : In} (H : HoldsAt m c I) (t : Fin cfg0.N)
  {X11 : Vec Ideal S1x512x1024 .f32} {X12 : Vec Ideal S2x6144 .f32} {X13 : Vec Ideal S32x5632 .bf16} {X14 : Vec Ideal S128x1024 .bf16}
  {S0 : Vec Ideal S8x528x128 .f32} {S1 : Vec Ideal S8x520x128 .f32} {S2 : Vec Ideal S1024x1024 .bf16} {S3 : Vec Ideal S1024x5120 .bf16} {S4 : Vec Ideal S1024x1024 .bf16} {S5 : Vec Ideal S1024x1024 .bf16}
include H

theorem stepA (h0 : t.val % 32 = 0) (h1 : t.val % 16 = 0) (h2 : ¬1 ≤ t.val) {xs6 : Vec Ideal S4x1024x512 .f32}
    (h : StepA m c t h0 h1 h2 xs6 X11 X12 X13 X14 S0 S1 S2 S3 S4 S5) :
    X11 = rowsOut I t.val ∧ X12 = modOut I ∧ Inv I (t.val + 1) S0 S1 S2 S3 S4 S5 := by
  obtain ⟨⟨f, rfl⟩, ⟨f12, rfl⟩, -, -, ⟨f0, rfl⟩, ⟨f1, rfl⟩, ⟨f2, rfl⟩, ⟨f3, rfl⟩, ⟨f4, rfl⟩, ⟨f5, rfl⟩⟩ := h
  have B := blk H t
  have R := raw H t
  have hs0 : 512 * (t.val % 16) = 0 := by omega
  have W := RunA.left (xs6 := xs6) (x9 := iblk m c 9 t) (x10 := iblk m c 10 t) (c := c) (i := grid0.coords t) (hc0 := (hcond0_0 t).mpr h0)
    (hc1 := (hcond0_1 t).mpr h1) (hc2 := fun h => h2 ((hcond0_2 t).mp h)) (harg2 := hs0_0 t) (harg3 := hs0_1 t) (harg4 := hs0_2 t) (harg5 := hs0_3 t) (harg6 := hs0_4 t)
    (harg7 := hs0_5 t) (harg8 := hs0_6 t) (harg9 := hs0_7 t) (harg10 := hs0_8 t) (harg11 := hs0_9 t) (harg12 := hs0_10 t) (harg17 := hs0_11 t) (harg18 := hs0_12 t)
    (harg19 := hs0_13 t) (harg20 := hs0_14 t) (harg21 := (Memref.isWhole_whole _ : scM0_0.IsWhole)) (harg22 := (Memref.isWhole_whole _ : scM0_1.IsWhole))
    (harg23 := (Memref.isWhole_whole _ : scM0_2.IsWhole)) (harg24 := (Memref.isWhole_whole _ : scM0_3.IsWhole)) (harg25 := (Memref.isWhole_whole _ : scM0_4.IsWhole))
    (harg26 := (Memref.isWhole_whole _ : scM0_5.IsWhole)) (harg27 := (Memref.isWhole_whole _ : scM0_6.IsWhole)) (x0 := iblk m c 0 t) (x1 := iblk m c 1 t)
    (x2 := iblk m c 2 t) (x3 := iblk m c 3 t) (x4 := iblk m c 4 t) R f12 f2 f3 f4 f5
  exact ⟨rows_ext (coord0 t) (RunA.out B R hs0 f), mod_ext W, fun _ => ⟨⟨fun _ _ => rfl, W.wf, W.w, W.wb, W.wo⟩,
    fun hn => ⟨old_next (f := I.uu) (coord0 t) (RunA.kept0 B R hs0) (by decide) hn f0, old_next (f := I.tt) (coord0 t) (RunA.kept1 B R hs0) (by decide) hn f1⟩⟩⟩

theorem stepB (h0 : ¬t.val % 32 = 0) (h2 : 1 ≤ t.val) (h3 : ¬t.val % 16 = 0) {x12 : Vec Ideal S2x6144 .f32} {s0 : Vec Ideal S8x528x128 .f32} {s1 : Vec Ideal S8x520x128 .f32} {s2 : Vec Ideal S1024x1024 .bf16} {s3 : Vec Ideal S1024x5120 .bf16} {s4 : Vec Ideal S1024x1024 .bf16} {s5 : Vec Ideal S1024x1024 .bf16}
    (hx : t.val ≠ 0 → x12 = modOut I) (hI : Inv I t.val s0 s1 s2 s3 s4 s5) (h : StepB m c t h0 h2 h3 x12 s0 s1 s2 s3 s4 s5 X11 X12 X13 X14 S0 S1 S2 S3 S4 S5) :
    X11 = rowsOut I t.val ∧ X12 = modOut I ∧ Inv I (t.val + 1) S0 S1 S2 S3 S4 S5 := by
  obtain ⟨⟨f, rfl⟩, -, -, rfl, rfl, rfl, rfl, rfl, rfl, rfl⟩ := h
  obtain rfl := hx (by omega)
  obtain ⟨W, hO⟩ := hI (by omega)
  obtain ⟨o0, o1⟩ := hO h3
  have B := blk H t
  rw [← coord0 t] at o0 o1
  exact ⟨rows_ext (coord0 t) (RunB.out B W o0 o1 f), rfl, fun _ => ⟨W,
    fun hn => ⟨old_next (f := I.uu) (coord0 t) (RunB.kept0 B W o0) (by decide) hn _, old_next (f := I.tt) (coord0 t) (RunB.kept1 B W o1) (by decide) hn _⟩⟩⟩

theorem stepC (h0 : ¬t.val % 32 = 0) (h2 : 1 ≤ t.val) (h3 : t.val % 16 = 0) {x12 : Vec Ideal S2x6144 .f32} {s0 : Vec Ideal S8x528x128 .f32} {s1 : Vec Ideal S8x520x128 .f32} {s2 : Vec Ideal S1024x1024 .bf16} {s3 : Vec Ideal S1024x5120 .bf16} {s4 : Vec Ideal S1024x1024 .bf16} {s5 : Vec Ideal S1024x1024 .bf16}
    (hx : t.val ≠ 0 → x12 = modOut I) (hI : Inv I t.val s0 s1 s2 s3 s4 s5) (h : StepC m c t h0 h2 h3 x12 s0 s1 s2 s3 s4 s5 X11 X12 X13 X14 S0 S1 S2 S3 S4 S5) :
    X11 = rowsOut I t.val ∧ X12 = modOut I ∧ Inv I (t.val + 1) S0 S1 S2 S3 S4 S5 := by
  obtain ⟨⟨f, rfl⟩, -, -, rfl, rfl, rfl, rfl, rfl, rfl, rfl⟩ := h
  obtain rfl := hx (by omega)
  obtain ⟨W, -⟩ := hI (by omega)
  have B := blk H t
  have hs0 : 512 * (t.val % 16) = 0 := by omega
  exact ⟨rows_ext (coord0 t) (RunC.out B W hs0 f), rfl, fun _ => ⟨W,
    fun hn => ⟨old_next (f := I.uu) (coord0 t) (RunC.kept0 B W hs0) (by decide) hn _, old_next (f := I.tt) (coord0 t) (RunC.kept1 B W hs0) (by decide) hn _⟩⟩⟩

end Cert.Mix
-- ==== Proof.MixValF.lean ====
/- The mixer's run with the values it leaves. -/
module

public import proofs.«01_k».proof.Proof.MixStep
public import Idealize.ShloMosaic.Lib.Claim

@[expose] public section

set_option maxRecDepth 16384

noncomputable section

namespace Cert.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The two outputs whose contents the run leaves unsaid: the rounded copies of the feed-forward weights. -/
def forgets : Fin 15 → Bool := fun w => w.val == 13 || w.val == 14

/-- What stands between the points: the scratch as `Inv` says, the counters clear and the arrays in place. -/
def Phi (I : In) (c : Dev nD) (n : ℕ) : sProp 𝕄 :=
  iprop(iprop(∃ s0, ∃ s1, ∃ s2, ∃ s3, ∃ s4, ∃ s5, ⌜Inv I n s0 s1 s2 s3 s4 s5⌝ ∗ owns (c : Thread nD τ) scM0_0 fullShare s0 ∗ owns (c : Thread nD τ) scM0_1 fullShare s1 ∗ owns (c : Thread nD τ) scM0_2 fullShare s2 ∗ owns (c : Thread nD τ) scM0_3 fullShare s3 ∗ owns (c : Thread nD τ) scM0_4 fullShare s4 ∗ owns (c : Thread nD τ) scM0_5 fullShare s5 ∗ (∃ d, owns (c : Thread nD τ) scM0_6 fullShare d)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0) ∗ iprop(hbPt0 c hbM0_0 (V m c main_v0) ∗ hbPt0 c hbM0_1 (V m c main_v4) ∗ hbPt0 c hbM0_2 (V m c main_v8) ∗ hbPt0 c hbM0_3 (V m c main_v9)))

set_option maxHeartbeats 24000000 in
/-- The body at any point, from what stands before it. -/
theorem core (I : In) (c : Dev nD) (H : HoldsAt m c I) (t : Fin cfg0.N) (x12 : Vec Ideal S2x6144 .f32) (s0 : Vec Ideal S8x528x128 .f32) (s1 : Vec Ideal S8x520x128 .f32) (s2 : Vec Ideal S1024x1024 .bf16) (s3 : Vec Ideal S1024x5120 .bf16) (s4 : Vec Ideal S1024x1024 .bf16) (s5 : Vec Ideal S1024x1024 .bf16)
    (hx : t.val ≠ 0 → x12 = modOut I) (hI : Inv I t.val s0 s1 s2 s3 s4 s5) (W : Waits sig Unit) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ (∃ d, owns (c : Thread nD τ) (ms0_11 t) fullShare d) ∗ owns (c : Thread nD τ) (ms0_12 t) fullShare x12 ∗ (∃ d, owns (c : Thread nD τ) (ms0_13 t) fullShare d) ∗ (∃ d, owns (c : Thread nD τ) (ms0_14 t) fullShare d) ∗ owns (c : Thread nD τ) scM0_0 fullShare s0 ∗ owns (c : Thread nD τ) scM0_1 fullShare s1 ∗ owns (c : Thread nD τ) scM0_2 fullShare s2 ∗ owns (c : Thread nD τ) scM0_3 fullShare s3 ∗ owns (c : Thread nD τ) scM0_4 fullShare s4 ∗ owns (c : Thread nD τ) scM0_5 fullShare s5 ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ owes (c : Thread nD τ) 0 W)
      ⊢ wp frame (wpE (defs₀ (F := Ideal)) Variants.none c none) Set.univ (bodyAt0 t) (fun _ => iprop(∃ X13, ∃ X14, ∃ S0, ∃ S1, ∃ S2, ∃ S3, ∃ S4, ∃ S5, ⌜Inv I (t.val + 1) S0 S1 S2 S3 S4 S5⌝ ∗owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (rowsOut I t.val) ∗ owns (c : Thread nD τ) (ms0_12 t) fullShare (modOut I) ∗ owns (c : Thread nD τ) (ms0_13 t) fullShare X13 ∗ owns (c : Thread nD τ) (ms0_14 t) fullShare X14 ∗ owns (c : Thread nD τ) scM0_0 fullShare S0 ∗ owns (c : Thread nD τ) scM0_1 fullShare S1 ∗ owns (c : Thread nD τ) scM0_2 fullShare S2 ∗ owns (c : Thread nD τ) scM0_3 fullShare S3 ∗ owns (c : Thread nD τ) scM0_4 fullShare S4 ∗ owns (c : Thread nD τ) scM0_5 fullShare S5 ∗ (∃ d, owns (c : Thread nD τ) scM0_6 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ hbPt0 c hbM0_0 (V m c main_v0) ∗ hbPt0 c hbM0_1 (V m c main_v4) ∗ hbPt0 c hbM0_2 (V m c main_v8) ∗ hbPt0 c hbM0_3 (V m c main_v9) ∗ (∃ W', owes (c : Thread nD τ) 0 W'))) := by
  have hN : t.val < 32 := point_lt t
  by_cases h0 : t.val % 32 = 0
  · have h1 : t.val % 16 = 0 := by omega
    have h2 : ¬1 ≤ t.val := by omega
    refine triple_restated (coreA m c t h0 h1 h2 W) rfl ?_ fun _ => ?_
    · iintro ⟨I0, I1, I2, I3, I4, I5, I6, I7, I8, I9, I10, O11, O12, O13, O14, S0, S1, S2, S3, S4, S5, S6, Q0, Q1, Q2, Q3, B0, B1, B2, B3, HW⟩
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [O11]; · iexact O11
      isplitl [O12]; · iexists _; iexact O12
      isplitl [O13]; · iexact O13
      isplitl [O14]; · iexact O14
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexact S6
      isplitl [Q0]; · iexact Q0
      isplitl [Q1]; · iexact Q1
      isplitl [Q2]; · iexact Q2
      isplitl [Q3]; · iexact Q3
      isplitl [B0]; · iexact B0
      isplitl [B1]; · iexact B1
      isplitl [B2]; · iexact B2
      isplitl [B3]; · iexact B3
      iexact HW
    iintro ⟨%xs6, %X11, %X12, %X13, %X14, %S0, %S1, %S2, %S3, %S4, %S5, %h, HH⟩
    obtain ⟨rfl, rfl, hJ⟩ := stepA H t h0 h1 h2 h
    iexists X13; iexists X14; iexists S0; iexists S1; iexists S2; iexists S3; iexists S4; iexists S5
    isplitr; · ipureintro; exact hJ
    iexact HH
  have h2 : 1 ≤ t.val := by omega
  by_cases h3 : t.val % 16 = 0
  · refine triple_restated (coreC m c t h0 h2 h3 x12 s0 s1 s2 s3 s4 s5 W) rfl .rfl fun _ => ?_
    iintro ⟨%X11, %X12, %X13, %X14, %S0, %S1, %S2, %S3, %S4, %S5, %h, HH⟩
    obtain ⟨rfl, rfl, hJ⟩ := stepC H t h0 h2 h3 hx hI h
    iexists X13; iexists X14; iexists S0; iexists S1; iexists S2; iexists S3; iexists S4; iexists S5
    isplitr; · ipureintro; exact hJ
    iexact HH
  · refine triple_restated (coreB m c t h0 h2 h3 x12 s0 s1 s2 s3 s4 s5 W) rfl .rfl fun _ => ?_
    iintro ⟨%X11, %X12, %X13, %X14, %S0, %S1, %S2, %S3, %S4, %S5, %h, HH⟩
    obtain ⟨rfl, rfl, hJ⟩ := stepB H t h0 h2 h3 hx hI h
    iexists X13; iexists X14; iexists S0; iexists S1; iexists S2; iexists S3; iexists S4; iexists S5
    isplitr; · ipureintro; exact hJ
    iexact HH

/-- The pipeline's data: each input's buffer at its block, the sequence's rows and the modulation as they are left. -/
def dats (I : In) (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => rowsOut I t.val
    | ⟨12, _⟩ => modOut I
    | ⟨13, h⟩ => Pipeline.Dat.unnamed (cfg := cfg0) ⟨13, h⟩ t
    | ⟨14, h⟩ => Pipeline.Dat.unnamed (cfg := cfg0) ⟨14, h⟩ t
  Φ n := Phi m I c n.val
  q _ := fullShare
  owed _ := 0

variable (I : In)

theorem A_eq (c : Dev nD) (w : Fin cfg0.W) : (dats m I 0 c).A w = V m c (Pipeline.arrRef spec0 w) := by
  dsimp only [dats]

theorem after_0 (c : Dev nD) (t : Fin cfg0.N) : (dats m I 0 c).after 0 t = iblk m c 0 t := by dsimp only [dats]
theorem after_1 (c : Dev nD) (t : Fin cfg0.N) : (dats m I 0 c).after 1 t = iblk m c 1 t := by dsimp only [dats]
theorem after_2 (c : Dev nD) (t : Fin cfg0.N) : (dats m I 0 c).after 2 t = iblk m c 2 t := by dsimp only [dats]
theorem after_3 (c : Dev nD) (t : Fin cfg0.N) : (dats m I 0 c).after 3 t = iblk m c 3 t := by dsimp only [dats]
theorem after_4 (c : Dev nD) (t : Fin cfg0.N) : (dats m I 0 c).after 4 t = iblk m c 4 t := by dsimp only [dats]
theorem after_5 (c : Dev nD) (t : Fin cfg0.N) : (dats m I 0 c).after 5 t = iblk m c 5 t := by dsimp only [dats]
theorem after_6 (c : Dev nD) (t : Fin cfg0.N) : (dats m I 0 c).after 6 t = iblk m c 6 t := by dsimp only [dats]
theorem after_7 (c : Dev nD) (t : Fin cfg0.N) : (dats m I 0 c).after 7 t = iblk m c 7 t := by dsimp only [dats]
theorem after_8 (c : Dev nD) (t : Fin cfg0.N) : (dats m I 0 c).after 8 t = iblk m c 8 t := by dsimp only [dats]
theorem after_9 (c : Dev nD) (t : Fin cfg0.N) : (dats m I 0 c).after 9 t = iblk m c 9 t := by dsimp only [dats]
theorem after_10 (c : Dev nD) (t : Fin cfg0.N) : (dats m I 0 c).after 10 t = iblk m c 10 t := by dsimp only [dats]
theorem after_11 (c : Dev nD) (t : Fin cfg0.N) : (dats m I 0 c).after 11 t = rowsOut I t.val := by dsimp only [dats]
theorem after_12 (c : Dev nD) (t : Fin cfg0.N) : (dats m I 0 c).after 12 t = modOut I := by dsimp only [dats]

theorem before_0 (c : Dev nD) (t : Fin cfg0.N) (d) : (dats m I 0 c).before 0 t d = iblk m c 0 t :=
  before0_0_of m (dats m I 0 c) (A_eq m I c 0) (after_0 m I c) t d
theorem before_1 (c : Dev nD) (t : Fin cfg0.N) (d) : (dats m I 0 c).before 1 t d = iblk m c 1 t :=
  before0_1_of m (dats m I 0 c) (A_eq m I c 1) (after_1 m I c) t d
theorem before_2 (c : Dev nD) (t : Fin cfg0.N) (d) : (dats m I 0 c).before 2 t d = iblk m c 2 t :=
  before0_2_of m (dats m I 0 c) (A_eq m I c 2) (after_2 m I c) t d
theorem before_3 (c : Dev nD) (t : Fin cfg0.N) (d) : (dats m I 0 c).before 3 t d = iblk m c 3 t :=
  before0_3_of m (dats m I 0 c) (A_eq m I c 3) (after_3 m I c) t d
theorem before_4 (c : Dev nD) (t : Fin cfg0.N) (d) : (dats m I 0 c).before 4 t d = iblk m c 4 t :=
  before0_4_of m (dats m I 0 c) (A_eq m I c 4) (after_4 m I c) t d
theorem before_5 (c : Dev nD) (t : Fin cfg0.N) (d) : (dats m I 0 c).before 5 t d = iblk m c 5 t :=
  before0_5_of m (dats m I 0 c) (A_eq m I c 5) (after_5 m I c) t d
theorem before_6 (c : Dev nD) (t : Fin cfg0.N) (d) : (dats m I 0 c).before 6 t d = iblk m c 6 t :=
  before0_6_of m (dats m I 0 c) (A_eq m I c 6) (after_6 m I c) t d
theorem before_7 (c : Dev nD) (t : Fin cfg0.N) (d) : (dats m I 0 c).before 7 t d = iblk m c 7 t :=
  before0_7_of m (dats m I 0 c) (A_eq m I c 7) (after_7 m I c) t d
theorem before_8 (c : Dev nD) (t : Fin cfg0.N) (d) : (dats m I 0 c).before 8 t d = iblk m c 8 t :=
  before0_8_of m (dats m I 0 c) (A_eq m I c 8) (after_8 m I c) t d
theorem before_9 (c : Dev nD) (t : Fin cfg0.N) (d) : (dats m I 0 c).before 9 t d = iblk m c 9 t :=
  before0_9_of m (dats m I 0 c) (A_eq m I c 9) (after_9 m I c) t d
theorem before_10 (c : Dev nD) (t : Fin cfg0.N) (d) : (dats m I 0 c).before 10 t d = iblk m c 10 t :=
  before0_10_of m (dats m I 0 c) (A_eq m I c 10) (after_10 m I c) t d

theorem flush_12 : ∀ t : Fin cfg0.N, t.val ≠ 31 → win0_12.flush t = false := (by decide +kernel : ∀ t : Fin grid0.N, _)

theorem live_11 : ∀ t : Fin cfg0.N, cfg0.idle 11 (grid0.coords t) = false :=
  (by decide +kernel : ∀ t : Fin grid0.N, cfg0.idle 11 (grid0.coords t) = false)
theorem idle_12 : ∀ t : Fin cfg0.N, cfg0.idle 12 (grid0.coords t) = decide (t.val ≠ 0) :=
  (by decide +kernel : ∀ t : Fin grid0.N, cfg0.idle 12 (grid0.coords t) = decide (t.val ≠ 0))

theorem last_12 : ∀ t : Fin cfg0.N, t.val = 31 → win0_12.flush t = true := (by decide +kernel : ∀ t : Fin grid0.N, _)

/-- After the first point the modulation's buffer holds the modulation. -/
theorem before_12 (c : Dev nD) (d) : ∀ (n : ℕ) (h : n < cfg0.N), n ≠ 0 → (dats m I 0 c).before 12 ⟨n, h⟩ d = modOut I
  | 0, _, h0 => absurd rfl h0
  | k + 1, h, h0 => by
    have hN : k + 1 < 32 := lt_of_lt_of_eq h N_0
    have hf : win0_12.flush ⟨k, Nat.lt_of_succ_lt h⟩ = false := flush_12 _ (by show k ≠ 31; omega)
    have e := (dats m I 0 c).before_of_pos 12 ⟨k + 1, h⟩ h0 rfl d
    refine e.trans ((if_neg (fun h' => Bool.false_ne_true (hf.symm.trans h'))).trans ?_)
    show (dats m I 0 c).left 12 ⟨k, Nat.lt_of_succ_lt h⟩ d = modOut I
    unfold Dat.left
    rw [idle_12 ⟨k, Nat.lt_of_succ_lt h⟩]
    by_cases hk : k = 0
    · rw [decide_eq_false (not_not.mpr hk)]; rfl
    · rw [decide_eq_true hk]; exact before_12 c d k (Nat.lt_of_succ_lt h) hk

/-- The modulation's buffer as the body leaves it. -/
theorem leave_12 (c : Dev nD) (t : Fin cfg0.N) : owns (c : Thread nD τ) (ms0_12 t) fullShare (modOut I) ⊢ ((dats m I 0 c).leavesExact 12 t : sProp 𝕄) := by
  by_cases h0 : t.val = 0
  · rw [show (dats m I 0 c).leavesExact 12 t = owns (c : Thread nD τ) (ms0_12 t) fullShare ((dats m I 0 c).after 12 t) from by
      unfold Dat.leavesExact; rw [idle_12 t, decide_eq_false (not_not.mpr h0)], after_12]
  · have hi := (idle_12 t).trans (decide_eq_true h0)
    by_cases h1 : t.val = 31
    · rw [show (dats m I 0 c).leavesExact 12 t = owns (c : Thread nD τ) (ms0_12 t) fullShare ((dats m I 0 c).after 12 t) from by
        unfold Dat.leavesExact; rw [hi, show (cfg0.win 12).flush t = true from last_12 t h1], after_12]
    · rw [(dats m I 0 c).leavesExact_idle 12 t hi (flush_12 t h1)]
      iintro H
      iexists (modOut I)
      rw [before_12 m I c (modOut I) t.val t.isLt h0]
      iexact H

/-- What the body is called with at point `t`, the windows one by one, -/
def bodyPre (c : Dev nD) (t : Fin cfg0.N) : sProp 𝕄 :=
  iprop((dats m I 0 c).Φ t.castSucc
    ∗ (dats m I 0 c).owesAt () t.castSucc
    ∗ (∃ d, owns (c : Thread nD τ) (ms0_0 t) fullShare ((dats m I 0 c).before 0 t d))
    ∗ (∃ d, owns (c : Thread nD τ) (ms0_1 t) fullShare ((dats m I 0 c).before 1 t d))
    ∗ (∃ d, owns (c : Thread nD τ) (ms0_2 t) fullShare ((dats m I 0 c).before 2 t d))
    ∗ (∃ d, owns (c : Thread nD τ) (ms0_3 t) fullShare ((dats m I 0 c).before 3 t d))
    ∗ (∃ d, owns (c : Thread nD τ) (ms0_4 t) fullShare ((dats m I 0 c).before 4 t d))
    ∗ (∃ d, owns (c : Thread nD τ) (ms0_5 t) fullShare ((dats m I 0 c).before 5 t d))
    ∗ (∃ d, owns (c : Thread nD τ) (ms0_6 t) fullShare ((dats m I 0 c).before 6 t d))
    ∗ (∃ d, owns (c : Thread nD τ) (ms0_7 t) fullShare ((dats m I 0 c).before 7 t d))
    ∗ (∃ d, owns (c : Thread nD τ) (ms0_8 t) fullShare ((dats m I 0 c).before 8 t d))
    ∗ (∃ d, owns (c : Thread nD τ) (ms0_9 t) fullShare ((dats m I 0 c).before 9 t d))
    ∗ (∃ d, owns (c : Thread nD τ) (ms0_10 t) fullShare ((dats m I 0 c).before 10 t d))
    ∗ (∃ d, owns (c : Thread nD τ) (ms0_11 t) fullShare ((dats m I 0 c).before 11 t d))
    ∗ (∃ d, owns (c : Thread nD τ) (ms0_12 t) fullShare ((dats m I 0 c).before 12 t d))
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m I 0 c).Φ t.succ
    ∗ (dats m I 0 c).owesAt () t.succ
    ∗ (dats m I 0 c).leavesExact 0 t
    ∗ (dats m I 0 c).leavesExact 1 t
    ∗ (dats m I 0 c).leavesExact 2 t
    ∗ (dats m I 0 c).leavesExact 3 t
    ∗ (dats m I 0 c).leavesExact 4 t
    ∗ (dats m I 0 c).leavesExact 5 t
    ∗ (dats m I 0 c).leavesExact 6 t
    ∗ (dats m I 0 c).leavesExact 7 t
    ∗ (dats m I 0 c).leavesExact 8 t
    ∗ (dats m I 0 c).leavesExact 9 t
    ∗ (dats m I 0 c).leavesExact 10 t
    ∗ (dats m I 0 c).leavesExact 11 t
    ∗ (dats m I 0 c).leavesExact 12 t
    ∗ (∃ d, owns (c : Thread nD τ) (ms0_13 t) fullShare d)
    ∗ (∃ d, owns (c : Thread nD τ) (ms0_14 t) fullShare d))

set_option maxHeartbeats 24000000 in
/-- The body at any point. -/
theorem sound_body (c : Dev nD) (H : HoldsAt m c I) (t : Fin cfg0.N) :
    bodyPre m I c t ⊢ wp frame (wpE (defs₀ (F := Ideal)) Variants.none c none) Set.univ (bodyAt0 t) (fun _ => bodyPost m I c t) := by
  unfold bodyPre bodyPost
  simp only [before_0, before_1, before_2, before_3, before_4, before_5, before_6, before_7, before_8, before_9, before_10]
  rw [show (dats m I 0 c).Φ t.succ = Phi m I c (t.val + 1) from rfl, show (dats m I 0 c).Φ t.castSucc = Phi m I c t.val from rfl]
  unfold Phi Dat.owesAt Pipeline.owesWithin
  rw [show (dats m I 0 c).owed t.castSucc = 0 from rfl, show (dats m I 0 c).owed t.succ = 0 from rfl]
  rw [show (dats m I 0 c).leavesExact 0 t = owns (c : Thread nD τ) (ms0_0 t) fullShare ((dats m I 0 c).after 0 t) from by
    unfold Dat.leavesExact; rw [liveAt0_0 t], after_0]
  rw [show (dats m I 0 c).leavesExact 1 t = owns (c : Thread nD τ) (ms0_1 t) fullShare ((dats m I 0 c).after 1 t) from by
    unfold Dat.leavesExact; rw [liveAt0_1 t], after_1]
  rw [show (dats m I 0 c).leavesExact 2 t = owns (c : Thread nD τ) (ms0_2 t) fullShare ((dats m I 0 c).after 2 t) from by
    unfold Dat.leavesExact; rw [liveAt0_2 t], after_2]
  rw [show (dats m I 0 c).leavesExact 3 t = owns (c : Thread nD τ) (ms0_3 t) fullShare ((dats m I 0 c).after 3 t) from by
    unfold Dat.leavesExact; rw [liveAt0_3 t], after_3]
  rw [show (dats m I 0 c).leavesExact 4 t = owns (c : Thread nD τ) (ms0_4 t) fullShare ((dats m I 0 c).after 4 t) from by
    unfold Dat.leavesExact; rw [liveAt0_4 t], after_4]
  rw [show (dats m I 0 c).leavesExact 5 t = owns (c : Thread nD τ) (ms0_5 t) fullShare ((dats m I 0 c).after 5 t) from by
    unfold Dat.leavesExact; rw [liveAt0_5 t], after_5]
  rw [show (dats m I 0 c).leavesExact 6 t = owns (c : Thread nD τ) (ms0_6 t) fullShare ((dats m I 0 c).after 6 t) from by
    unfold Dat.leavesExact; rw [liveAt0_6 t], after_6]
  rw [show (dats m I 0 c).leavesExact 7 t = owns (c : Thread nD τ) (ms0_7 t) fullShare ((dats m I 0 c).after 7 t) from by
    unfold Dat.leavesExact; rw [liveAt0_7 t], after_7]
  rw [show (dats m I 0 c).leavesExact 8 t = owns (c : Thread nD τ) (ms0_8 t) fullShare ((dats m I 0 c).after 8 t) from by
    unfold Dat.leavesExact; rw [liveAt0_8 t], after_8]
  rw [show (dats m I 0 c).leavesExact 9 t = owns (c : Thread nD τ) (ms0_9 t) fullShare ((dats m I 0 c).after 9 t) from by
    unfold Dat.leavesExact; rw [liveAt0_9 t], after_9]
  rw [show (dats m I 0 c).leavesExact 10 t = owns (c : Thread nD τ) (ms0_10 t) fullShare ((dats m I 0 c).after 10 t) from by
    unfold Dat.leavesExact; rw [liveAt0_10 t], after_10]
  rw [show (dats m I 0 c).leavesExact 11 t = owns (c : Thread nD τ) (ms0_11 t) fullShare ((dats m I 0 c).after 11 t) from by
    unfold Dat.leavesExact; rw [live_11 t], after_11]
  iintro ⟨⟨⟨%s0, %s1, %s2, %s3, %s4, %s5, %hI, S0, S1, S2, S3, S4, S5, S6⟩, Hg, ⟨Q0, Q1, Q2, Q3⟩, ⟨B0, B1, B2, B3⟩⟩, ⟨%W, -, HW⟩, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, O11⟩, ⟨%d12, O12⟩, O13, O14⟩
  iapply (wp_wand_r _ _ _)
  isplitl [I0 I1 I2 I3 I4 I5 I6 I7 I8 I9 I10 O11 O12 O13 O14 S0 S1 S2 S3 S4 S5 S6 Q0 Q1 Q2 Q3 B0 B1 B2 B3 HW]
  · iapply (core m I c H t _ s0 s1 s2 s3 s4 s5 (before_12 m I c d12 t.val t.isLt) hI W)
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [O11]; · iexists _; iexact O11
    isplitl [O12]; · iexact O12
    isplitl [O13]; · iexact O13
    isplitl [O14]; · iexact O14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [Q0]; · iexact Q0
    isplitl [Q1]; · iexact Q1
    isplitl [Q2]; · iexact Q2
    isplitl [Q3]; · iexact Q3
    isplitl [B0]; · iexact B0
    isplitl [B1]; · iexact B1
    isplitl [B2]; · iexact B2
    isplitl [B3]; · iexact B3
    iexact HW
  iintro %_ ⟨%X13, %X14, %S0, %S1, %S2, %S3, %S4, %S5, %hJ, I0, I1, I2, I3, I4, I5, I6, I7, I8, I9, I10, O11, O12, O13, O14, S0, S1, S2, S3, S4, S5, S6, Q0, Q1, Q2, Q3, B0, B1, B2, B3, ⟨%W', HW⟩⟩
  isplitl [S0 S1 S2 S3 S4 S5 S6 Hg Q0 Q1 Q2 Q3 B0 B1 B2 B3]
  · isplitl [S0 S1 S2 S3 S4 S5 S6]
    · iexists S0; iexists S1; iexists S2; iexists S3; iexists S4; iexists S5
      isplitr; · ipureintro; exact hJ
      isplitl [S0]; · iexact S0
      isplitl [S1]; · iexact S1
      isplitl [S2]; · iexact S2
      isplitl [S3]; · iexact S3
      isplitl [S4]; · iexact S4
      isplitl [S5]; · iexact S5
      iexact S6
    isplitl [Hg]; · iexact Hg
    isplitl [Q0 Q1 Q2 Q3]
    · isplitl [Q0]; · iexact Q0
      isplitl [Q1]; · iexact Q1
      isplitl [Q2]; · iexact Q2
      iexact Q3
    isplitl [B0]; · iexact B0
    isplitl [B1]; · iexact B1
    isplitl [B2]; · iexact B2
    iexact B3
  isplitl [HW]
  · iexists W'; isplitr; · ipureintro; exact fun _ _ => Or.inl trivial
    iexact HW
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [O11]; · iexact O11
  isplitl [O12]; · iapply (leave_12 m I c t); iexact O12
  isplitl [O13]; · iexists _; iexact O13
  iexists _; iexact O14

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) (H : HoldsAt m c I) : BodyObligation (dats m I 0 c) (defs₀ (F := Ideal)) Variants.none () Set.univ forgets := fun t => by
  rw [bigSep_W0, bigSep_W0, defs₀_row]
  exact triple_restated (sound_body m I c H t) rfl .rfl fun _ => .rfl

/-- Before the first point nothing is said of the scratch, -/
theorem phi_in (c : Dev nD) : (Pipeline.ΦD osem0 spec0 H0 (V m) c : sProp 𝕄) ⊢ Phi m I c 0 := by
  rw [PhiD0_eq]
  unfold Phi
  iintro ⟨⟨⟨%s0, S0⟩, ⟨%s1, S1⟩, ⟨%s2, S2⟩, ⟨%s3, S3⟩, ⟨%s4, S4⟩, ⟨%s5, S5⟩, S6⟩, HR⟩
  isplitl [S0 S1 S2 S3 S4 S5 S6]
  · iexists s0; iexists s1; iexists s2; iexists s3; iexists s4; iexists s5
    isplitr; · ipureintro; exact fun h => absurd rfl h
    isplitl [S0]; · iexact S0
    isplitl [S1]; · iexact S1
    isplitl [S2]; · iexact S2
    isplitl [S3]; · iexact S3
    isplitl [S4]; · iexact S4
    isplitl [S5]; · iexact S5
    iexact S6
  iexact HR

/-- and after the last nothing need be. -/
theorem phi_out (c : Dev nD) (n : ℕ) : Phi m I c n ⊢ (Pipeline.ΦD osem0 spec0 H0 (V m) c : sProp 𝕄) := by
  rw [PhiD0_eq]
  unfold Phi
  iintro ⟨⟨%s0, %s1, %s2, %s3, %s4, %s5, -, S0, S1, S2, S3, S4, S5, S6⟩, HR⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexact S6
  iexact HR

set_option backward.isDefEq.respectTransparency.types false in
/-- The launch: every execution ends with the arrays as the pipeline's data has them and every counter at zero. -/
theorem run_main (I : Dev nD → In) (H : ∀ c, HoldsAt m c (I c)) : θ_run defs (onTc (τ := τ) (main (F := Ideal))) (s₀ m ρ)
    (fun r => (Pipeline.RDat.FramePost (cfgs 0) (fun c => (dats m (I c) 0 c).toRForget forgets) (V m)) r ∧ r.2.sem = fun _ => 0) :=
  Pipeline.θ_run_frame_dma_forget (Q' := _) cfgs (fun p c => dats m (I c) p c) (0 : Fin 1) launch0 osem0 defs₀ Variants.none forgets ownSemFacts0 H0 H0_sub m ρ main
    (hbody := fun c => (body_obligation m (I c) c (H c)).loose) (hshare := fun c => (dats m (I c) 0 c).share_full fun _ => rfl)
    (howed := fun _ _ => rfl) (V := V m) (hmain := hmain m Variants.none) (hA := fun c => A_eq m (I c) c) (hin := fun c => phi_in m (I c) c)
    (hout := fun c => phi_out m (I c) c _)

end Cert.Mix
-- ==== Proof.MixMain.lean ====
/- The mixer kernel and the mixer reference leave the same array, on real arguments. -/
module

public import proofs.«01_k».proof.Defs
public import proofs.«01_k».proof.Proof.Finite
public import proofs.«01_k».proof.Proof.MixValF
public import proofs.«01_k».proof.Proof.Gen.Pre_all_real

@[expose] public section

set_option maxRecDepth 16384
set_option maxHeartbeats 2000000

noncomputable section

namespace Cert.Mix

open Idealize.ShloMosaic Idealize.ShloMosaic.TcCoe Idealize.SL.Sem Cert.RealKit

section
open Cert.KernelIdeal Cert.KernelIdeal.Gen

variable (m : (ℓ : Loc nD τ sig) → Buf (Elt Ideal) ℓ) (ρ : Dev nD → PrngReg)

/-- The mixed sequence. -/
def seqOut (I : In) : Vec Ideal S2x8192x1024 .f32 := fun y => (I.out (y 0).val (y 1).val (y 2).val : EReal)

theorem index11 : ∀ t : Fin cfg0.N, win0_11.index t 0 = t.val / 16 ∧ win0_11.index t 1 = t.val % 16 ∧ win0_11.index t 2 = 0 :=
  (by decide +kernel : ∀ t : Fin grid0.N, _)

/-- The tiles' rows together are the sequence. -/
theorem arr (I : In) (c : Dev nD) : (dats m I 0 c).arrAt 11 cfg0.N = seqOut I := by
  refine (dats m I 0 c).arrAt_eq_of_covers 11 (seqOut I) (by decide +kernel) fun t hf y => ?_
  rw [after_11]
  blk_simp [index11 t]
  have hN : t.val < 32 := point_lt t
  obtain ⟨i0, i1, i2⟩ := index11 t
  have y0 : (y 0).val < 1 := (y 0).isLt
  have e0 : ((win0_11.blk t).view.emb y 0).val = t.val / 16 := by
    have : ((win0_11.blk t).view.emb y 0).val = win0_11.index t 0 * 1 + (y 0).val := by
      show win0_11.index t 0 * _ + 1 * (y 0).val = _
      rw [one_mul]; rfl
    omega
  have e1 : ((win0_11.blk t).view.emb y 1).val = 512 * (t.val % 16) + (y 1).val := by
    have : ((win0_11.blk t).view.emb y 1).val = win0_11.index t 1 * 512 + (y 1).val := by
      show win0_11.index t 1 * _ + 1 * (y 1).val = _
      rw [one_mul]; rfl
    omega
  have e2 : ((win0_11.blk t).view.emb y 2).val = (y 2).val := by
    have : ((win0_11.blk t).view.emb y 2).val = win0_11.index t 2 * 1024 + (y 2).val := by
      show win0_11.index t 2 * _ + 1 * (y 2).val = _
      rw [one_mul]; rfl
    omega
  unfold rowsOut seqOut
  rw [e0, e1, e2]

/-- Every run leaves the sequence, and the arguments as they were. -/
theorem run (I : Dev nD → In) (H : ∀ c, HoldsAt m c (I c)) : θ_run defs (onTc (τ := τ) (main (F := Ideal))) ⟨m, fun _ => 0, ρ⟩ (fun r => ∀ c : Dev nD,
      r.2.mem ((c.tc : Thread nD τ).loc main_v17_0) = seqOut (I c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  have h := (θ_run defs _ _).mono (fun _ h => h.1) (run_main m ρ I H)
  refine (θ_run defs _ _).mono (fun r h c => ⟨?_, h.2 c⟩) (θ_run_and h (frame_of m ρ (fun c => (dats m (I c) 0 c).toRForget forgets) (fun c => A_eq m (I c) c) h))
  exact (((dats m (I c) 0 c).toRForget_arrAt_iff rfl _ _).mp ((h.1 c).1 11)).trans (arr m (I c) c)
end

/-- The real entry of an array of four axes, the first of one, at natural numbers, zero outside it. -/
def nat4 {a b c : ℕ} (X : Shape.Idx ⟨4, ![1, a, b, c]⟩ → EReal) (i j k : ℕ) : ℝ :=
  if h : i < a ∧ j < b ∧ k < c then (X (ix4 0 ⟨i, h.1⟩ ⟨j, h.2.1⟩ ⟨k, h.2.2⟩)).toReal else 0

theorem nat4_eq {a b c : ℕ} {X : Shape.Idx ⟨4, ![1, a, b, c]⟩ → EReal} (h : AllReal X) (i : Fin a) (j : Fin b) (k : Fin c) :
    X (ix4 0 i j k) = (nat4 X i.val j.val k.val : EReal) := by
  unfold nat4
  rw [dif_pos ⟨i.isLt, j.isLt, k.isLt⟩]
  exact toReal_of (h _)

/-- The real arrays that the arguments hold. -/
def ofArrays (x0 : FVec Ideal KernelIdeal.S2x8192x1024 .f32) (x1 : FVec Ideal KernelIdeal.S2x1024 .f32) (x2 x3 : FVec Ideal KernelIdeal.S1x1024 .f32)
    (x4 : FVec Ideal KernelIdeal.S1x1024x6144 .f32) (x5 : FVec Ideal KernelIdeal.S1x6144 .f32) (x6 : FVec Ideal KernelIdeal.S1x1024x6144 .f32)
    (x7 : FVec Ideal KernelIdeal.S1x4x256x256 .f32) (x8 : FVec Ideal KernelIdeal.S1x1024 .f32) (x9 : FVec Ideal KernelIdeal.S1x3x1024 .f32)
    (x10 : FVec Ideal KernelIdeal.S1x1024 .f32) (x11 x12 : FVec Ideal KernelIdeal.S1x1024x1024 .f32) : In where
  x := nat3 x0
  c := nat2 x1
  gpre d := nat2 x2 0 d
  gpost d := nat2 x3 0 d
  wada d n := nat3 x4 0 d n
  bada n := nat2 x5 0 n
  w d n := nat3 x6 0 d n
  wp := nat4 x7
  psc n := nat2 x8 0 n
  cw k d := nat3 x9 0 k d
  cb d := nat2 x10 0 d
  wb d n := nat3 x11 0 d n
  wo d n := nat3 x12 0 d n

/-- Arguments the test accepts hold real arrays. -/
theorem holds_of_pre {x0 x1 x2 x3 x4 x5 x6 x7 x8 x9 x10 x11 x12 x13 x14} (h : Cert.Pre_all_real.fn (F := Ideal) x0 x1 x2 x3 x4 x5 x6 x7 x8 x9 x10 x11 x12 x13 x14 = fun _ => 1#1) :
    Holds (ofArrays x0 x1 x2 x3 x4 x5 x6 x7 x8 x9 x10 x11 x12) x0 x1 x2 x3 x4 x5 x6 x7 x8 x9 x10 x11 x12 := by
  haveI : Subsingleton Cert.Pre_all_real.S_.Idx := ⟨fun a b => funext fun k => k.elim0⟩
  have e := congrFun h (fun k => k.elim0)
  dsimp only [Cert.Pre_all_real.fn, Cert.Pre_all_real.fn_part1, Cert.Pre_all_real.fn_part2, Cert.Pre_all_real.fn_part3] at e
  obtain ⟨e, r12⟩ := IntOp.andi_eq_one.1 e
  obtain ⟨e, r11⟩ := IntOp.andi_eq_one.1 e
  obtain ⟨e, r10⟩ := IntOp.andi_eq_one.1 e
  obtain ⟨e, r9⟩ := IntOp.andi_eq_one.1 e
  obtain ⟨e, r8⟩ := IntOp.andi_eq_one.1 e
  obtain ⟨e, r7⟩ := IntOp.andi_eq_one.1 e
  obtain ⟨e, r6⟩ := IntOp.andi_eq_one.1 e
  obtain ⟨e, r5⟩ := IntOp.andi_eq_one.1 e
  obtain ⟨e, r4⟩ := IntOp.andi_eq_one.1 e
  obtain ⟨e, r3⟩ := IntOp.andi_eq_one.1 e
  obtain ⟨e, r2⟩ := IntOp.andi_eq_one.1 e
  obtain ⟨r0, r1⟩ := IntOp.andi_eq_one.1 e
  exact ⟨nat3_eq (real_of_all _ _ _ _ _ _ _ r0),
    nat2_eq (real_of_all _ _ _ _ _ _ _ r1),
    nat2_eq (real_of_all _ _ _ _ _ _ _ r2) 0,
    nat2_eq (real_of_all _ _ _ _ _ _ _ r3) 0,
    nat3_eq (real_of_all _ _ _ _ _ _ _ r4) 0,
    nat2_eq (real_of_all _ _ _ _ _ _ _ r5) 0,
    nat3_eq (real_of_all _ _ _ _ _ _ _ r6) 0,
    nat4_eq (real_of_all _ _ _ _ _ _ _ r7),
    nat2_eq (real_of_all _ _ _ _ _ _ _ r8) 0,
    nat3_eq (real_of_all _ _ _ _ _ _ _ r9) 0,
    nat2_eq (real_of_all _ _ _ _ _ _ _ r10) 0,
    nat3_eq (real_of_all _ _ _ _ _ _ _ r11) 0,
    nat3_eq (real_of_all _ _ _ _ _ _ _ r12) 0⟩

/-- Arguments equal to ones that hold `I`'s arrays hold them. -/
theorem Holds.of_eq {I : In} {x0 x1 x2 x3 x4 x5 x6 x7 x8 x9 x10 x11 x12 y0 y1 y2 y3 y4 y5 y6 y7 y8 y9 y10 y11 y12} (H : Holds I x0 x1 x2 x3 x4 x5 x6 x7 x8 x9 x10 x11 x12) (a0 : y0 = x0) (a1 : y1 = x1) (a2 : y2 = x2) (a3 : y3 = x3) (a4 : y4 = x4) (a5 : y5 = x5) (a6 : y6 = x6) (a7 : y7 = x7) (a8 : y8 = x8) (a9 : y9 = x9) (a10 : y10 = x10) (a11 : y11 = x11) (a12 : y12 = x12) : Holds I y0 y1 y2 y3 y4 y5 y6 y7 y8 y9 y10 y11 y12 := by
  subst a0 a1 a2 a3 a4 a5 a6 a7 a8 a9 a10 a11 a12; exact H

/-- Equal results on real arguments. -/
theorem algebraic : Cert.algebraic_KernelIdeal_ReferenceIdeal_pre_all_real (hKernelIdeal := Cert.KernelIdeal.Gen.facts)
    (hReferenceIdeal := Cert.ReferenceIdeal.Gen.facts) (hPre_all_real := Cert.Pre_all_real.Gen.facts) := by
  intro m g m' g' hpre hargs
  have H := fun c => holds_of_pre (hpre c)
  refine ⟨fun c => _, run m g _ H, ?_⟩
  refine (θ_run Cert.ReferenceIdeal.defs _ _).mono (fun r h c => ⟨?_, (h c).2⟩) (Cert.ReferenceIdeal.Value.run m' g')
  obtain ⟨a0, a1, a2, a3, a4, a5, a6, a7, a8, a9, a10, a11, a12, -, -⟩ := hargs c
  refine (h c).1.trans ((Cert.ReferenceIdeal.Read.val_main_v173_eq (StableHlo.launchContents m' c)).trans ?_)
  funext i
  rw [← ix3_eta i]
  exact ref_out _ ((H c).of_eq a0 a1 a2 a3 a4 a5 a6 a7 a8 a9 a10 a11 a12) (i 0) (i 1) (i 2)

end Cert.Mix
-- ==== Proof.lean ====
module

public import proofs.«01_k».proof.Defs
public import proofs.«01_k».proof.Proof.Frames
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_all_real
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_all_real2
public import proofs.«01_k».proof.Proof.Gen.Kernel2Ideal.Value
public import proofs.«01_k».proof.Proof.FfnMain
public import proofs.«01_k».proof.Proof.MixMain
public import Idealize.ShloMosaic.Lib.Quiescent

@[expose] public section

set_option maxRecDepth 16384

noncomputable section

namespace Cert.Proof

open Idealize.ShloMosaic Idealize.SL.Sem

/-- The mixer's reference runs and leaves its arguments as they were. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems rfl r.2⟩) (Cert.ReferenceIdeal.Value.run m ρ)

/-- The feed-forward part's reference runs and leaves its arguments as they were. -/
theorem reference2_frame : Cert.quiescent_Reference2Ideal (hReference2Ideal := Cert.Reference2Ideal.Gen.facts) := fun m ρ _ =>
  (θ_run Cert.Reference2Ideal.defs _ _).mono
    (fun r h => ⟨fun c => (h c).2, sem_eq_zero_of_no_sems rfl r.2⟩) (Cert.Reference2Ideal.Value.run m ρ)

/-- The named constant is the product of the two words of the gelu's constants. -/
theorem gelu_constant : Cert.preserves_Kernel2_Kernel2Ideal :=
  IdealRules.named_const.statement Cert.Kernel2Ideal.κ "gelu_ka" .f32 0x3D122279#32
    ((80338380498831 / 2251799813685248 : ℝ) : EReal) rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_all_real.Gen.facts, Cert.Pre_all_real2.Gen.facts,
    mixer_frame, fun m ρ _ => Cert.KernelIdeal.Mix.frame m ρ, fun m ρ _ => Cert.KernelIdeal.Mix.frame m ρ,
    reference_frame, fun m ρ _ => reference_frame m ρ trivial,
    fun m ρ _ => Cert.Kernel2.Gen.frame m ρ, fun m ρ _ => Cert.Kernel2Ideal.Gen.frame m ρ,
    fun m ρ _ => Cert.Kernel2Ideal.Gen.frame m ρ, reference2_frame, fun m ρ _ => reference2_frame m ρ trivial,
    trivial, gelu_constant, Cert.Ffn.algebraic, Cert.Mix.algebraic⟩

end Cert.Proof

end
